-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v1) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_v16) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v28_0)) (v1 : (c : Dev Cert.Kernel4Ideal.nD) → Buf (Elt Ideal) ((c.tc : Thread Cert.Kernel4Ideal.nD Cert.Kernel4Ideal.τ).loc Cert.Kernel4Ideal.main_v28_1)) (v2 : (c : Dev Cert.Kernel4Ideal.nD) → Buf (Elt Ideal) ((c.tc : Thread Cert.Kernel4Ideal.nD Cert.Kernel4Ideal.τ).loc Cert.Kernel4Ideal.main_v28_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v28_0) = v0 c
          ∧ r.2.mem ((c.tc : Thread Cert.Kernel4Ideal.nD Cert.Kernel4Ideal.τ).loc Cert.Kernel4Ideal.main_v28_1) = v1 c
          ∧ r.2.mem ((c.tc : Thread Cert.Kernel4Ideal.nD Cert.Kernel4Ideal.τ).loc Cert.Kernel4Ideal.main_v28_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v66) = v0 c
          ∧ r.2.mem ((c.tc : Thread Cert.Reference4Ideal.nD Cert.Reference4Ideal.τ).loc Cert.Reference4Ideal.main_v68) = v1 c
          ∧ r.2.mem ((c.tc : Thread Cert.Reference4Ideal.nD Cert.Reference4Ideal.τ).loc Cert.Reference4Ideal.main_v70) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite.lean ====
abbrev S2x1024x1024 : Shape := ⟨3, ![2, 1024, 1024]⟩
abbrev S1024x17408 : Shape := ⟨2, ![1024, 17408]⟩
abbrev S_ : Shape := ⟨0, ![]⟩

class Facts : Prop where
  bitsLt_bf16_f32 : FTy.bits .bf16 < FTy.bits .f32
  bcast_S_S2x1024x1024 : S_.BroadcastsInDim S2x1024x1024 (![] : Fin 0 → Fin S2x1024x1024.rank)
  reducesTo_S2x1024x1024_S_d0_1_2 : S2x1024x1024.ReducesTo [0, 1, 2] S_
  h_S_ : 0 < S_.numel
  bcast_S_S1024x17408 : S_.BroadcastsInDim S1024x17408 (![] : Fin 0 → Fin S1024x17408.rank)
  reducesTo_S1024x17408_S_d0_1 : S1024x17408.ReducesTo [0, 1] S_

variable [Facts]

def fn {F : FTy → Type} [FloatOps F] (main_arg0 : FVec F S2x1024x1024 .bf16) (main_arg1 : FVec F S2x1024x1024 .f32) (main_arg2 : FVec F S1024x17408 .f32) : IVec S_ 1 :=
  let main_v0 : FVec F S2x1024x1024 .f32 := (extf .f32 · bitsLt_bf16_f32) main_arg0
  let main_v1 : FVec F S2x1024x1024 .f32 := Host.absf main_v0
  let main_cst : FVec F S_ .f32 := constant S_ .f32 0x7F800000#32
  let main_v2 : FVec F S2x1024x1024 .f32 := broadcastInDim S2x1024x1024 ![] bcast_S_S2x1024x1024 main_cst
  let main_v3 : IVec S2x1024x1024 1 := cmpf .olt main_v1 main_v2
  let main_c : IVec S_ 1 := constantI S_ 1 1#1
  let main_v4 : IVec S_ 1 := (fun x v => Host.reduce IntOp.andi x v reducesTo_S2x1024x1024_S_d0_1_2 h_S_) main_v3 main_c
  let main_v5 : FVec F S1024x17408 .f32 := Host.absf main_arg2
  let main_cst_0 : FVec F S_ .f32 := constant S_ .f32 0x7F800000#32
  let main_v6 : FVec F S1024x17408 .f32 := broadcastInDim S1024x17408 ![] bcast_S_S1024x17408 main_cst_0
  let main_v7 : IVec S1024x17408 1 := cmpf .olt main_v5 main_v6
  let main_c_1 : IVec S_ 1 := constantI S_ 1 1#1
  let main_v8 : IVec S_ 1 := (fun x v => Host.reduce IntOp.andi x v reducesTo_S1024x17408_S_d0_1 h_S_) main_v7 main_c_1
  let main_v9 : IVec S_ 1 := andi main_v4 main_v8
  main_v9
-- ==== Pre_finite5.lean ====
abbrev S2x1024x1024 : Shape := ⟨3, ![2, 1024, 1024]⟩
abbrev S_ : Shape := ⟨0, ![]⟩

class Facts : Prop where
  bitsLt_bf16_f32 : FTy.bits .bf16 < FTy.bits .f32
  bcast_S_S2x1024x1024 : S_.BroadcastsInDim S2x1024x1024 (![] : Fin 0 → Fin S2x1024x1024.rank)
  reducesTo_S2x1024x1024_S_d0_1_2 : S2x1024x1024.ReducesTo [0, 1, 2] S_
  h_S_ : 0 < S_.numel

variable [Facts]

def fn {F : FTy → Type} [FloatOps F] (main_arg0 : FVec F S2x1024x1024 .bf16) (main_arg1 : FVec F S2x1024x1024 .bf16) (main_arg2 : FVec F S2x1024x1024 .bf16) : IVec S_ 1 :=
  let main_v0 : FVec F S2x1024x1024 .f32 := (extf .f32 · bitsLt_bf16_f32) main_arg0
  let main_v1 : FVec F S2x1024x1024 .f32 := Host.absf main_v0
  let main_cst : FVec F S_ .f32 := constant S_ .f32 0x7F800000#32
  let main_v2 : FVec F S2x1024x1024 .f32 := broadcastInDim S2x1024x1024 ![] bcast_S_S2x1024x1024 main_cst
  let main_v3 : IVec S2x1024x1024 1 := cmpf .olt main_v1 main_v2
  let main_c : IVec S_ 1 := constantI S_ 1 1#1
  let main_v4 : IVec S_ 1 := (fun x v => Host.reduce IntOp.andi x v reducesTo_S2x1024x1024_S_d0_1_2 h_S_) main_v3 main_c
  let main_v5 : FVec F S2x1024x1024 .f32 := (extf .f32 · bitsLt_bf16_f32) main_arg1
  let main_v6 : FVec F S2x1024x1024 .f32 := Host.absf main_v5
  let main_cst_0 : FVec F S_ .f32 := constant S_ .f32 0x7F800000#32
  let main_v7 : FVec F S2x1024x1024 .f32 := broadcastInDim S2x1024x1024 ![] bcast_S_S2x1024x1024 main_cst_0
  let main_v8 : IVec S2x1024x1024 1 := cmpf .olt main_v6 main_v7
  let main_c_1 : IVec S_ 1 := constantI S_ 1 1#1
  let main_v9 : IVec S_ 1 := (fun x v => Host.reduce IntOp.andi x v reducesTo_S2x1024x1024_S_d0_1_2 h_S_) main_v8 main_c_1
  let main_v10 : IVec S_ 1 := andi main_v4 main_v9
  main_v10
-- ==== Kernel.lean ====
abbrev S2x1024x1024 : Shape := ⟨3, ![2, 1024, 1024]⟩
abbrev S1024x17408 : Shape := ⟨2, ![1024, 17408]⟩
abbrev S1024x2x32x16x17 : Shape := ⟨5, ![1024, 2, 32, 16, 17]⟩
abbrev S2x1024x17x32x16 : Shape := ⟨5, ![2, 1024, 17, 32, 16]⟩
abbrev S2x1024x8704 : Shape := ⟨3, ![2, 1024, 8704]⟩
abbrev S2x128x1024 : Shape := ⟨3, ![2, 128, 1024]⟩
abbrev S2x128x512 : Shape := ⟨3, ![2, 128, 512]⟩
abbrev S1x1024x8704 : Shape := ⟨3, ![1, 1024, 8704]⟩
abbrev S128x16x1024 : Shape := ⟨3, ![128, 16, 1024]⟩
abbrev S16x8x1024 : Shape := ⟨3, ![16, 8, 1024]⟩
abbrev S16x1024 : Shape := ⟨2, ![16, 1024]⟩
abbrev S1x128x1024 : Shape := ⟨3, ![1, 128, 1024]⟩
abbrev S128x1024 : Shape := ⟨2, ![128, 1024]⟩
abbrev S256x1024 : Shape := ⟨2, ![256, 1024]⟩
abbrev S1x128x512 : Shape := ⟨3, ![1, 128, 512]⟩
abbrev S128x512 : Shape := ⟨2, ![128, 512]⟩
abbrev S1x1024x2048 : Shape := ⟨3, ![1, 1024, 2048]⟩
abbrev S1024x2048 : Shape := ⟨2, ![1024, 2048]⟩
abbrev S256x2048 : Shape := ⟨2, ![256, 2048]⟩
abbrev S256x512 : Shape := ⟨2, ![256, 512]⟩
abbrev S1x1024x512 : Shape := ⟨3, ![1, 1024, 512]⟩
abbrev S1024x512 : Shape := ⟨2, ![1024, 512]⟩
abbrev S128x1x1024 : Shape := ⟨3, ![128, 1, 1024]⟩
abbrev S16x128 : Shape := ⟨2, ![16, 128]⟩
abbrev S4x8x1024 : Shape := ⟨3, ![4, 8, 1024]⟩
abbrev S32x1024 : Shape := ⟨2, ![32, 1024]⟩
abbrev S1x16x1024 : Shape := ⟨3, ![1, 16, 1024]⟩
abbrev S1x1024 : Shape := ⟨2, ![1, 1024]⟩
abbrev S128 : Shape := ⟨1, ![128]⟩
abbrev S1x128 : Shape := ⟨2, ![1, 128]⟩
abbrev S16x128x1 : Shape := ⟨3, ![16, 128, 1]⟩
abbrev S32x128 : Shape := ⟨2, ![32, 128]⟩
abbrev S32x512 : Shape := ⟨2, ![32, 512]⟩
abbrev S1x32x512 : Shape := ⟨3, ![1, 32, 512]⟩

abbrev nBuf : Space → Nat
  | .hbm => 8
  | .vmem => 11
  | .smem => 0
  | _ => 0

abbrev bufTy : (tb : Table) → Fin (tcTables nBuf tb) → BufTy
  | .hbm, ⟨0, _⟩ => ⟨S2x1024x1024, .bf16⟩
  | .hbm, ⟨1, _⟩ => ⟨S2x1024x1024, .f32⟩
  | .hbm, ⟨2, _⟩ => ⟨S1024x17408, .f32⟩
  | .hbm, ⟨3, _⟩ => ⟨S1024x17408, .bf16⟩
  | .hbm, ⟨4, _⟩ => ⟨S1024x2x32x16x17, .bf16⟩
  | .hbm, ⟨5, _⟩ => ⟨S2x1024x17x32x16, .bf16⟩
  | .hbm, ⟨6, _⟩ => ⟨S2x1024x8704, .bf16⟩
  | .hbm, ⟨7, _⟩ => ⟨S2x1024x1024, .f32⟩
  | .local _ .vmem, ⟨0, _⟩ => ⟨S2x128x1024, .bf16⟩
  | .local _ .vmem, ⟨1, _⟩ => ⟨S2x128x1024, .bf16⟩
  | .local _ .vmem, ⟨2, _⟩ => ⟨S2x128x512, .f32⟩
  | .local _ .vmem, ⟨3, _⟩ => ⟨S2x128x512, .f32⟩
  | .local _ .vmem, ⟨4, _⟩ => ⟨S1x1024x8704, .bf16⟩
  | .local _ .vmem, ⟨5, _⟩ => ⟨S1x1024x8704, .bf16⟩
  | .local _ .vmem, ⟨6, _⟩ => ⟨S2x128x512, .f32⟩
  | .local _ .vmem, ⟨7, _⟩ => ⟨S2x128x512, .f32⟩
  | .local _ .vmem, ⟨8, _⟩ => ⟨S128x16x1024, .f32⟩
  | .local _ .vmem, ⟨9, _⟩ => ⟨S16x8x1024, .f32⟩
  | .local _ .vmem, ⟨10, _⟩ => ⟨S16x1024, .f32⟩
  | _, _ => ⟨S2x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_79 : BitVec 32 := 0#32
  let c4_i32 : BitVec 32 := 4#32
  let v237 : BitVec 32 := Scalar.addi c0_i32_79 c4_i32
  let c1_i32_80 : BitVec 32 := 1#32
  ⟨c0_i32_79, v237, c1_i32_80⟩
def k0_off1 (k0_t1 : Fin k0_t1_loop.trips) : Fin 3 → Nat :=
  let c0_i32_79 : BitVec 32 := 0#32
  let c1_i32_80 : BitVec 32 := 1#32
  let arg9 : BitVec 32 := Scf.iv c0_i32_79 c1_i32_80 k0_t1
  let c4_i32_84 : BitVec 32 := 4#32
  let v243 : BitVec 32 := Scalar.muli arg9 c4_i32_84
  let v244 : Index := Scalar.indexCast v243
  let c0_85 : Index := 0#32
  let c0_86 : Index := 0#32
  ![v244.toNat, 0, 0]
def k0_off2 (k0_t1 : Fin k0_t1_loop.trips) (c0_i32_87 : BitVec 32) : Fin 3 → Nat :=
  let c0_i32_79 : BitVec 32 := 0#32
  let c1_i32_80 : BitVec 32 := 1#32
  let arg9 : BitVec 32 := Scf.iv c0_i32_79 c1_i32_80 k0_t1
  let c32_i32 : BitVec 32 := 32#32
  let v247 : BitVec 32 := Scalar.muli arg9 c32_i32
  let v248 : BitVec 32 := Scalar.addi v247 c0_i32_87
  let v249 : Index := Scalar.indexCast v248
  let c0_88 : Index := 0#32
  let c0_89 : Index := 0#32
  ![v249.toNat, 0, 0]
def k0_off3 (k0_t1 : Fin k0_t1_loop.trips) : Fin 3 → Nat :=
  let c0_954 : Index := 0#32
  let c0_i32_79 : BitVec 32 := 0#32
  let c1_i32_80 : BitVec 32 := 1#32
  let arg9 : BitVec 32 := Scf.iv c0_i32_79 c1_i32_80 k0_t1
  let c32_i32_953 : BitVec 32 := 32#32
  let v4535 : BitVec 32 := Scalar.muli arg9 c32_i32_953
  let v4546 : Index := Scalar.indexCast v4535
  let c0_955 : Index := 0#32
  ![0, v4546.toNat, 0]
def k0_off4 (k0_t1 : Fin k0_t1_loop.trips) : Fin 3 → Nat :=
  let c1_956 : Index := 1#32
  let c0_i32_79 : BitVec 32 := 0#32
  let c1_i32_80 : BitVec 32 := 1#32
  let arg9 : BitVec 32 := Scf.iv c0_i32_79 c1_i32_80 k0_t1
  let c32_i32_953 : BitVec 32 := 32#32
  let v4535 : BitVec 32 := Scalar.muli arg9 c32_i32_953
  let v4551 : Index := Scalar.indexCast v4535
  let c0_957 : Index := 0#32
  ![1, v4551.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S2x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x8704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S2x1024x1024 : Shape := ⟨3, ![2, 1024, 1024]⟩
abbrev S1024x17408 : Shape := ⟨2, ![1024, 17408]⟩
abbrev S2x1024x64x16 : Shape := ⟨4, ![2, 1024, 64, 16]⟩
abbrev S2x1024x17408 : Shape := ⟨3, ![2, 1024, 17408]⟩
abbrev S2x1024x64x16x17 : Shape := ⟨5, ![2, 1024, 64, 16, 17]⟩
abbrev S_ : Shape := ⟨0, ![]⟩
abbrev S2x1024x64x16x1 : Shape := ⟨5, ![2, 1024, 64, 16, 1]⟩
abbrev S2x1024x64x16x16 : Shape := ⟨5, ![2, 1024, 64, 16, 16]⟩
abbrev S2x64x16 : Shape := ⟨3, ![2, 64, 16]⟩
abbrev S1024x2x64x16x16 : Shape := ⟨5, ![1024, 2, 64, 16, 16]⟩
abbrev S1024x2x64x16 : Shape := ⟨4, ![1024, 2, 64, 16]⟩
abbrev S1x2x64x16x16 : Shape := ⟨5, ![1, 2, 64, 16, 16]⟩
abbrev S2x64x16x16 : Shape := ⟨4, ![2, 64, 16, 16]⟩
abbrev S1x2x64x16 : Shape := ⟨4, ![1, 2, 64, 16]⟩

abbrev nBuf : Space → Nat
  | .hbm => 68
  | .vmem => 0
  | .smem => 0
  | _ => 0

abbrev bufTy : (tb : Table) → Fin (tcTables nBuf tb) → BufTy
  | .hbm, ⟨0, _⟩ => ⟨S2x1024x1024, .bf16⟩
  | .hbm, ⟨1, _⟩ => ⟨S2x1024x1024, .f32⟩
  | .hbm, ⟨2, _⟩ => ⟨S1024x17408, .f32⟩
  | .hbm, ⟨3, _⟩ => ⟨S2x1024x1024, .f32⟩
  | .hbm, ⟨4, _⟩ => ⟨S2x1024x64x16, .f32⟩
  | .hbm, ⟨5, _⟩ => ⟨S2x1024x17408, .f32⟩
  | .hbm, ⟨6, _⟩ => ⟨S2x1024x64x16x17, .f32⟩
  | .hbm, ⟨7, _⟩ => ⟨S_, .f32⟩
  | .hbm, ⟨8, _⟩ => ⟨S2x1024x64x16, .f32⟩
  | .hbm, ⟨9, _⟩ => ⟨S_, .f32⟩
  | .hbm, ⟨10, _⟩ => ⟨S2x1024x64x16, .f32⟩
  | .hbm, ⟨11, _⟩ => ⟨S2x1024x64x16, .f32⟩
  | .hbm, ⟨12, _⟩ => ⟨S2x1024x64x16x1, .f32⟩
  | .hbm, ⟨13, _⟩ => ⟨S2x1024x64x16x17, .f32⟩
  | .hbm, ⟨14, _⟩ => ⟨S2x1024x64x16x17, .f32⟩
  | .hbm, ⟨15, _⟩ => ⟨S2x1024x64x16x17, .f32⟩
  | .hbm, ⟨16, _⟩ => ⟨S_, .f32⟩
  | .hbm, ⟨17, _⟩ => ⟨S2x1024x64x16, .f32⟩
  | .hbm, ⟨18, _⟩ => ⟨S2x1024x64x16x1, .f32⟩
  | .hbm, ⟨19, _⟩ => ⟨S2x1024x64x16x17, .f32⟩
  | .hbm, ⟨20, _⟩ => ⟨S2x1024x64x16x17, .f32⟩
  | .hbm, ⟨21, _⟩ => ⟨S2x1024x64x16x1, .f32⟩
  | .hbm, ⟨22, _⟩ => ⟨S2x1024x64x16, .f32⟩
  | .hbm, ⟨23, _⟩ => ⟨S2x1024x64x16x16, .f32⟩
  | .hbm, ⟨24, _⟩ => ⟨S_, .f32⟩
  | .hbm, ⟨25, _⟩ => ⟨S2x64x16, .f32⟩
  | .hbm, ⟨26, _⟩ => ⟨S1024x2x64x16x16, .f32⟩
  | .hbm, ⟨27, _⟩ => ⟨S1024x2x64x16, .f32⟩
  | .hbm, ⟨28, _⟩ => ⟨S1024x2x64x16, .f32⟩
  | .hbm, ⟨29, _⟩ => ⟨S_, .f32⟩
  | .hbm, ⟨30, _⟩ => ⟨S1024x2x64x16, .f32⟩
  | .hbm, ⟨31, _⟩ => ⟨S_, .i32⟩
  | .hbm, ⟨32, _⟩ => ⟨S1024x2x64x16x16, .f32⟩
  | .hbm, ⟨33, _⟩ => ⟨S1024x2x64x16, .f32⟩
  | .hbm, ⟨34, _⟩ => ⟨S1024x2x64x16, .f32⟩
  | .hbm, ⟨35, _⟩ => ⟨S_, .i32⟩
  | .hbm, ⟨36, _⟩ => ⟨S2x64x16, .f32⟩
  | .hbm, ⟨37, _⟩ => ⟨S1024x2x64x16, .f32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S1x2x64x16x16, .f32⟩
  | .hbm, ⟨45, _⟩ => ⟨S2x64x16x16, .f32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S1x2x64x16, .f32⟩
  | .hbm, ⟨50, _⟩ => ⟨S2x64x16, .f32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S1x2x64x16, .f32⟩
  | .hbm, ⟨55, _⟩ => ⟨S2x64x16, .f32⟩
  | .hbm, ⟨56, _⟩ => ⟨S2x64x16, .f32⟩
  | .hbm, ⟨57, _⟩ => ⟨S2x64x16, .f32⟩
  | .hbm, ⟨58, _⟩ => ⟨S2x64x16, .f32⟩
  | .hbm, ⟨59, _⟩ => ⟨S1x2x64x16, .f32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S1024x2x64x16, .f32⟩
  | .hbm, ⟨64, _⟩ => ⟨S_, .i32⟩
  | .hbm, ⟨65, _⟩ => ⟨S_, .i32⟩
  | .hbm, ⟨66, _⟩ => ⟨S2x1024x64x16, .f32⟩
  | .hbm, ⟨67, _⟩ => ⟨S2x1024x1024, .f32⟩
  | _, _ => ⟨S2x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_c : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v23_3 : Ref sig .tc := ⟨.hbm, 35, rfl⟩
abbrev main_v23_4 : Ref sig .tc := ⟨.hbm, 36, rfl⟩
abbrev main_v23_5 : Ref sig .tc := ⟨.hbm, 37, rfl⟩
abbrev main_while0c_c_9 : Ref sig .tc := ⟨.hbm, 38, rfl⟩
abbrev main_while0c_v26 : Ref sig .tc := ⟨.hbm, 39, rfl⟩
abbrev main_while0b_call0_c : Ref sig .tc := ⟨.hbm, 40, rfl⟩
abbrev main_while0b_call0_c_0 : Ref sig .tc := ⟨.hbm, 41, rfl⟩
abbrev main_while0b_call0_c_1 : Ref sig .tc := ⟨.hbm, 42, rfl⟩
abbrev main_while0b_call0_c_2 : Ref sig .tc := ⟨.hbm, 43, rfl⟩
abbrev main_while0b_call0_v0 : Ref sig .tc := ⟨.hbm, 44, rfl⟩
abbrev main_while0b_v26 : Ref sig .tc := ⟨.hbm, 45, rfl⟩
abbrev main_while0b_call1_c : Ref sig .tc := ⟨.hbm, 46, rfl⟩
abbrev main_while0b_call1_c_0 : Ref sig .tc := ⟨.hbm, 47, rfl⟩
abbrev main_while0b_call1_c_1 : Ref sig .tc := ⟨.hbm, 48, rfl⟩
abbrev main_while0b_call1_v0 : Ref sig .tc := ⟨.hbm, 49, rfl⟩
abbrev main_while0b_v27 : Ref sig .tc := ⟨.hbm, 50, rfl⟩
abbrev main_while0b_call2_c : Ref sig .tc := ⟨.hbm, 51, rfl⟩
abbrev main_while0b_call2_c_0 : Ref sig .tc := ⟨.hbm, 52, rfl⟩
abbrev main_while0b_call2_c_1 : Ref sig .tc := ⟨.hbm, 53, rfl⟩
abbrev main_while0b_call2_v0 : Ref sig .tc := ⟨.hbm, 54, rfl⟩
abbrev main_while0b_v28 : Ref sig .tc := ⟨.hbm, 55, rfl⟩
abbrev main_while0b_v29 : Ref sig .tc := ⟨.hbm, 56, rfl⟩
abbrev main_while0b_v30 : Ref sig .tc := ⟨.hbm, 57, rfl⟩
abbrev main_while0b_v31 : Ref sig .tc := ⟨.hbm, 58, rfl⟩
abbrev main_while0b_call3_v0 : Ref sig .tc := ⟨.hbm, 59, rfl⟩
abbrev main_while0b_call3_c : Ref sig .tc := ⟨.hbm, 60, rfl⟩
abbrev main_while0b_call3_c_0 : Ref sig .tc := ⟨.hbm, 61, rfl⟩
abbrev main_while0b_call3_c_1 : Ref sig .tc := ⟨.hbm, 62, rfl⟩
abbrev main_while0b_v32 : Ref sig .tc := ⟨.hbm, 63, rfl⟩
abbrev main_while0b_c_9 : Ref sig .tc := ⟨.hbm, 64, rfl⟩
abbrev main_while0b_v33 : Ref sig .tc := ⟨.hbm, 65, rfl⟩
abbrev main_v24 : Ref sig .tc := ⟨.hbm, 66, rfl⟩
abbrev main_v25 : Ref sig .tc := ⟨.hbm, 67, rfl⟩

abbrev nD : Nat := 1
abbrev τ : Topo := Topo.v7x

variable {F : FTy → Type} [FloatOps F]

abbrev main_while0_count : Scf.Loop 32 := ⟨0#32, 1024#32, 1#32⟩
-- ==== Kernel2.lean ====
abbrev S2x1024x1024 : Shape := ⟨3, ![2, 1024, 1024]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S1024x1024, .f32⟩
  | .hbm, ⟨3, _⟩ => ⟨S1024x1024, .bf16⟩
  | .hbm, ⟨4, _⟩ => ⟨S2x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1024x1024, .bf16⟩
  | .local _ .vmem, ⟨5, _⟩ => ⟨S1x512x1024, .f32⟩
  | .local _ .vmem, ⟨6, _⟩ => ⟨S1x512x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S2x1024x1024 : Shape := ⟨3, ![2, 1024, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S1024x1024, .f32⟩
  | .hbm, ⟨3, _⟩ => ⟨S2x1024x1024, .f32⟩
  | .hbm, ⟨4, _⟩ => ⟨S2x1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel3.lean ====
abbrev S2x1024x1024 : Shape := ⟨3, ![2, 1024, 1024]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .bf16⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1x1024, .f32⟩
  | .hbm, ⟨6, _⟩ => ⟨S1024x1024, .bf16⟩
  | .hbm, ⟨7, _⟩ => ⟨S1024x1024, .bf16⟩
  | .hbm, ⟨8, _⟩ => ⟨S2x1024x1024, .f32⟩
  | .hbm, ⟨9, _⟩ => ⟨S2x1024x1024, .bf16⟩
  | .hbm, ⟨10, _⟩ => ⟨S2x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x512x1024, .f32⟩
  | .local _ .vmem, ⟨8, _⟩ => ⟨S1x512x1024, .f32⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .f32⟩
  | .local _ .vmem, ⟨12, _⟩ => ⟨S1x512x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S2x1024x1024 : Shape := ⟨3, ![2, 1024, 1024]⟩
abbrev S1024x1024 : Shape := ⟨2, ![1024, 1024]⟩
abbrev S1024 : Shape := ⟨1, ![1024]⟩
abbrev S_ : Shape := ⟨0, ![]⟩
abbrev S2x1024 : Shape := ⟨2, ![2, 1024]⟩
abbrev S2x1024x1 : Shape := ⟨3, ![2, 1024, 1]⟩
abbrev S1x1x1024 : Shape := ⟨3, ![1, 1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .bf16⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S2x1024x1024, .f32⟩
  | .hbm, ⟨6, _⟩ => ⟨S2x1024x1024, .f32⟩
  | .hbm, ⟨7, _⟩ => ⟨S2x1024x1024, .f32⟩
  | .hbm, ⟨8, _⟩ => ⟨S2x1024x1024, .f32⟩
  | .hbm, ⟨9, _⟩ => ⟨S_, .f32⟩
  | .hbm, ⟨10, _⟩ => ⟨S2x1024, .f32⟩
  | .hbm, ⟨11, _⟩ => ⟨S2x1024x1, .f32⟩
  | .hbm, ⟨12, _⟩ => ⟨S_, .f32⟩
  | .hbm, ⟨13, _⟩ => ⟨S2x1024x1, .f32⟩
  | .hbm, ⟨14, _⟩ => ⟨S2x1024x1, .f32⟩
  | .hbm, ⟨15, _⟩ => ⟨S_, .f32⟩
  | .hbm, ⟨16, _⟩ => ⟨S2x1024x1, .f32⟩
  | .hbm, ⟨17, _⟩ => ⟨S2x1024x1, .f32⟩
  | .hbm, ⟨18, _⟩ => ⟨S2x1024x1, .f32⟩
  | .hbm, ⟨19, _⟩ => ⟨S2x1024x1024, .f32⟩
  | .hbm, ⟨20, _⟩ => ⟨S2x1024x1024, .f32⟩
  | .hbm, ⟨21, _⟩ => ⟨S1x1x1024, .f32⟩
  | .hbm, ⟨22, _⟩ => ⟨S2x1024x1024, .f32⟩
  | .hbm, ⟨23, _⟩ => ⟨S2x1024x1024, .f32⟩
  | .hbm, ⟨24, _⟩ => ⟨S2x1024x1024, .f32⟩
  | .hbm, ⟨25, _⟩ => ⟨S2x1024x1024, .bf16⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel4.lean ====
abbrev S2x1024x1024 : Shape := ⟨3, ![2, 1024, 1024]⟩
abbrev S1024 : Shape := ⟨1, ![1024]⟩
abbrev S1024x3072 : Shape := ⟨2, ![1024, 3072]⟩
abbrev S32 : Shape := ⟨1, ![32]⟩
abbrev S_ : Shape := ⟨0, ![]⟩
abbrev S1024x1 : Shape := ⟨2, ![1024, 1]⟩
abbrev S1x32 : Shape := ⟨2, ![1, 32]⟩
abbrev S1024x32 : Shape := ⟨2, ![1024, 32]⟩
abbrev S1024x64 : Shape := ⟨2, ![1024, 64]⟩
abbrev S1x1024x1x64 : Shape := ⟨4, ![1, 1024, 1, 64]⟩
abbrev S1x1024x16x64 : Shape := ⟨4, ![1, 1024, 16, 64]⟩
abbrev S1024x1024 : Shape := ⟨2, ![1024, 1024]⟩
abbrev S1x1024 : Shape := ⟨2, ![1, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S512x3072 : Shape := ⟨2, ![512, 3072]⟩
abbrev S512x992 : Shape := ⟨2, ![512, 992]⟩
abbrev S512x32 : Shape := ⟨2, ![512, 32]⟩

abbrev nBuf : Space → Nat
  | .hbm => 39
  | .vmem => 14
  | .smem => 0
  | _ => 0

abbrev bufTy : (tb : Table) → Fin (tcTables nBuf tb) → BufTy
  | .hbm, ⟨0, _⟩ => ⟨S2x1024x1024, .f32⟩
  | .hbm, ⟨1, _⟩ => ⟨S1024, .f32⟩
  | .hbm, ⟨2, _⟩ => ⟨S1024x3072, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S1024, .f32⟩
  | .hbm, ⟨20, _⟩ => ⟨S1024x1, .f32⟩
  | .hbm, ⟨21, _⟩ => ⟨S1x32, .f32⟩
  | .hbm, ⟨22, _⟩ => ⟨S1024x32, .f32⟩
  | .hbm, ⟨23, _⟩ => ⟨S1024x32, .f32⟩
  | .hbm, ⟨24, _⟩ => ⟨S1024x32, .f32⟩
  | .hbm, ⟨25, _⟩ => ⟨S1024x64, .f32⟩
  | .hbm, ⟨26, _⟩ => ⟨S1024x64, .f32⟩
  | .hbm, ⟨27, _⟩ => ⟨S1x1024x1x64, .f32⟩
  | .hbm, ⟨28, _⟩ => ⟨S1x1024x16x64, .f32⟩
  | .hbm, ⟨29, _⟩ => ⟨S1024x1024, .f32⟩
  | .hbm, ⟨30, _⟩ => ⟨S1024x64, .f32⟩
  | .hbm, ⟨31, _⟩ => ⟨S1x1024x1x64, .f32⟩
  | .hbm, ⟨32, _⟩ => ⟨S1x1024x16x64, .f32⟩
  | .hbm, ⟨33, _⟩ => ⟨S1024x1024, .f32⟩
  | .hbm, ⟨34, _⟩ => ⟨S1x1024, .f32⟩
  | .hbm, ⟨35, _⟩ => ⟨S1024x3072, .bf16⟩
  | .hbm, ⟨36, _⟩ => ⟨S2x1024x1024, .bf16⟩
  | .hbm, ⟨37, _⟩ => ⟨S2x1024x1024, .bf16⟩
  | .hbm, ⟨38, _⟩ => ⟨S2x1024x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3072, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28_0 : Ref sig .tc := ⟨.hbm, 36, rfl⟩
abbrev main_v28_1 : Ref sig .tc := ⟨.hbm, 37, rfl⟩
abbrev main_v28_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S2x1024x1024 : Shape := ⟨3, ![2, 1024, 1024]⟩
abbrev S1024 : Shape := ⟨1, ![1024]⟩
abbrev S1024x3072 : Shape := ⟨2, ![1024, 3072]⟩
abbrev S_ : Shape := ⟨0, ![]⟩
abbrev S2x1024 : Shape := ⟨2, ![2, 1024]⟩
abbrev S2x1024x1 : Shape := ⟨3, ![2, 1024, 1]⟩
abbrev S1x1x1024 : Shape := ⟨3, ![1, 1, 1024]⟩
abbrev S2x1024x3072 : Shape := ⟨3, ![2, 1024, 3072]⟩
abbrev S2x1024x3x16x64 : Shape := ⟨5, ![2, 1024, 3, 16, 64]⟩
abbrev S2x1024x1x16x64 : Shape := ⟨5, ![2, 1024, 1, 16, 64]⟩
abbrev S2x1024x16x64 : Shape := ⟨4, ![2, 1024, 16, 64]⟩
abbrev S32 : Shape := ⟨1, ![32]⟩
abbrev S1024x1 : Shape := ⟨2, ![1024, 1]⟩
abbrev S1x32 : Shape := ⟨2, ![1, 32]⟩
abbrev S1024x32 : Shape := ⟨2, ![1024, 32]⟩
abbrev S1024x64 : Shape := ⟨2, ![1024, 64]⟩
abbrev S1x1024x1x64 : Shape := ⟨4, ![1, 1024, 1, 64]⟩
abbrev S2x1024x16x32 : Shape := ⟨4, ![2, 1024, 16, 32]⟩

abbrev nBuf : Space → Nat
  | .hbm => 82
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S1024, .f32⟩
  | .hbm, ⟨2, _⟩ => ⟨S1024x3072, .f32⟩
  | .hbm, ⟨3, _⟩ => ⟨S2x1024x1024, .f32⟩
  | .hbm, ⟨4, _⟩ => ⟨S_, .f32⟩
  | .hbm, ⟨5, _⟩ => ⟨S2x1024, .f32⟩
  | .hbm, ⟨6, _⟩ => ⟨S2x1024x1, .f32⟩
  | .hbm, ⟨7, _⟩ => ⟨S_, .f32⟩
  | .hbm, ⟨8, _⟩ => ⟨S2x1024x1, .f32⟩
  | .hbm, ⟨9, _⟩ => ⟨S2x1024x1, .f32⟩
  | .hbm, ⟨10, _⟩ => ⟨S_, .f32⟩
  | .hbm, ⟨11, _⟩ => ⟨S2x1024x1, .f32⟩
  | .hbm, ⟨12, _⟩ => ⟨S2x1024x1, .f32⟩
  | .hbm, ⟨13, _⟩ => ⟨S2x1024x1, .f32⟩
  | .hbm, ⟨14, _⟩ => ⟨S2x1024x1024, .f32⟩
  | .hbm, ⟨15, _⟩ => ⟨S2x1024x1024, .f32⟩
  | .hbm, ⟨16, _⟩ => ⟨S1x1x1024, .f32⟩
  | .hbm, ⟨17, _⟩ => ⟨S2x1024x1024, .f32⟩
  | .hbm, ⟨18, _⟩ => ⟨S2x1024x1024, .f32⟩
  | .hbm, ⟨19, _⟩ => ⟨S2x1024x3072, .f32⟩
  | .hbm, ⟨20, _⟩ => ⟨S2x1024x3x16x64, .f32⟩
  | .hbm, ⟨21, _⟩ => ⟨S2x1024x1x16x64, .f32⟩
  | .hbm, ⟨22, _⟩ => ⟨S2x1024x16x64, .f32⟩
  | .hbm, ⟨23, _⟩ => ⟨S2x1024x1x16x64, .f32⟩
  | .hbm, ⟨24, _⟩ => ⟨S2x1024x16x64, .f32⟩
  | .hbm, ⟨25, _⟩ => ⟨S2x1024x1x16x64, .f32⟩
  | .hbm, ⟨26, _⟩ => ⟨S2x1024x16x64, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S1024, .f32⟩
  | .hbm, ⟨44, _⟩ => ⟨S1024x1, .f32⟩
  | .hbm, ⟨45, _⟩ => ⟨S1x32, .f32⟩
  | .hbm, ⟨46, _⟩ => ⟨S1024x32, .f32⟩
  | .hbm, ⟨47, _⟩ => ⟨S1024x32, .f32⟩
  | .hbm, ⟨48, _⟩ => ⟨S1024x32, .f32⟩
  | .hbm, ⟨49, _⟩ => ⟨S1024x64, .f32⟩
  | .hbm, ⟨50, _⟩ => ⟨S1024x64, .f32⟩
  | .hbm, ⟨51, _⟩ => ⟨S1x1024x1x64, .f32⟩
  | .hbm, ⟨52, _⟩ => ⟨S1024x64, .f32⟩
  | .hbm, ⟨53, _⟩ => ⟨S1x1024x1x64, .f32⟩
  | .hbm, ⟨54, _⟩ => ⟨S2x1024x16x32, .f32⟩
  | .hbm, ⟨55, _⟩ => ⟨S2x1024x16x32, .f32⟩
  | .hbm, ⟨56, _⟩ => ⟨S2x1024x16x64, .f32⟩
  | .hbm, ⟨57, _⟩ => ⟨S2x1024x16x64, .f32⟩
  | .hbm, ⟨58, _⟩ => ⟨S2x1024x16x32, .f32⟩
  | .hbm, ⟨59, _⟩ => ⟨S2x1024x16x64, .f32⟩
  | .hbm, ⟨60, _⟩ => ⟨S2x1024x16x64, .f32⟩
  | .hbm, ⟨61, _⟩ => ⟨S2x1024x16x64, .f32⟩
  | .hbm, ⟨62, _⟩ => ⟨S2x1024x16x64, .f32⟩
  | .hbm, ⟨63, _⟩ => ⟨S1024x64, .f32⟩
  | .hbm, ⟨64, _⟩ => ⟨S1x1024x1x64, .f32⟩
  | .hbm, ⟨65, _⟩ => ⟨S1024x64, .f32⟩
  | .hbm, ⟨66, _⟩ => ⟨S1x1024x1x64, .f32⟩
  | .hbm, ⟨67, _⟩ => ⟨S2x1024x16x32, .f32⟩
  | .hbm, ⟨68, _⟩ => ⟨S2x1024x16x32, .f32⟩
  | .hbm, ⟨69, _⟩ => ⟨S2x1024x16x64, .f32⟩
  | .hbm, ⟨70, _⟩ => ⟨S2x1024x16x64, .f32⟩
  | .hbm, ⟨71, _⟩ => ⟨S2x1024x16x32, .f32⟩
  | .hbm, ⟨72, _⟩ => ⟨S2x1024x16x64, .f32⟩
  | .hbm, ⟨73, _⟩ => ⟨S2x1024x16x64, .f32⟩
  | .hbm, ⟨74, _⟩ => ⟨S2x1024x16x64, .f32⟩
  | .hbm, ⟨75, _⟩ => ⟨S2x1024x16x64, .f32⟩
  | .hbm, ⟨76, _⟩ => ⟨S2x1024x1024, .f32⟩
  | .hbm, ⟨77, _⟩ => ⟨S2x1024x1024, .bf16⟩
  | .hbm, ⟨78, _⟩ => ⟨S2x1024x1024, .f32⟩
  | .hbm, ⟨79, _⟩ => ⟨S2x1024x1024, .bf16⟩
  | .hbm, ⟨80, _⟩ => ⟨S2x1024x1024, .f32⟩
  | .hbm, ⟨81, _⟩ => ⟨S2x1024x1024, .bf16⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩

abbrev nD : Nat := 1
abbrev τ : Topo := Topo.v7x

variable {F : FTy → Type} [FloatOps F]
-- ==== Kernel5.lean ====
abbrev S2x1024x1024 : Shape := ⟨3, ![2, 1024, 1024]⟩
abbrev S1x512x128 : Shape := ⟨3, ![1, 512, 128]⟩
abbrev S1x1024x128 : Shape := ⟨3, ![1, 1024, 128]⟩
abbrev S512x256 : Shape := ⟨2, ![512, 256]⟩
abbrev S1x512x64 : Shape := ⟨3, ![1, 512, 64]⟩
abbrev S512x64 : Shape := ⟨2, ![512, 64]⟩
abbrev S512x1 : Shape := ⟨2, ![512, 1]⟩
abbrev S1x256x64 : Shape := ⟨3, ![1, 256, 64]⟩
abbrev S256x64 : Shape := ⟨2, ![256, 64]⟩
abbrev S512 : Shape := ⟨1, ![512]⟩
abbrev S512x128 : Shape := ⟨2, ![512, 128]⟩

abbrev nBuf : Space → Nat
  | .hbm => 4
  | .vmem => 8
  | .smem => 0
  | _ => 0

abbrev bufTy : (tb : Table) → Fin (tcTables nBuf tb) → BufTy
  | .hbm, ⟨0, _⟩ => ⟨S2x1024x1024, .bf16⟩
  | .hbm, ⟨1, _⟩ => ⟨S2x1024x1024, .bf16⟩
  | .hbm, ⟨2, _⟩ => ⟨S2x1024x1024, .bf16⟩
  | .hbm, ⟨3, _⟩ => ⟨S2x1024x1024, .bf16⟩
  | .local _ .vmem, ⟨0, _⟩ => ⟨S1x512x128, .bf16⟩
  | .local _ .vmem, ⟨1, _⟩ => ⟨S1x512x128, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x1024x128, .bf16⟩
  | .local _ .vmem, ⟨5, _⟩ => ⟨S1x1024x128, .bf16⟩
  | .local _ .vmem, ⟨6, _⟩ => ⟨S1x512x128, .bf16⟩
  | .local _ .vmem, ⟨7, _⟩ => ⟨S1x512x128, .bf16⟩
  | _, _ => ⟨S2x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference5Ideal.lean ====
abbrev S2x1024x1024 : Shape := ⟨3, ![2, 1024, 1024]⟩
abbrev S2x1024x16x64 : Shape := ⟨4, ![2, 1024, 16, 64]⟩
abbrev S2x16x1024x1024 : Shape := ⟨4, ![2, 16, 1024, 1024]⟩
abbrev S_ : Shape := ⟨0, ![]⟩
abbrev S1024x1024 : Shape := ⟨2, ![1024, 1024]⟩
abbrev S1x1x1024x1024 : Shape := ⟨4, ![1, 1, 1024, 1024]⟩
abbrev S2x16x1024 : Shape := ⟨3, ![2, 16, 1024]⟩
abbrev S2x16x1024x1 : Shape := ⟨4, ![2, 16, 1024, 1]⟩
abbrev S2x16x64x1024 : Shape := ⟨4, ![2, 16, 64, 1024]⟩

abbrev nBuf : Space → Nat
  | .hbm => 48
  | .vmem => 0
  | .smem => 0
  | _ => 0

abbrev bufTy : (tb : Table) → Fin (tcTables nBuf tb) → BufTy
  | .hbm, ⟨0, _⟩ => ⟨S2x1024x1024, .bf16⟩
  | .hbm, ⟨1, _⟩ => ⟨S2x1024x1024, .bf16⟩
  | .hbm, ⟨2, _⟩ => ⟨S2x1024x1024, .bf16⟩
  | .hbm, ⟨3, _⟩ => ⟨S2x1024x1024, .f32⟩
  | .hbm, ⟨4, _⟩ => ⟨S2x1024x16x64, .f32⟩
  | .hbm, ⟨5, _⟩ => ⟨S2x1024x1024, .f32⟩
  | .hbm, ⟨6, _⟩ => ⟨S2x1024x16x64, .f32⟩
  | .hbm, ⟨7, _⟩ => ⟨S2x1024x1024, .f32⟩
  | .hbm, ⟨8, _⟩ => ⟨S2x1024x16x64, .f32⟩
  | .hbm, ⟨9, _⟩ => ⟨S2x16x1024x1024, .f32⟩
  | .hbm, ⟨10, _⟩ => ⟨S_, .f32⟩
  | .hbm, ⟨11, _⟩ => ⟨S_, .f32⟩
  | .hbm, ⟨12, _⟩ => ⟨S2x16x1024x1024, .f32⟩
  | .hbm, ⟨13, _⟩ => ⟨S2x16x1024x1024, .f32⟩
  | .hbm, ⟨14, _⟩ => ⟨S_, .i1⟩
  | .hbm, ⟨15, _⟩ => ⟨S1024x1024, .i1⟩
  | .hbm, ⟨16, _⟩ => ⟨S1024x1024, .i32⟩
  | .hbm, ⟨17, _⟩ => ⟨S_, .i32⟩
  | .hbm, ⟨18, _⟩ => ⟨S1024x1024, .i32⟩
  | .hbm, ⟨19, _⟩ => ⟨S1024x1024, .i32⟩
  | .hbm, ⟨20, _⟩ => ⟨S1024x1024, .i32⟩
  | .hbm, ⟨21, _⟩ => ⟨S1024x1024, .i1⟩
  | .hbm, ⟨22, _⟩ => ⟨S_, .i1⟩
  | .hbm, ⟨23, _⟩ => ⟨S1024x1024, .i1⟩
  | .hbm, ⟨24, _⟩ => ⟨S1024x1024, .i1⟩
  | .hbm, ⟨25, _⟩ => ⟨S1x1x1024x1024, .i1⟩
  | .hbm, ⟨26, _⟩ => ⟨S_, .f32⟩
  | .hbm, ⟨27, _⟩ => ⟨S2x16x1024x1024, .i1⟩
  | .hbm, ⟨28, _⟩ => ⟨S2x16x1024x1024, .f32⟩
  | .hbm, ⟨29, _⟩ => ⟨S2x16x1024x1024, .f32⟩
  | .hbm, ⟨30, _⟩ => ⟨S_, .f32⟩
  | .hbm, ⟨31, _⟩ => ⟨S2x16x1024, .f32⟩
  | .hbm, ⟨32, _⟩ => ⟨S_, .f32⟩
  | .hbm, ⟨33, _⟩ => ⟨S2x16x1024, .f32⟩
  | .hbm, ⟨34, _⟩ => ⟨S2x16x1024, .f32⟩
  | .hbm, ⟨35, _⟩ => ⟨S2x16x1024x1, .f32⟩
  | .hbm, ⟨36, _⟩ => ⟨S2x16x1024x1024, .f32⟩
  | .hbm, ⟨37, _⟩ => ⟨S2x16x1024x1024, .f32⟩
  | .hbm, ⟨38, _⟩ => ⟨S2x16x1024x1024, .f32⟩
  | .hbm, ⟨39, _⟩ => ⟨S_, .f32⟩
  | .hbm, ⟨40, _⟩ => ⟨S2x16x1024, .f32⟩
  | .hbm, ⟨41, _⟩ => ⟨S2x16x1024x1, .f32⟩
  | .hbm, ⟨42, _⟩ => ⟨S2x16x1024x1024, .f32⟩
  | .hbm, ⟨43, _⟩ => ⟨S2x16x1024x1024, .f32⟩
  | .hbm, ⟨44, _⟩ => ⟨S2x16x64x1024, .f32⟩
  | .hbm, ⟨45, _⟩ => ⟨S2x1024x16x64, .f32⟩
  | .hbm, ⟨46, _⟩ => ⟨S2x1024x1024, .f32⟩
  | .hbm, ⟨47, _⟩ => ⟨S2x1024x1024, .bf16⟩
  | _, _ => ⟨S2x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_0 : Ref sig .tc := ⟨.hbm, 22, rfl⟩
abbrev main_call0_v5 : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_call1_v0 : Ref sig .tc := ⟨.hbm, 27, rfl⟩
abbrev main_call1_v1 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩

abbrev nD : Nat := 1
abbrev τ : Topo := Topo.v7x

variable {F : FTy → Type} [FloatOps F]
-- ==== Proof.Lru.Word.Frame.lean ====
/- The frame of the kernel in machine words: it ends, its arguments unchanged and its counters at zero. Nothing is said
   of what the output block, the work buffers or the carried state hold. -/
module

public import proofs.«01_k».proof.Proof.Lru.Word.RunB
public import Idealize.ShloMosaic.Lib.Claim

@[expose] public section

set_option maxRecDepth 16384

noncomputable section

namespace Cert.Kernel.Lru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window's contents are not stated. -/
def forgets : Fin 4 → Bool := fun w => w.val == 3

/-- The launch's proof data on core `c`: arrays as the launch finds them, each input's buffer at its block, the work
    buffers at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

/-- The arrays the windows move are the memory's. -/
theorem A_eq (c : Dev nD) (w : Fin cfg0.W) : (dats m 0 c).A w = V m c (Pipeline.arrRef spec0 w) := by
  dsimp only [dats]

/-- An input's block after a point is as before. -/
theorem after_0 (c : Dev nD) (t : Fin cfg0.N) : (dats m 0 c).after 0 t = iblk m c 0 t := by dsimp only [dats]
/-- An input's block after a point is as before. -/
theorem after_1 (c : Dev nD) (t : Fin cfg0.N) : (dats m 0 c).after 1 t = iblk m c 1 t := by dsimp only [dats]
/-- An input's block after a point is as before. -/
theorem after_2 (c : Dev nD) (t : Fin cfg0.N) : (dats m 0 c).after 2 t = iblk m c 2 t := by dsimp only [dats]

/-- An input's block before a point. -/
theorem before_0 (c : Dev nD) (t : Fin cfg0.N) (d) : (dats m 0 c).before 0 t d = iblk m c 0 t :=
  before0_0_of m (dats m 0 c) (A_eq m c 0) (after_0 m c) t d
/-- An input's block before a point. -/
theorem before_1 (c : Dev nD) (t : Fin cfg0.N) (d) : (dats m 0 c).before 1 t d = iblk m c 1 t :=
  before0_1_of m (dats m 0 c) (A_eq m c 1) (after_1 m c) t d
/-- An input's block before a point. -/
theorem before_2 (c : Dev nD) (t : Fin cfg0.N) (d) : (dats m 0 c).before 2 t d = iblk m c 2 t :=
  before0_2_of m (dats m 0 c) (A_eq m c 2) (after_2 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare d))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ (∃ d, owns (c : Thread nD τ) (ms3 t) fullShare d))

set_option maxHeartbeats 3200000 in
/-- The body's triple at any point, by the run of the point's case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl, after_0, after_1, after_2]
  rw [show (dats m 0 c).Φ t.succ = Pipeline.ΦA spec0 c from rfl, show (dats m 0 c).Φ t.castSucc = Pipeline.ΦA spec0 c from rfl, PhiA_eq]
  by_cases h0 : t.val % 8 = 0
  · iintro ⟨⟨⟨HS0, HS1, HS2⟩, Hg⟩, Ho, ⟨%d0, H0⟩, ⟨%d1, H1⟩, ⟨%d2, H2⟩, ⟨%d3, H3⟩⟩
    iapply ((runA c (grid0.coords t) _ _ _ _ _ _ _ _ _ _ _ _ _ _ ((hcond0 t).mpr h0) (iblk m c 0 t) (iblk m c 1 t) (iblk m c 2 t)).2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, ⟨%e8, HS2⟩⟩
    isplitl [HS0 HS1 HS2 Hg]
    · isplitl [HS0 HS1 HS2]
      · isplitl [HS0]; · iexact HS0
        isplitl [HS1]; · iexact HS1
        iexists _; unfold owns; iexists _; isplitr
        swap; · iexact HS2
        ipureintro; rfl
      iexact Hg
    isplitl [Ho]; · iexact Ho
    isplitl [H0]; · iexact H0
    isplitl [H1]; · iexact H1
    isplitl [H2]; · iexact H2
    iexists _; unfold owns; iexists _; isplitr
    swap; · iexact H3
    ipureintro; rfl
  · iintro ⟨⟨⟨HS0, HS1, ⟨%xs, HS2⟩⟩, Hg⟩, Ho, ⟨%d0, H0⟩, ⟨%d1, H1⟩, ⟨%d2, H2⟩, ⟨%d3, H3⟩⟩
    iapply ((runB c (grid0.coords t) _ _ _ _ _ _ _ _ _ _ _ _ _ _ (fun h => h0 ((hcond0 t).mp h)) (iblk m c 0 t) (iblk m c 1 t) (iblk m c 2 t) xs).2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, ⟨%e8, HS2⟩⟩
    isplitl [HS0 HS1 HS2 Hg]
    · isplitl [HS0 HS1 HS2]
      · isplitl [HS0]; · iexact HS0
        isplitl [HS1]; · iexact HS1
        iexists _; unfold owns; iexists _; isplitr
        swap; · iexact HS2
        ipureintro; rfl
      iexact Hg
    isplitl [Ho]; · iexact Ho
    isplitl [H0]; · iexact H0
    isplitl [H1]; · iexact H1
    isplitl [H2]; · iexact H2
    iexists _; unfold owns; iexists _; isplitr
    swap; · iexact H3
    ipureintro; rfl

/-- The body the launch runs at a point. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch ends, its counters at zero. -/
theorem run_main : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_track_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The kernel ends with its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      ((h.1 c).2 main_arg2 (Pipeline.mem_restRefs_of main_arg2 (by decide) (by decide))).trans (V_main_arg2 m c)⟩, h.2⟩) (run_main m ρ)

end Cert.Kernel.Lru

end
-- ==== Proof.Lru.Cond.lean ====
/- When the kernel body resets its state, and the memrefs a grid point runs on. -/
module

public import proofs.«01_k».proof.Proof.Gen.KernelIdeal.Frame
public import proofs.«01_k».proof.Proof.Gen.KernelIdeal.Loops
public import proofs.«01_k».proof.Proof.Gen.KernelIdeal.Skeleton

@[expose] public section

set_option maxRecDepth 16384

noncomputable section

namespace Cert.KernelIdeal.Lru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The condition under which the body resets the carried state: the time-tile coordinate is zero. -/
abbrev cond0 (i : grid0.Coords) : Prop := (Scalar.cmpi .ne (Scalar.extui (Scalar.cmpi .eq (BitVec.ofNat 32 (i 1).val) 0#32)) 0#32) = 1#1

/-- It holds at the points whose number is a multiple of eight. -/
theorem hcond0 : ∀ t : Fin cfg0.N, cond0 (grid0.coords t) ↔ t.val % 8 = 0 :=
  (fun t => by
    have ht : t.val < 16 := Nat.lt_of_lt_of_eq t.isLt N_0
    have e0 : (grid0.coords t 0).val = t.val / 8 % 2 := Pipeline.Grid.coords_val t 0 (by decide) rfl
    have e1 : (grid0.coords t 1).val = t.val / 1 % 8 := Pipeline.Grid.coords_val t 1 (by decide) rfl
    simp only [cond0, e0, e1]
    word_cmp
   : ∀ t : Fin grid0.N, cond0 (grid0.coords t) ↔ t.val % 8 = 0)

/-- The staging memref of window 0 at point `t`, and its wholeness; likewise below for the other windows. -/
abbrev ms0 (t : Fin cfg0.N) : Memref sig .tc .vmem S2x128x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2x128x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x8704 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2x128x512 .f32 := win0_3.stage (cfg0.slots t 3)
abbrev hs3 (t : Fin cfg0.N) : (ms3 t).IsWhole := hstage0_3 ((cfg0.slots t 3).cast nbuf0_3)

/-- The three work buffers: the gates, the inputs, the carried state. -/
abbrev scA : Memref sig .tc .vmem S128x16x1024 .f32 := Memref.whole cc0_scratch0
abbrev scB : Memref sig .tc .vmem S16x8x1024 .f32 := Memref.whole cc0_scratch1
abbrev scS : Memref sig .tc .vmem S16x1024 .f32 := Memref.whole cc0_scratch2

/-- The launch's invariant with the work buffers as memrefs at some contents. -/
theorem PhiA_eq (c : Dev nD) :
    (Pipeline.ΦA spec0 c : sProp 𝕄)
      = iprop(iprop((∃ d, owns (c : Thread nD τ) scA fullShare d) ∗ (∃ d, owns (c : Thread nD τ) scB fullShare d) ∗ (∃ d, owns (c : Thread nD τ) scS fullShare d)) ∗ (∃ r, prngReg c r)) := by
  unfold Pipeline.ΦA; rw [scopedRest0_eq]; simp only [scA, scB, scS, owns_whole]; try rfl

end Cert.KernelIdeal.Lru

end
-- ==== Proof.Lru.RunA.lean ====
/- The kernel body's run at a grid point, case A: what it leaves in the output block and in the carried state, as lists of written pieces. -/
module

public import proofs.«01_k».proof.Proof.Gen.KernelIdeal.Frame
public import proofs.«01_k».proof.Proof.Lru.Cond

@[expose] public section

set_option maxRecDepth 16384

noncomputable section

namespace Cert.KernelIdeal.Lru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's run at a grid point of time tile 0, where the state is reset: from the staged
    blocks `x0`, `x1`, `x2` it ends with the blocks unchanged, the output block and the carried state overwritten by the
    listed pieces (last written first), the two work buffers at anything. -/
noncomputable def runA (c : Dev nD) (i : grid0.Coords) (arg2 : Memref sig .tc .vmem S2x128x1024 .bf16) (harg2 : arg2.IsWhole) (arg3 : Memref sig .tc .vmem S2x128x512 .f32) (harg3 : arg3.IsWhole) (arg4 : Memref sig .tc .vmem S1x1024x8704 .bf16) (harg4 : arg4.IsWhole) (arg5 : Memref sig .tc .vmem S2x128x512 .f32) (harg5 : arg5.IsWhole) (arg6 : Memref sig .tc .vmem S128x16x1024 .f32) (harg6 : arg6.IsWhole) (arg7 : Memref sig .tc .vmem S16x8x1024 .f32) (harg7 : arg7.IsWhole) (arg8 : Memref sig .tc .vmem S16x1024 .f32) (harg8 : arg8.IsWhole) (hc0 : cond0 i)
    (x0 : Vec F S2x128x1024 .bf16) (x1 : Vec F S2x128x512 .f32) (x2 : Vec F S1x1024x8704 .bf16) :
    Σ' L5 : List (View.Piece (Elt F) S2x128x512 .f32), { L8 : List (View.Piece (Elt F) S16x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L5) ∗ (∃ d, owns (c : Thread nD τ) arg6 fullShare d) ∗ (∃ d, owns (c : Thread nD τ) arg7 fullShare d) ∗ (∃ f, arg8.view.loc (c : Thread nD τ) ↦[arg8.view.set]{fullShare} arg8.view.writes (Elt F) f L8)) -∗ K ⟨⟩))
          ⊢ wp frame (wpE (defs₀ (F := F)) Variants.none c none) E (cc0__lru_kernel i arg2 harg2 arg3 harg3 arg4 harg4 arg5 harg5 arg6 harg6 arg7 harg7 arg8 harg8) K } := by
  refine ⟨?_, ?_, fun E K => ?run⟩
  case run =>
    simp only [cc0__lru_kernel_eq_skeleton]; unfold cc0__lru_kernel_skel
    simp only [k0_part89_eq_skeleton, k0_part90_eq_skeleton, k0_part91_eq_skeleton, k0_part92_eq_skeleton, k0_part93_eq_skeleton, k0_part94_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [HS0]
    · iexists _, _; isplitr; swap; · iexact HS0
      ipureintro; rfl
    isplitl [HS1]
    · iexists _, _; isplitr; swap; · iexact HS1
      ipureintro; rfl
    iexists _; iexact HS2

end Cert.KernelIdeal.Lru

end
-- ==== Proof.Lru.RunB.lean ====
/- The kernel body's run at a grid point, case B: what it leaves in the output block and in the carried state, as lists of written pieces. -/
module

public import proofs.«01_k».proof.Proof.Gen.KernelIdeal.Frame
public import proofs.«01_k».proof.Proof.Lru.RunA

@[expose] public section

set_option maxRecDepth 16384

noncomputable section

namespace Cert.KernelIdeal.Lru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's run at a grid point of a later time tile, entered with the state `xs`: from the staged
    blocks `x0`, `x1`, `x2` it ends with the blocks unchanged, the output block and the carried state overwritten by the
    listed pieces (last written first), the two work buffers at anything. -/
noncomputable def runB (c : Dev nD) (i : grid0.Coords) (arg2 : Memref sig .tc .vmem S2x128x1024 .bf16) (harg2 : arg2.IsWhole) (arg3 : Memref sig .tc .vmem S2x128x512 .f32) (harg3 : arg3.IsWhole) (arg4 : Memref sig .tc .vmem S1x1024x8704 .bf16) (harg4 : arg4.IsWhole) (arg5 : Memref sig .tc .vmem S2x128x512 .f32) (harg5 : arg5.IsWhole) (arg6 : Memref sig .tc .vmem S128x16x1024 .f32) (harg6 : arg6.IsWhole) (arg7 : Memref sig .tc .vmem S16x8x1024 .f32) (harg7 : arg7.IsWhole) (arg8 : Memref sig .tc .vmem S16x1024 .f32) (harg8 : arg8.IsWhole) (hc0 : ¬cond0 i)
    (x0 : Vec F S2x128x1024 .bf16) (x1 : Vec F S2x128x512 .f32) (x2 : Vec F S1x1024x8704 .bf16) (xs : Vec F S16x1024 .f32) :
    Σ' L5 : List (View.Piece (Elt F) S2x128x512 .f32), { L8 : List (View.Piece (Elt F) S16x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L5) ∗ (∃ d, owns (c : Thread nD τ) arg6 fullShare d) ∗ (∃ d, owns (c : Thread nD τ) arg7 fullShare d) ∗ (∃ f, arg8.view.loc (c : Thread nD τ) ↦[arg8.view.set]{fullShare} arg8.view.writes (Elt F) f L8)) -∗ K ⟨⟩))
          ⊢ wp frame (wpE (defs₀ (F := F)) Variants.none c none) E (cc0__lru_kernel i arg2 harg2 arg3 harg3 arg4 harg4 arg5 harg5 arg6 harg6 arg7 harg7 arg8 harg8) K } := by
  refine ⟨?_, ?_, fun E K => ?run⟩
  case run =>
    simp only [cc0__lru_kernel_eq_skeleton]; unfold cc0__lru_kernel_skel
    simp only [k0_part89_eq_skeleton, k0_part90_eq_skeleton, k0_part91_eq_skeleton, k0_part92_eq_skeleton, k0_part93_eq_skeleton, k0_part94_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg8.eq_unread hfs2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [HS0]
    · iexists _, _; isplitr; swap; · iexact HS0
      ipureintro; rfl
    isplitl [HS1]
    · iexists _, _; isplitr; swap; · iexact HS1
      ipureintro; rfl
    iexists _; iexact HS2

end Cert.KernelIdeal.Lru

end
-- ==== Proof.Lru.Gates.lean ====
/- The gates of a grid point as the kernel computes them: seventeen exponentials, their sum, and the quotients. -/
module

public import proofs.«01_k».proof.Proof.Lru.RunA
public import proofs.«01_k».proof.Proof.Lru.RunB

@[expose] public section

set_option maxRecDepth 16384

noncomputable section

namespace Cert.KernelIdeal.Lru

open Idealize.ShloMosaic Idealize.ShloMosaic.TcCoe Idealize.ShloMosaic.Tactic
open Cert.KernelIdeal Cert.KernelIdeal.Gen

variable {F : FTy → Type} [FloatOps F]

/-- A gate's 512 columns lie inside its group of 2048. -/
theorem slice2048 (j : ℕ) : Shape.Slices S256x2048 ![0, 512 * (j % 4)] S256x512 := by
  have h : ∀ u : Fin 4, Shape.Slices S256x2048 ![0, 512 * u.val] S256x512 := by decide
  exact h ⟨j % 4, Nat.mod_lt _ (by decide)⟩

/-- The exponential of the logits of gate `j`: four gates to a product, the last one alone. -/
def eK (h : FVec F S256x1024 .bf16) (w : Fin 4 → Vec F S1x1024x2048 .bf16) (w4 : Vec F S1x1024x512 .bf16) (j : ℕ) : FVec F S256x512 .f32 :=
  if j = 16 then
    exp (matmul dot_S256x1024_S1024x512_S256x512_1_0_0_1_n_n none h (shapeCast S1024x512 w4 shapeCasts_S1x1024x512_S1024x512) (constant S256x512 .f32 0x00000000#32))
  else
    exp (extractStridedSlice S256x512 ![0, 512 * (j % 4)]
      (matmul dot_S256x1024_S1024x2048_S256x2048_1_0_0_1_n_n none h
        (shapeCast S1024x2048 (w ⟨j / 4 % 4, Nat.mod_lt _ (by decide)⟩) shapeCasts_S1x1024x2048_S1024x2048) (constant S256x2048 .f32 0x00000000#32))
      (slice2048 j))

/-- The sum of the exponentials of gates `0` to `n`, in that order. -/
def denK (h : FVec F S256x1024 .bf16) (w : Fin 4 → Vec F S1x1024x2048 .bf16) (w4 : Vec F S1x1024x512 .bf16) : ℕ → FVec F S256x512 .f32
  | 0 => eK h w w4 0
  | n + 1 => addf (denK h w w4 n) (eK h w w4 (n + 1))

/-- The reciprocal of the sum. -/
def rK (h : FVec F S256x1024 .bf16) (w : Fin 4 → Vec F S1x1024x2048 .bf16) (w4 : Vec F S1x1024x512 .bf16) : FVec F S256x512 .f32 :=
  divf (broadcast S256x512 (Scalar.ofBits .f32 0x3F800000#32)) (denK h w w4 16)

/-- The two batch elements' rows side by side. -/
def twoLane (p : FVec F S256x512 .f32) : FVec F S128x1024 .f32 :=
  concatenate S128x1024 1 [⟨S128x512, extractStridedSlice S128x512 ![0, 0] p slices_S256x512_o0_0_S128x512⟩,
    ⟨S128x512, extractStridedSlice S128x512 ![128, 0] p slices_S256x512_o128_0_S128x512⟩] concatenates_S128x512_S128x512_S128x1024_d1

/-- Gate `j + 1` of all the lanes, as stored. -/
def paK (h : FVec F S256x1024 .bf16) (w : Fin 4 → Vec F S1x1024x2048 .bf16) (w4 : Vec F S1x1024x512 .bf16) (j : ℕ) : FVec F S128x1x1024 .f32 :=
  shapeCast S128x1x1024 (twoLane (mulf (eK h w w4 (j + 1)) (rK h w w4))) shapeCasts_S128x1024_S128x1x1024

/-- Gate `0` times the input, as stored. -/
def bvK (h : FVec F S256x1024 .bf16) (w : Fin 4 → Vec F S1x1024x2048 .bf16) (w4 : Vec F S1x1024x512 .bf16) (v : FVec F S128x1024 .f32) : FVec F S16x8x1024 .f32 :=
  shapeCast S16x8x1024 (shapeCast S16x8x1024 (mulf (twoLane (mulf (eK h w w4 0) (rK h w w4))) v) shapeCasts_S128x1024_S16x8x1024) shapeCasts_S16x8x1024_S16x8x1024

/-- A gate's slab lies inside the scratch. -/
theorem inbJ : ∀ j : Fin 16, ∀ a, (![0, j.val, 0] : Fin 3 → ℕ) a + S128x1x1024.size a ≤ S128x16x1024.size a := by decide

section
variable (c : Dev nD) (arg2 : Memref sig .tc .vmem S2x128x1024 .bf16) (harg2 : arg2.IsWhole) (arg3 : Memref sig .tc .vmem S2x128x512 .f32) (harg3 : arg3.IsWhole)
  (arg4 : Memref sig .tc .vmem S1x1024x8704 .bf16) (harg4 : arg4.IsWhole) (x0 : S2x128x1024.Idx → Elt F .bf16) (x1 : S2x128x512.Idx → Elt F .f32) (x2 : S1x1024x8704.Idx → Elt F .bf16)

/-- The rows of both batch elements, one under the other. -/
def hB : FVec F S256x1024 .bf16 :=
  k0_pay702 (View.readAt (Elt F) arg2.view (Rect.unit (s := S2x128x1024) ![0, 0, 0] S1x128x1024.size inb_S2x128x1024_S1x128x1024_0_0_0).toLoadRect (harg2.unread x0))
    (View.readAt (Elt F) arg2.view (Rect.unit (s := S2x128x1024) ![1, 0, 0] S1x128x1024.size inb_S2x128x1024_S1x128x1024_1_0_0).toLoadRect (harg2.unread x0))

/-- The input of both batch elements, side by side. -/
def vB : FVec F S128x1024 .f32 :=
  k0_pay703 (View.readAt (Elt F) arg3.view (Rect.unit (s := S2x128x512) ![0, 0, 0] S1x128x512.size inb_S2x128x512_S1x128x512_0_0_0).toLoadRect (harg3.unread x1))
    (View.readAt (Elt F) arg3.view (Rect.unit (s := S2x128x512) ![1, 0, 0] S1x128x512.size inb_S2x128x512_S1x128x512_1_0_0).toLoadRect (harg3.unread x1))

/-- A column group lies inside the weight block. -/
theorem inbW : ∀ g : Fin 4, ∀ a, (![0, 0, 2048 * g.val] : Fin 3 → ℕ) a + S1x1024x2048.size a ≤ S1x1024x8704.size a := by decide

/-- The weights of a group of four gates. -/
def wB (g : Fin 4) : Vec F S1x1024x2048 .bf16 :=
  View.readAt (Elt F) arg4.view (Rect.unit (s := S1x1024x8704) ![0, 0, 2048 * g.val] S1x1024x2048.size (inbW g)).toLoadRect (harg4.unread x2)

/-- The weights of the last gate. -/
def w4B : Vec F S1x1024x512 .bf16 :=
  View.readAt (Elt F) arg4.view (Rect.unit (s := S1x1024x8704) ![0, 0, 8192] S1x1024x512.size inb_S1x1024x8704_S1x1024x512_0_0_8192).toLoadRect (harg4.unread x2)

/-- At a first tile the gates' scratch is what the body stores. -/
theorem HS0_A : runA.sl.HS0_16 c arg2 harg2 arg4 harg4 x0 x2
    = List.ofFn fun i : Fin 16 => ⟨Rect.unit (s := S128x16x1024) ![0, 15 - i.val, 0] S128x1x1024.size (inbJ ⟨15 - i.val, by omega⟩),
        paK (hB arg2 harg2 x0) (wB arg4 harg4 x2) (w4B arg4 harg4 x2) (15 - i.val)⟩ := by
  unfold runA.sl.HS0_16
  dsimp only
  sl_kernel_rfl

/-- At a first tile the inputs' scratch is what the body stores. -/
theorem HS1_A : runA.sl.HS1_1 c arg2 harg2 arg3 harg3 arg4 harg4 x0 x1 x2
    = [⟨Rect.unit (s := S16x8x1024) ![0, 0, 0] S16x8x1024.size inb_S16x8x1024_S16x8x1024_0_0_0,
        bvK (hB arg2 harg2 x0) (wB arg4 harg4 x2) (w4B arg4 harg4 x2) (vB arg3 harg3 x1)⟩] := by
  unfold runA.sl.HS1_1
  dsimp only
  sl_kernel_rfl

/-- At a later tile the gates' scratch is what the body stores. -/
theorem HS0_B : runB.sl.HS0_16 c arg2 harg2 arg4 harg4 x0 x2
    = List.ofFn fun i : Fin 16 => ⟨Rect.unit (s := S128x16x1024) ![0, 15 - i.val, 0] S128x1x1024.size (inbJ ⟨15 - i.val, by omega⟩),
        paK (hB arg2 harg2 x0) (wB arg4 harg4 x2) (w4B arg4 harg4 x2) (15 - i.val)⟩ := by
  unfold runB.sl.HS0_16
  dsimp only
  sl_kernel_rfl

/-- At a later tile the inputs' scratch is what the body stores. -/
theorem HS1_B : runB.sl.HS1_1 c arg2 harg2 arg3 harg3 arg4 harg4 x0 x1 x2
    = [⟨Rect.unit (s := S16x8x1024) ![0, 0, 0] S16x8x1024.size inb_S16x8x1024_S16x8x1024_0_0_0,
        bvK (hB arg2 harg2 x0) (wB arg4 harg4 x2) (w4B arg4 harg4 x2) (vB arg3 harg3 x1)⟩] := by
  unfold runB.sl.HS1_1
  dsimp only
  sl_kernel_rfl

end

end Cert.KernelIdeal.Lru

end
-- ==== Proof.Lru.Trip.lean ====
/- One trip of the kernel's time loop as thirty-two equal steps of eight independent lane chunks. -/
module

public import proofs.«01_k».proof.Proof.Gen.KernelIdeal.Loops

@[expose] public section

set_option maxRecDepth 16384

noncomputable section

namespace Cert.KernelIdeal.Lru

open Idealize.ShloMosaic Idealize.ShloMosaic.TcCoe Idealize.ShloMosaic.Tactic
open Cert.KernelIdeal Cert.KernelIdeal.Gen

variable {F : FTy → Type} [FloatOps F]

/-- The eight chunks of 128 lanes lie inside a row of 1024 lanes, whatever the number of rows. -/
theorem slice16 : ∀ c : Fin 8, Shape.Slices S16x1024 ![0, 128 * c.val] S16x128 := by decide
/-- A chunk of 128 lanes lies inside the row. -/
theorem slice1 : ∀ c : Fin 8, Shape.Slices S1x1024 ![0, 128 * c.val] S1x128 := by decide

/-- The new value of one step in lane chunk `c`: the sum over the sixteen rows of gates times states, plus the input. -/
def newC (c : Fin 8) (slab : FVec F S16x1024 .f32) (bt : FVec F S1x1024 .f32) (s : FVec F S16x128 .f32) : FVec F S1x128 .f32 :=
  addf (shapeCast S1x128 (multiReduction .add [0] S128 (mulf (extractStridedSlice S16x128 ![0, 128 * c.val] slab (slice16 c)) s)
    0x00000000#32 reduces_S16x128_S128 (.inl rfl) rfl) shapeCasts_S128_S1x128)
    (extractStridedSlice S1x128 ![0, 128 * c.val] bt (slice1 c))

/-- The state of the next step in a chunk: the new row gathered at the lane numbers `v`. -/
def gatC (v : IVec S16x128 32) (n : FVec F S1x128 .f32) : FVec F S16x128 .f32 :=
  dynamicGather 1 (broadcastTo S16x128 (shapeCast S1x128 n shapeCasts_S1x128_S1x128) broadcasts_S1x128_S16x128)
    (shapeCast S16x128 (shapeCast S16x128x1 (select (cmpi .slt v (broadcast S16x128 0#32)) (addi v (broadcast S16x128 128#32)) v)
      shapeCasts_S16x128_S16x128x1) shapeCasts_S16x128x1_S16x128)

variable (v : IVec S16x128 32) (slab : ℕ → FVec F S16x1024 .f32) (bt : ℕ → FVec F S1x1024 .f32)

/-- The state of chunk `c` after `u` steps from `s`. -/
def stU (c : Fin 8) (s : FVec F S16x128 .f32) : ℕ → FVec F S16x128 .f32
  | 0 => s
  | u + 1 => gatC v (newC c (slab u) (bt u) (stU c s u))

/-- The thirty-two new rows of chunk `c`, one under the other. -/
def rowsC (c : Fin 8) (s : FVec F S16x128 .f32) : FVec F S32x128 .f32 :=
  concatenate S32x128 0 (List.ofFn fun u : Fin 32 => (⟨S1x128, newC c (slab u.val) (bt u.val) (stU v slab bt c s u.val)⟩ : (s : Shape) × (s.Idx → Elt F .f32)))
    concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S32x128_d0

/-- The thirty-two new rows over all the lanes. -/
def rows (s : Fin 8 → FVec F S16x128 .f32) : FVec F S32x1024 .f32 :=
  concatenate S32x1024 1 (List.ofFn fun c : Fin 8 => (⟨S32x128, rowsC v slab bt c (s c)⟩ : (s : Shape) × (s.Idx → Elt F .f32)))
    concatenates_S32x128_S32x128_S32x128_S32x128_S32x128_S32x128_S32x128_S32x128_S32x1024_d1

/-- The gates of step `u` of trip `k`, read from the gate scratch. -/
def slabAt (arg6 : Memref sig .tc .vmem S128x16x1024 .f32) (X : BufTy.Contents (Elt F) arg6.view.ty) (k : Fin k0_t1_loop.trips) (u : ℕ) : FVec F S16x1024 .f32 :=
  k0_pay5 (View.readAt (Elt F) arg6.view (Rect.unit (s := S128x16x1024) (k0_off2 k (BitVec.ofNat 32 (u % 32))) S1x16x1024.size
    (k0_off2_inb k ⟨u % 32, Nat.mod_lt _ (by decide)⟩)).toLoadRect X)

/-- A row lies inside the block of 32. -/
theorem slice32 (u : ℕ) : Shape.Slices S32x1024 ![u % 32, 0] S1x1024 := by
  have h : ∀ u : Fin 32, Shape.Slices S32x1024 ![u.val, 0] S1x1024 := by decide
  exact h ⟨u % 32, Nat.mod_lt _ (by decide)⟩

/-- The inputs of step `u` of trip `k`, read from the input scratch. -/
def btAt (arg7 : Memref sig .tc .vmem S16x8x1024 .f32) (X : BufTy.Contents (Elt F) arg7.view.ty) (k : Fin k0_t1_loop.trips) (u : ℕ) : FVec F S1x1024 .f32 :=
  extractStridedSlice S1x1024 ![u % 32, 0] (k0_pay4 (View.readAt (Elt F) arg7.view (Rect.unit (s := S16x8x1024) (k0_off1 k) S4x8x1024.size
    (k0_off1_inb k)).toLoadRect X)) (slice32 u)

/-- The eight carried states as a family. -/
abbrev St8 (F : FTy → Type) [FloatOps F] := Vec F S16x128 .f32 × Vec F S16x128 .f32 × Vec F S16x128 .f32 × Vec F S16x128 .f32 × Vec F S16x128 .f32 × Vec F S16x128 .f32 × Vec F S16x128 .f32 × Vec F S16x128 .f32

def St8.get (s : St8 F) : Fin 8 → FVec F S16x128 .f32
  | 0 => s.1
  | 1 => s.2.1
  | 2 => s.2.2.1
  | 3 => s.2.2.2.1
  | 4 => s.2.2.2.2.1
  | 5 => s.2.2.2.2.2.1
  | 6 => s.2.2.2.2.2.2.1
  | 7 => s.2.2.2.2.2.2.2

section
variable (𝒱 : Variants) (c : Dev nD) (bd : Option 𝒱.V) (i : grid0.Coords) (arg2 : Memref sig .tc .vmem S2x128x1024 .bf16) (harg2 : arg2.IsWhole) (arg3 : Memref sig .tc .vmem S2x128x512 .f32) (harg3 : arg3.IsWhole) (arg4 : Memref sig .tc .vmem S1x1024x8704 .bf16) (harg4 : arg4.IsWhole) (arg5 : Memref sig .tc .vmem S2x128x512 .f32) (harg5 : arg5.IsWhole) (arg6 : Memref sig .tc .vmem S128x16x1024 .f32) (harg6 : arg6.IsWhole) (arg7 : Memref sig .tc .vmem S16x8x1024 .f32) (harg7 : arg7.IsWhole) (arg8 : Memref sig .tc .vmem S16x1024 .f32) (harg8 : arg8.IsWhole) (v228 : IVec S16x128 32) (X_arg6 : BufTy.Contents (Elt F) arg6.view.ty) (X_arg7 : BufTy.Contents (Elt F) arg7.view.ty) (k : Fin k0_t1_loop.trips) (acc : St8 F)

/-- A trip yields, chunk by chunk, the state thirty-two steps on. -/
theorem tripR_get (n : Fin 8) : St8.get ((tripR_k0_t1 (F := F) 𝒱 c bd i arg2 harg2 arg3 harg3 arg4 harg4 arg5 harg5 arg6 harg6 arg7 harg7 arg8 harg8 v228 X_arg6 X_arg7 k acc)) n
    = stU v228 (slabAt arg6 X_arg6 k) (btAt arg7 X_arg7 k) n (St8.get acc n) 32 := by
  unfold tripR_k0_t1 trip_k0_t1
  dsimp only
  revert n
  rw [Fin.forall_fin_succ]
  refine ⟨by sl_kernel_rfl, ?_⟩
  rw [Fin.forall_fin_succ]
  refine ⟨by sl_kernel_rfl, ?_⟩
  rw [Fin.forall_fin_succ]
  refine ⟨by sl_kernel_rfl, ?_⟩
  rw [Fin.forall_fin_succ]
  refine ⟨by sl_kernel_rfl, ?_⟩
  rw [Fin.forall_fin_succ]
  refine ⟨by sl_kernel_rfl, ?_⟩
  rw [Fin.forall_fin_succ]
  refine ⟨by sl_kernel_rfl, ?_⟩
  rw [Fin.forall_fin_succ]
  refine ⟨by sl_kernel_rfl, ?_⟩
  rw [Fin.forall_fin_succ]
  exact ⟨by sl_kernel_rfl, fun i => i.elim0⟩

/-- A trip stores its thirty-two rows: the lanes of the first batch element and those of the second. -/
theorem tripL_eq : tripL_k0_t1 (F := F) 𝒱 c bd i arg2 harg2 arg3 harg3 arg4 harg4 arg5 harg5 arg6 harg6 arg7 harg7 arg8 harg8 v228 X_arg6 X_arg7 k acc
    = [⟨Rect.unit (s := S2x128x512) (k0_off4 k) S1x32x512.size (k0_off4_inb k), k0_pay2 (rows v228 (slabAt arg6 X_arg6 k) (btAt arg7 X_arg7 k) (St8.get acc))⟩,
       ⟨Rect.unit (s := S2x128x512) (k0_off3 k) S1x32x512.size (k0_off3_inb k), k0_pay1 (rows v228 (slabAt arg6 X_arg6 k) (btAt arg7 X_arg7 k) (St8.get acc))⟩] := by
  unfold tripL_k0_t1 trip_k0_t1
  dsimp only
  sl_kernel_rfl
end

end Cert.KernelIdeal.Lru

end
-- ==== Proof.Lru.Entry.lean ====
/- The steps of a trip read lane by lane at the ideal elements. -/
module

public import proofs.«01_k».proof.Proof.Lru.Trip
public import Idealize.ShloMosaic.Lib.Pointwise

@[expose] public section

set_option maxRecDepth 16384

noncomputable section

namespace Cert.KernelIdeal.Lru

open Idealize.ShloMosaic Idealize.ShloMosaic.TcCoe Idealize.ShloMosaic.Tactic
open Cert.KernelIdeal Cert.KernelIdeal.Gen

/-- Lane `l` of chunk `c` among the 1024 lanes. -/
def lane (c : Fin 8) (l : Fin 128) : Fin 1024 := ⟨128 * c.val + l.val, by omega⟩

/-- The first lane of the group of sixteen of `l`, moved on by `j`. -/
def src (j : Fin 16) (l : Fin 128) : Fin 128 := ⟨16 * (l.val / 16) + j.val, by omega⟩

/-- One step in a chunk, lane by lane. -/
theorem newC_apply (c : Fin 8) (slab : FVec Ideal S16x1024 .f32) (bt : FVec Ideal S1x1024 .f32) (s : FVec Ideal S16x128 .f32) (r : Fin 1) (l : Fin 128) :
    newC c slab bt s (ix2 r l) = (∑ j : Fin 16, slab (ix2 j (lane c l)) * s (ix2 j l)) + bt (ix2 (0 : Fin 1) (lane c l)) := by
  pointwise [newC]
  rfl

/-- Where the gather reads. -/
theorem gat_index : ∀ (j : Fin 16) (l : Fin 128),
    (Scalar.select (IntOp.cmpi .slt (BitVec.ofNat 32 (src j l).val) 0#32) (IntOp.addi (BitVec.ofNat 32 (src j l).val) 128#32) (BitVec.ofNat 32 (src j l).val)).toNat % 128
      = (src j l).val := by
  decide +kernel

/-- The next state takes, in each lane, the new value of the row's lane of the same group of sixteen. -/
theorem gatC_apply (v : IVec S16x128 32) (hv : ∀ (j : Fin 16) (l : Fin 128), v (ix2 j l) = BitVec.ofNat 32 (src j l).val) (n : FVec Ideal S1x128 .f32) (j : Fin 16) (l : Fin 128) :
    gatC v n (ix2 j l) = n (ix2 (0 : Fin 1) (src j l)) := by
  pointwise [gatC]
  congr 2
  apply Fin.ext
  simp only [hv]
  exact gat_index j l

/-- The index array of the gather. -/
theorem group_index : ∀ (l : Fin 128) (j : Fin 16),
    IntOp.addi (IntOp.muli (Scalar.select
          (IntOp.andi (IntOp.cmpi .ne
              (IntOp.subi (BitVec.setWidth 32 (IntOp.cmpi .sgt (BitVec.ofNat 32 l.val) 0#32)) (BitVec.setWidth 32 (IntOp.cmpi .slt (BitVec.ofNat 32 l.val) 0#32)))
              (Scalar.subi (Scalar.extui (Scalar.cmpi .sgt 16#32 0#32)) (Scalar.extui (Scalar.cmpi .slt 16#32 0#32))))
            (IntOp.cmpi .ne (IntOp.remsi .vector (BitVec.ofNat 32 l.val) 16#32) 0#32))
          (IntOp.subi (IntOp.divsi .vector (BitVec.ofNat 32 l.val) 16#32) 1#32)
          (IntOp.divsi .vector (BitVec.ofNat 32 l.val) 16#32)) 16#32) (BitVec.ofNat 32 j.val) = BitVec.ofNat 32 (src j l).val := by
  decide +kernel

/-- The lane numbers the kernel computes for its gather. -/
theorem pay750 (j : Fin 16) (l : Fin 128) : k0_pay750 (ix2 j l) = BitVec.ofNat 32 (src j l).val := by
  pointwise [k0_pay750]
  exact group_index l j

end Cert.KernelIdeal.Lru

end
-- ==== Proof.Lru.Loop.lean ====
/- The time loop of a grid point, as the recurrence of 1024 lanes. -/
module

public import proofs.«01_k».proof.Proof.Lru.Entry
public import Idealize.ShloMosaic.Lib.Pipeline.Value

@[expose] public section

set_option maxRecDepth 16384

noncomputable section

namespace Cert.KernelIdeal.Lru

open Idealize.ShloMosaic Idealize.ShloMosaic.TcCoe Idealize.ShloMosaic.Tactic
open Cert.KernelIdeal Cert.KernelIdeal.Gen

/-- The first lane of the group of sixteen of `L`, moved on by `j`. -/
def lsrc (j : Fin 16) (L : Fin 1024) : Fin 1024 := ⟨16 * (L.val / 16) + j.val, by omega⟩

/-- The gather's source lane, chunk by chunk. -/
theorem lane_src (c : Fin 8) (j : Fin 16) (l : Fin 128) : lane c (src j l) = lsrc j (lane c l) := by
  apply Fin.ext; simp only [lane, src, lsrc]; omega

/-- The new value of lane `L`. -/
def newL (a : Fin 16 → Fin 1024 → EReal) (b : Fin 1024 → EReal) (s : Fin 16 → Fin 1024 → EReal) (L : Fin 1024) : EReal :=
  (∑ j : Fin 16, a j L * s j L) + b L

/-- The lane states after `n` steps from `S`. -/
def hsL (A : ℕ → Fin 16 → Fin 1024 → EReal) (B : ℕ → Fin 1024 → EReal) (S : Fin 16 → Fin 1024 → EReal) : ℕ → Fin 16 → Fin 1024 → EReal
  | 0 => S
  | n + 1 => fun j L => newL (A n) (B n) (hsL A B S n) (lsrc j L)

/-- Where a trip reads its gates. -/
theorem k0_off2_eq : ∀ (k : Fin k0_t1_loop.trips) (u : Fin 32), k0_off2 k (BitVec.ofNat 32 u.val) = ![32 * k.val + u.val, 0, 0] := by decide +kernel
/-- Where a trip reads its inputs. -/
theorem k0_off1_eq : ∀ (k : Fin k0_t1_loop.trips), k0_off1 k = ![4 * k.val, 0, 0] := by decide +kernel
/-- Where a trip stores the first half's rows. -/
theorem k0_off3_eq : ∀ (k : Fin k0_t1_loop.trips), k0_off3 k = ![0, 32 * k.val, 0] := by decide +kernel
/-- Where a trip stores the second half's rows. -/
theorem k0_off4_eq : ∀ (k : Fin k0_t1_loop.trips), k0_off4 k = ![1, 32 * k.val, 0] := by decide +kernel
/-- There are four trips. -/
theorem trips_lt : ∀ (k : Fin k0_t1_loop.trips), k.val < 4 := by decide +kernel

section
variable (arg6 : Memref sig .tc .vmem S128x16x1024 .f32) (arg7 : Memref sig .tc .vmem S16x8x1024 .f32)
  (X6 : BufTy.Contents (Elt Ideal) arg6.view.ty) (X7 : BufTy.Contents (Elt Ideal) arg7.view.ty)
  (A : ℕ → Fin 16 → Fin 1024 → EReal) (B : ℕ → Fin 1024 → EReal)

/-- A trip's gates at an index. -/
theorem slabAt_apply (hA : ∀ (n : Fin 128) (j : Fin 16) (L : Fin 1024), arg6.view.read (Elt Ideal) X6 (ix3 n j L) = A n.val j L)
    (k : Fin k0_t1_loop.trips) (u : ℕ) (hu : u < 32) (j : Fin 16) (L : Fin 1024) :
    slabAt arg6 X6 k u (ix2 j L) = A (32 * k.val + u) j L := by
  have hk := trips_lt k
  rw [← hA ⟨32 * k.val + u, by omega⟩ j L]
  unfold slabAt
  pointwise [k0_pay5]
  refine congrArg (arg6.view.read (Elt Ideal) X6) (funext fun a => Fin.ext ?_)
  have ho := k0_off2_eq k ⟨u % 32, Nat.mod_lt _ (by decide)⟩
  show k0_off2 k (BitVec.ofNat 32 (u % 32)) a + 1 * (ix3 (0 : Fin 1) j L a).val = _
  rw [ho]
  fin_cases a
  · show 32 * k.val + u % 32 + 1 * 0 = 32 * k.val + u; omega
  · show 0 + 1 * j.val = j.val; omega
  · show 0 + 1 * L.val = L.val; omega

/-- A trip's inputs at an index. -/
theorem btAt_apply (hB : ∀ (r : Fin 16) (q : Fin 8) (L : Fin 1024), arg7.view.read (Elt Ideal) X7 (ix3 r q L) = B (8 * r.val + q.val) L)
    (k : Fin k0_t1_loop.trips) (u : ℕ) (hu : u < 32) (r : Fin 1) (L : Fin 1024) :
    btAt arg7 X7 k u (ix2 r L) = B (32 * k.val + u) L := by
  have hk := trips_lt k
  have e : 32 * k.val + u = 8 * (4 * k.val + u / 8) + u % 8 := by omega
  have hB' := hB ⟨4 * k.val + u / 8, by omega⟩ ⟨u % 8, by omega⟩ L
  rw [e, ← hB']
  unfold btAt
  pointwise [k0_pay4]
  refine congrArg (arg7.view.read (Elt Ideal) X7) (funext fun a => Fin.ext ?_)
  show k0_off1 k a + 1 * (ix3 (⟨u % 32 / 8, by omega⟩ : Fin 4) (⟨u % 32 % 8, by omega⟩ : Fin 8) L a).val = _
  rw [k0_off1_eq]
  fin_cases a
  · show 4 * k.val + 1 * (u % 32 / 8) = 4 * k.val + u / 8; omega
  · show 0 + 1 * (u % 32 % 8) = u % 8; omega
  · show 0 + 1 * L.val = L.val; omega
end

/-- The rows of a trip, lane by lane. -/
theorem rows_apply (v : IVec S16x128 32) (slab : ℕ → FVec Ideal S16x1024 .f32) (bt : ℕ → FVec Ideal S1x1024 .f32)
    (s : Fin 8 → FVec Ideal S16x128 .f32) (u : Fin 32) (c : Fin 8) (l : Fin 128) :
    rows v slab bt s (ix2 u (lane c l)) = newC c (slab u.val) (bt u.val) (stU v slab bt c (s c) u.val) (ix2 (0 : Fin 1) l) := by
  unfold rows
  refine (concatenate_ofFn_apply (t := S32x1024) (s₁ := S32x128) (1 : Fin 2) (fun c : Fin 8 => rowsC v slab bt c (s c)) _ rfl 128 rfl (ix2 u (lane c l)) c
    (by show (128 * c.val + l.val) / 128 = c.val; omega) (ix2 u l) (by show l.val = (128 * c.val + l.val) % 128; omega) ?_).trans ?_
  · intro b hb
    fin_cases b
    · rfl
    · exact absurd rfl hb
  unfold rowsC
  refine concatenate_ofFn_unit_apply (t := S32x128) (s₁ := S1x128) (0 : Fin 2) (fun u : Fin 32 => newC c (slab u.val) (bt u.val) (stU v slab bt c (s c) u.val)) _ rfl rfl
    (ix2 u l) u rfl (ix2 (0 : Fin 1) l) ?_
  intro b hb
  fin_cases b
  · exact absurd rfl hb
  · rfl

/-- Within a trip the chunks' states are the lane states. -/
theorem stU_apply (v : IVec S16x128 32) (hv : ∀ (j : Fin 16) (l : Fin 128), v (ix2 j l) = BitVec.ofNat 32 (src j l).val)
    (slab : ℕ → FVec Ideal S16x1024 .f32) (bt : ℕ → FVec Ideal S1x1024 .f32) (A : ℕ → Fin 16 → Fin 1024 → EReal) (B : ℕ → Fin 1024 → EReal)
    (S : Fin 16 → Fin 1024 → EReal) (o N : ℕ) (hs : ∀ u < N, ∀ j L, slab u (ix2 j L) = A (o + u) j L)
    (hb : ∀ u < N, ∀ L, bt u (ix2 (0 : Fin 1) L) = B (o + u) L) (c : Fin 8) (s : FVec Ideal S16x128 .f32)
    (h0 : ∀ j l, s (ix2 j l) = hsL A B S o j (lane c l)) :
    ∀ u ≤ N, ∀ j l, stU v slab bt c s u (ix2 j l) = hsL A B S (o + u) j (lane c l)
  | 0, _, j, l => h0 j l
  | u + 1, hu, j, l => by
    have ih := stU_apply v hv slab bt A B S o N hs hb c s h0 u (by omega)
    show gatC v (newC c (slab u) (bt u) (stU v slab bt c s u)) (ix2 j l) = newL (A (o + u)) (B (o + u)) (hsL A B S (o + u)) (lsrc j (lane c l))
    rw [gatC_apply v hv, newC_apply, lane_src, hb u (by omega)]
    unfold newL
    congr 1
    exact Finset.sum_congr rfl fun i _ => by rw [hs u (by omega), ih, lane_src]

/-- Within a trip the rows are the new values of the lanes. -/
theorem rows_lane (v : IVec S16x128 32) (hv : ∀ (j : Fin 16) (l : Fin 128), v (ix2 j l) = BitVec.ofNat 32 (src j l).val)
    (slab : ℕ → FVec Ideal S16x1024 .f32) (bt : ℕ → FVec Ideal S1x1024 .f32) (A : ℕ → Fin 16 → Fin 1024 → EReal) (B : ℕ → Fin 1024 → EReal)
    (S : Fin 16 → Fin 1024 → EReal) (o : ℕ) (hs : ∀ u < 32, ∀ j L, slab u (ix2 j L) = A (o + u) j L)
    (hb : ∀ u < 32, ∀ L, bt u (ix2 (0 : Fin 1) L) = B (o + u) L) (s : Fin 8 → FVec Ideal S16x128 .f32)
    (h0 : ∀ c j l, s c (ix2 j l) = hsL A B S o j (lane c l)) (u : Fin 32) (L : Fin 1024) :
    rows v slab bt s (ix2 u L) = newL (A (o + u.val)) (B (o + u.val)) (hsL A B S (o + u.val)) L := by
  obtain ⟨c, l, rfl⟩ : ∃ c l, L = lane c l := ⟨⟨L.val / 128, by omega⟩, ⟨L.val % 128, by omega⟩, by apply Fin.ext; simp only [lane]; omega⟩
  rw [rows_apply, newC_apply, hb u.val u.isLt]
  unfold newL
  congr 1
  exact Finset.sum_congr rfl fun i _ => by
    rw [hs u.val u.isLt, stU_apply v hv slab bt A B S o 32 hs hb c (s c) (h0 c) u.val (by omega)]

end Cert.KernelIdeal.Lru

end
-- ==== Proof.Lru.Point.lean ====
/- The four trips of a grid point: the carried states and the stored rows. -/
module

public import proofs.«01_k».proof.Proof.Lru.Loop

@[expose] public section

set_option maxRecDepth 16384

noncomputable section

namespace Cert.KernelIdeal.Lru

open Idealize.ShloMosaic Idealize.ShloMosaic.TcCoe Idealize.ShloMosaic.Tactic
open Cert.KernelIdeal Cert.KernelIdeal.Gen

/-- What the point writes to its output block: the new values, batch element by batch element. -/
def outG (A : ℕ → Fin 16 → Fin 1024 → EReal) (B : ℕ → Fin 1024 → EReal) (S : Fin 16 → Fin 1024 → EReal) (y : S2x128x512.Idx) : EReal :=
  newL (A (y 1).val) (B (y 1).val) (hsL A B S (y 1).val) ⟨512 * (y 0).val + (y 2).val, by
    have h0 : (y 0).val < 2 := (y 0).isLt
    have h2 : (y 2).val < 512 := (y 2).isLt
    omega⟩

/-- The output block, read off the lanes' states. -/
theorem outG_eq (A : ℕ → Fin 16 → Fin 1024 → EReal) (B : ℕ → Fin 1024 → EReal) (S : Fin 16 → Fin 1024 → EReal) (y : S2x128x512.Idx)
    (t : ℕ) (L : Fin 1024) (h1 : (y 1).val = t) (h2 : 512 * (y 0).val + (y 2).val = L.val) :
    newL (A t) (B t) (hsL A B S t) L = outG A B S y := by
  subst h1
  unfold outG
  congr 1
  exact Fin.ext h2.symm

variable (𝒱 : Variants) (c : Dev nD) (bd : Option 𝒱.V) (i : grid0.Coords) (arg2 : Memref sig .tc .vmem S2x128x1024 .bf16) (harg2 : arg2.IsWhole) (arg3 : Memref sig .tc .vmem S2x128x512 .f32) (harg3 : arg3.IsWhole) (arg4 : Memref sig .tc .vmem S1x1024x8704 .bf16) (harg4 : arg4.IsWhole) (arg5 : Memref sig .tc .vmem S2x128x512 .f32) (harg5 : arg5.IsWhole) (arg6 : Memref sig .tc .vmem S128x16x1024 .f32) (harg6 : arg6.IsWhole) (arg7 : Memref sig .tc .vmem S16x8x1024 .f32) (harg7 : arg7.IsWhole) (arg8 : Memref sig .tc .vmem S16x1024 .f32) (harg8 : arg8.IsWhole) (v228 : IVec S16x128 32) (X_arg6 : BufTy.Contents (Elt Ideal) arg6.view.ty) (X_arg7 : BufTy.Contents (Elt Ideal) arg7.view.ty)
  (hv : ∀ (j : Fin 16) (l : Fin 128), v228 (ix2 j l) = BitVec.ofNat 32 (src j l).val)
  (A : ℕ → Fin 16 → Fin 1024 → EReal) (B : ℕ → Fin 1024 → EReal) (S : Fin 16 → Fin 1024 → EReal)
  (hA : ∀ (n : Fin 128) (j : Fin 16) (L : Fin 1024), arg6.view.read (Elt Ideal) X_arg6 (ix3 n j L) = A n.val j L)
  (hB : ∀ (r : Fin 16) (q : Fin 8) (L : Fin 1024), arg7.view.read (Elt Ideal) X_arg7 (ix3 r q L) = B (8 * r.val + q.val) L)
  (init : St8 Ideal) (h0 : ∀ c j l, St8.get init c (ix2 j l) = S j (lane c l))

include hv hA hB h0

/-- The states before a trip are the lane states. -/
theorem st_get : ∀ n ≤ 4, ∀ e j l, St8.get ((st_k0_t1 (F := Ideal) 𝒱 c bd i arg2 harg2 arg3 harg3 arg4 harg4 arg5 harg5 arg6 harg6 arg7 harg7 arg8 harg8 v228 X_arg6 X_arg7 init n).1) e (ix2 j l) = hsL A B S (32 * n) j (lane e l)
  | 0, _, e, j, l => h0 e j l
  | n + 1, hn, e, j, l => by
    have ih := st_get n (by omega)
    have hk : n < k0_t1_loop.trips := lt_of_lt_of_le (by omega : n < 4) (by decide)
    have e1 := st_k0_t1_succ (F := Ideal) 𝒱 c bd i arg2 harg2 arg3 harg3 arg4 harg4 arg5 harg5 arg6 harg6 arg7 harg7 arg8 harg8 v228 X_arg6 X_arg7 init ⟨n, hk⟩
    rw [show n + 1 = (⟨n, hk⟩ : Fin k0_t1_loop.trips).val + 1 from rfl, e1, tripR_get]
    rw [stU_apply v228 hv (slabAt arg6 X_arg6 ⟨n, hk⟩) (btAt arg7 X_arg7 ⟨n, hk⟩) A B S (32 * n) 32
      (fun u hu j L => slabAt_apply arg6 X_arg6 A hA ⟨n, hk⟩ u hu j L) (fun u hu L => btAt_apply arg7 X_arg7 B hB ⟨n, hk⟩ u hu 0 L) e _ (ih e) 32 le_rfl j l]
    congr 1

/-- Every stored piece agrees with the output block. -/
theorem st_pieces : ∀ n ≤ 4, ∀ p ∈ (st_k0_t1 (F := Ideal) 𝒱 c bd i arg2 harg2 arg3 harg3 arg4 harg4 arg5 harg5 arg6 harg6 arg7 harg7 arg8 harg8 v228 X_arg6 X_arg7 init n).2, ∀ x : p.1.shape.Idx, p.2 x = outG A B S (p.1.emb x)
  | 0, _, p, hp, x => absurd hp List.not_mem_nil
  | n + 1, hn, p, hp, x => by
    have ih := st_pieces n (by omega)
    have hk : n < k0_t1_loop.trips := lt_of_lt_of_le (by omega : n < 4) (by decide)
    have e1 := st_k0_t1_succ (F := Ideal) 𝒱 c bd i arg2 harg2 arg3 harg3 arg4 harg4 arg5 harg5 arg6 harg6 arg7 harg7 arg8 harg8 v228 X_arg6 X_arg7 init ⟨n, hk⟩
    rw [show n + 1 = (⟨n, hk⟩ : Fin k0_t1_loop.trips).val + 1 from rfl, e1, tripL_eq] at hp
    have hr := rows_lane v228 hv (slabAt arg6 X_arg6 ⟨n, hk⟩) (btAt arg7 X_arg7 ⟨n, hk⟩) A B S (32 * n)
      (fun u hu j L => slabAt_apply arg6 X_arg6 A hA ⟨n, hk⟩ u hu j L) (fun u hu L => btAt_apply arg7 X_arg7 B hB ⟨n, hk⟩ u hu 0 L) _
      (st_get 𝒱 c bd i arg2 harg2 arg3 harg3 arg4 harg4 arg5 harg5 arg6 harg6 arg7 harg7 arg8 harg8 v228 X_arg6 X_arg7 hv A B S hA hB init h0 n (by omega))
    rcases List.mem_append.mp hp with hp | hp
    · rcases List.mem_cons.mp hp with rfl | hp
      · revert x
        intro (x : S1x32x512.Idx)
        idx_vars x
        pointwise [k0_pay2]
        refine (hr _ _).trans (outG_eq A B S _ _ _ ?_ ?_)
        · show k0_off4 ⟨n, hk⟩ 1 + 1 * x1.val = 32 * n + x1.val
          rw [k0_off4_eq]
          show 32 * n + 1 * x1.val = _
          omega
        · have e0 := Fin.val_eq_zero x0
          show 512 * (k0_off4 ⟨n, hk⟩ 0 + 1 * x0.val) + (k0_off4 ⟨n, hk⟩ 2 + 1 * x2.val) = 512 + x2.val
          rw [k0_off4_eq]
          show 512 * (1 + 1 * x0.val) + (0 + 1 * x2.val) = _
          omega
      · rcases List.mem_singleton.mp hp with rfl
        revert x
        intro (x : S1x32x512.Idx)
        idx_vars x
        pointwise [k0_pay1]
        refine (hr _ _).trans (outG_eq A B S _ _ _ ?_ ?_)
        · show k0_off3 ⟨n, hk⟩ 1 + 1 * x1.val = 32 * n + x1.val
          rw [k0_off3_eq]
          show 32 * n + 1 * x1.val = _
          omega
        · have e0 := Fin.val_eq_zero x0
          show 512 * (k0_off3 ⟨n, hk⟩ 0 + 1 * x0.val) + (k0_off3 ⟨n, hk⟩ 2 + 1 * x2.val) = x2.val
          rw [k0_off3_eq]
          show 512 * (0 + 1 * x0.val) + (0 + 1 * x2.val) = _
          omega
    · exact ih p hp x

omit hv hA hB h0 in
/-- The pieces of the first `n` trips cover the first `32 n` rows of the output block. -/
theorem st_cover : ∀ n ≤ 4, ∀ y : S2x128x512.Idx, (y 1).val < 32 * n →
    ∃ p ∈ (st_k0_t1 (F := Ideal) 𝒱 c bd i arg2 harg2 arg3 harg3 arg4 harg4 arg5 harg5 arg6 harg6 arg7 harg7 arg8 harg8 v228 X_arg6 X_arg7 init n).2, y ∈ p.1.set
  | 0, _, y, hy => absurd hy (by omega)
  | n + 1, hn, y, hy => by
    have hk : n < k0_t1_loop.trips := lt_of_lt_of_le (by omega : n < 4) (by decide)
    have e1 := st_k0_t1_succ (F := Ideal) 𝒱 c bd i arg2 harg2 arg3 harg3 arg4 harg4 arg5 harg5 arg6 harg6 arg7 harg7 arg8 harg8 v228 X_arg6 X_arg7 init ⟨n, hk⟩
    rw [show n + 1 = (⟨n, hk⟩ : Fin k0_t1_loop.trips).val + 1 from rfl, e1, tripL_eq]
    by_cases hlt : (y 1).val < 32 * n
    · obtain ⟨p, hp, hy'⟩ := st_cover n (by omega) y hlt
      exact ⟨p, List.mem_append_right _ hp, hy'⟩
    have y0 : (y 0).val < 2 := (y 0).isLt
    have y2 : (y 2).val < 512 := (y 2).isLt
    by_cases hb : (y 0).val = 1
    · refine ⟨_, List.mem_append_left _ List.mem_cons_self, ?_⟩
      rw [Rect.mem_set_unit]
      intro a
      rw [k0_off4_eq]
      fin_cases a
      · show 1 ≤ (y 0).val ∧ (y 0).val < 1 + 1; omega
      · show 32 * n ≤ (y 1).val ∧ (y 1).val < 32 * n + 32; omega
      · show 0 ≤ (y 2).val ∧ (y 2).val < 0 + 512; omega
    · refine ⟨_, List.mem_append_left _ (List.mem_cons_of_mem _ List.mem_cons_self), ?_⟩
      rw [Rect.mem_set_unit]
      intro a
      rw [k0_off3_eq]
      fin_cases a
      · show 0 ≤ (y 0).val ∧ (y 0).val < 0 + 1; omega
      · show 32 * n ≤ (y 1).val ∧ (y 1).val < 32 * n + 32; omega
      · show 0 ≤ (y 2).val ∧ (y 2).val < 0 + 512; omega

/-- The output block after the loop, whatever it held. -/
theorem read_out (f : BufTy.Contents (Elt Ideal) arg5.view.ty) :
    arg5.view.read (Elt Ideal) (arg5.view.writes (Elt Ideal) f (st_k0_t1 (F := Ideal) 𝒱 c bd i arg2 harg2 arg3 harg3 arg4 harg4 arg5 harg5 arg6 harg6 arg7 harg7 arg8 harg8 v228 X_arg6 X_arg7 init 4).2) = outG A B S := by
  funext y
  exact View.read_writes_apply_of_pieces _ _ (outG A B S) _
    (st_pieces 𝒱 c bd i arg2 harg2 arg3 harg3 arg4 harg4 arg5 harg5 arg6 harg6 arg7 harg7 arg8 harg8 v228 X_arg6 X_arg7 hv A B S hA hB init h0 4 le_rfl) y
    (st_cover 𝒱 c bd i arg2 harg2 arg3 harg3 arg4 harg4 arg5 harg5 arg6 harg6 arg7 harg7 arg8 harg8 v228 X_arg6 X_arg7 init 4 le_rfl y (y 1).isLt)

omit hv hA hB h0 in
/-- The stored state is the eight chunks side by side. -/
theorem pay3_apply (s : St8 Ideal) (c : Fin 8) (j : Fin 16) (l : Fin 128) :
    k0_pay3 s.1 s.2.1 s.2.2.1 s.2.2.2.1 s.2.2.2.2.1 s.2.2.2.2.2.1 s.2.2.2.2.2.2.1 s.2.2.2.2.2.2.2 (ix2 j (lane c l)) = St8.get s c (ix2 j l) := by
  have e : k0_pay3 s.1 s.2.1 s.2.2.1 s.2.2.2.1 s.2.2.2.2.1 s.2.2.2.2.2.1 s.2.2.2.2.2.2.1 s.2.2.2.2.2.2.2
      = shapeCast S16x1024 (concatenate S16x1024 1 (List.ofFn fun c : Fin 8 => (⟨S16x128, St8.get s c⟩ : (s : Shape) × (s.Idx → Elt Ideal .f32)))
        concatenates_S16x128_S16x128_S16x128_S16x128_S16x128_S16x128_S16x128_S16x128_S16x1024_d1) shapeCasts_S16x1024_S16x1024 := rfl
  rw [e, shapeCast_self]
  refine concatenate_ofFn_apply (t := S16x1024) (s₁ := S16x128) (1 : Fin 2) (fun c : Fin 8 => St8.get s c) _ rfl 128 rfl (ix2 j (lane c l)) c
    (by show (128 * c.val + l.val) / 128 = c.val; omega) (ix2 j l) (by show l.val = (128 * c.val + l.val) % 128; omega) ?_
  intro b hb
  fin_cases b
  · rfl
  · exact absurd rfl hb

end Cert.KernelIdeal.Lru

end
-- ==== Proof.Lru.GatesVal.lean ====
/- The gates of a grid point read lane by lane at the ideal elements. -/
module

public import proofs.«01_k».proof.Proof.Lru.Gates
public import proofs.«01_k».proof.Proof.Lru.Point

@[expose] public section

set_option maxRecDepth 16384

noncomputable section

namespace Cert.KernelIdeal.Lru

open Idealize.ShloMosaic Idealize.ShloMosaic.TcCoe Idealize.ShloMosaic.Tactic
open Cert.KernelIdeal Cert.KernelIdeal.Gen

/-- The logit of row `t` of batch element `b` at weight column `n`. -/
def lgX (x0 : S2x128x1024.Idx → EReal) (x2 : S1x1024x8704.Idx → EReal) (b : Fin 2) (t : Fin 128) (n : Fin 8704) : EReal :=
  ∑ k : Fin 1024, x0 (ix3 b t k) * x2 (ix3 (0 : Fin 1) k n)

/-- The exponential of gate `j` at column `l`. -/
def eX (x0 : S2x128x1024.Idx → EReal) (x2 : S1x1024x8704.Idx → EReal) (j : Fin 17) (b : Fin 2) (t : Fin 128) (l : Fin 512) : EReal :=
  FloatOps.exp (F := Ideal) (φ := .f32) (lgX x0 x2 b t ⟨512 * j.val + l.val, by omega⟩)

/-- The reciprocal of the sum of the exponentials. -/
def rX (x0 : S2x128x1024.Idx → EReal) (x2 : S1x1024x8704.Idx → EReal) (b : Fin 2) (t : Fin 128) (l : Fin 512) : EReal :=
  FloatOps.divf (F := Ideal) (φ := .f32) 1 (∑ j : Fin 17, eX x0 x2 j b t l)

section
variable (arg2 : Memref sig .tc .vmem S2x128x1024 .bf16) (harg2 : arg2.IsWhole) (arg3 : Memref sig .tc .vmem S2x128x512 .f32) (harg3 : arg3.IsWhole)
  (arg4 : Memref sig .tc .vmem S1x1024x8704 .bf16) (harg4 : arg4.IsWhole) (x0 : S2x128x1024.Idx → EReal) (x1 : S2x128x512.Idx → EReal) (x2 : S1x1024x8704.Idx → EReal)

/-- The rows, read from the two batch elements. -/
theorem hB_apply (b : Fin 2) (t : Fin 128) (k : Fin 1024) :
    hB (F := Ideal) arg2 harg2 x0 (ix2 (⟨128 * b.val + t.val, by omega⟩ : Fin 256) k) = x0 (ix3 b t k) := by
  unfold hB
  pointwise [k0_pay702]
  obtain rfl | rfl : b = 0 ∨ b = 1 := by omega
  · rw [dif_pos (show 128 * (0 : Fin 2).val + t.val < 128 by simp)]
    rw [View.readAt_apply, harg2.read_unread]
    refine congrArg x0 (funext fun a => Fin.ext ?_)
    fin_cases a
    · rfl
    · show 0 + 1 * (128 * 0 + t.val) = t.val; omega
    · show 0 + 1 * k.val = k.val; omega
  · rw [dif_neg (show ¬ 128 * (1 : Fin 2).val + t.val < 128 by simp)]
    rw [View.readAt_apply, harg2.read_unread]
    refine congrArg x0 (funext fun a => Fin.ext ?_)
    fin_cases a
    · rfl
    · show 0 + 1 * (128 * 1 + t.val - 128) = t.val; omega
    · show 0 + 1 * k.val = k.val; omega

/-- The inputs, read from the two batch elements. -/
theorem vB_apply (b : Fin 2) (t : Fin 128) (l : Fin 512) :
    vB (F := Ideal) arg3 harg3 x1 (ix2 t (⟨512 * b.val + l.val, by omega⟩ : Fin 1024)) = x1 (ix3 b t l) := by
  unfold vB
  pointwise [k0_pay703]
  obtain rfl | rfl : b = 0 ∨ b = 1 := by omega
  · rw [dif_pos (show 512 * (0 : Fin 2).val + l.val < 512 by simp)]
    rw [View.readAt_apply, harg3.read_unread]
    refine congrArg x1 (funext fun a => Fin.ext ?_)
    fin_cases a
    · rfl
    · show 0 + 1 * t.val = t.val; omega
    · show 0 + 1 * (512 * 0 + l.val) = l.val; omega
  · rw [dif_neg (show ¬ 512 * (1 : Fin 2).val + l.val < 512 by simp)]
    rw [View.readAt_apply, harg3.read_unread]
    refine congrArg x1 (funext fun a => Fin.ext ?_)
    fin_cases a
    · rfl
    · show 0 + 1 * t.val = t.val; omega
    · show 0 + 1 * (512 * 1 + l.val - 512) = l.val; omega

/-- A group's weights. -/
theorem wB_apply (g : Fin 4) (k : Fin 1024) (n : Fin 2048) :
    wB (F := Ideal) arg4 harg4 x2 g (ix3 (0 : Fin 1) k n) = x2 (ix3 (0 : Fin 1) k (⟨2048 * g.val + n.val, by omega⟩ : Fin 8704)) := by
  unfold wB
  rw [View.readAt_apply, harg4.read_unread]
  refine congrArg x2 (funext fun a => Fin.ext ?_)
  fin_cases a
  · rfl
  · show 0 + 1 * k.val = k.val; omega
  · show 2048 * g.val + 1 * n.val = 2048 * g.val + n.val; omega

/-- The last gate's weights. -/
theorem w4B_apply (k : Fin 1024) (n : Fin 512) :
    w4B (F := Ideal) arg4 harg4 x2 (ix3 (0 : Fin 1) k n) = x2 (ix3 (0 : Fin 1) k (⟨8192 + n.val, by omega⟩ : Fin 8704)) := by
  unfold w4B
  rw [View.readAt_apply, harg4.read_unread]
  refine congrArg x2 (funext fun a => Fin.ext ?_)
  fin_cases a
  · rfl
  · show 0 + 1 * k.val = k.val; omega
  · show 8192 + 1 * n.val = 8192 + n.val; omega

/-- A gate's exponentials, for the gates of the four full column groups, at an index. -/
theorem eK_apply (h : FVec Ideal S256x1024 .bf16) (w : Fin 4 → Vec Ideal S1x1024x2048 .bf16) (w4 : Vec Ideal S1x1024x512 .bf16) (j : ℕ) (hj : j < 16) (r : Fin 256) (l : Fin 512) :
    eK h w w4 j (ix2 r l) = FloatOps.exp (F := Ideal) (φ := .f32) (∑ k : Fin 1024, h (ix2 r k) * w ⟨j / 4, by omega⟩ (ix3 (0 : Fin 1) k (⟨512 * (j % 4) + l.val, by omega⟩ : Fin 2048))) := by
  unfold eK
  rw [if_neg (by omega)]
  pointwise
  have e : (⟨j / 4 % 4, Nat.mod_lt _ (by decide)⟩ : Fin 4) = ⟨j / 4, by omega⟩ := Fin.ext (by show j / 4 % 4 = j / 4; omega)
  rw [e]

/-- The last gate's exponentials at an index. -/
theorem eK_apply_last (h : FVec Ideal S256x1024 .bf16) (w : Fin 4 → Vec Ideal S1x1024x2048 .bf16) (w4 : Vec Ideal S1x1024x512 .bf16) (r : Fin 256) (l : Fin 512) :
    eK h w w4 16 (ix2 r l) = FloatOps.exp (F := Ideal) (φ := .f32) (∑ k : Fin 1024, h (ix2 r k) * w4 (ix3 (0 : Fin 1) k l)) := by
  unfold eK
  rw [if_pos rfl]
  pointwise

/-- Row `r`, columns of both batch elements. -/
theorem twoLane_apply (p : FVec Ideal S256x512 .f32) (b : Fin 2) (t : Fin 128) (l : Fin 512) :
    twoLane p (ix2 t (⟨512 * b.val + l.val, by omega⟩ : Fin 1024)) = p (ix2 (⟨128 * b.val + t.val, by omega⟩ : Fin 256) l) := by
  pointwise [twoLane]
  obtain rfl | rfl : b = 0 ∨ b = 1 := by omega
  · rw [dif_pos (show 512 * (0 : Fin 2).val + l.val < 512 by simp)]
    congr 2
    · apply Fin.ext; show t.val = 128 * 0 + t.val; omega
    · apply Fin.ext; show 512 * 0 + l.val = l.val; omega
  · rw [dif_neg (show ¬ 512 * (1 : Fin 2).val + l.val < 512 by simp)]
    congr 2
    apply Fin.ext; show 512 * 1 + l.val - 512 = l.val; omega

/-- The exponentials the kernel computes are those of the logits. -/
theorem eK_eX (j : Fin 17) (b : Fin 2) (t : Fin 128) (l : Fin 512) :
    eK (hB (F := Ideal) arg2 harg2 x0) (wB arg4 harg4 x2) (w4B arg4 harg4 x2) j.val (ix2 (⟨128 * b.val + t.val, by omega⟩ : Fin 256) l)
      = eX x0 x2 j b t l := by
  unfold eX lgX
  by_cases hj : j.val < 16
  · rw [eK_apply _ _ _ _ hj]
    congr 1
    refine Finset.sum_congr rfl fun k _ => ?_
    rw [hB_apply, wB_apply]
    congr 3
    apply Fin.ext
    show 2048 * (j.val / 4) + (512 * (j.val % 4) + l.val) = 512 * j.val + l.val
    omega
  · have e : j.val = 16 := by omega
    refine (congrArg (fun n => eK (hB (F := Ideal) arg2 harg2 x0) (wB arg4 harg4 x2) (w4B arg4 harg4 x2) n (ix2 (⟨128 * b.val + t.val, by omega⟩ : Fin 256) l)) e).trans ?_
    refine (eK_apply_last _ _ _ _ _).trans ?_
    congr 1
    refine Finset.sum_congr rfl fun k _ => ?_
    rw [hB_apply, w4B_apply]
    congr 3
    apply Fin.ext
    show 8192 + l.val = 512 * j.val + l.val
    omega

/-- The running sum is the sum. -/
theorem denK_apply (h : FVec Ideal S256x1024 .bf16) (w : Fin 4 → Vec Ideal S1x1024x2048 .bf16) (w4 : Vec Ideal S1x1024x512 .bf16) (r : Fin 256) (l : Fin 512) :
    ∀ n, denK h w w4 n (ix2 r l) = ∑ j ∈ Finset.range (n + 1), eK h w w4 j (ix2 r l)
  | 0 => by rw [Finset.sum_range_one]; rfl
  | n + 1 => by
    rw [Finset.sum_range_succ, ← denK_apply h w w4 r l n]
    rfl

/-- The reciprocal the kernel computes. -/
theorem rK_rX (b : Fin 2) (t : Fin 128) (l : Fin 512) :
    rK (hB (F := Ideal) arg2 harg2 x0) (wB arg4 harg4 x2) (w4B arg4 harg4 x2) (ix2 (⟨128 * b.val + t.val, by omega⟩ : Fin 256) l)
      = rX x0 x2 b t l := by
  unfold rX
  have e : denK (hB (F := Ideal) arg2 harg2 x0) (wB arg4 harg4 x2) (w4B arg4 harg4 x2) 16 (ix2 (⟨128 * b.val + t.val, by omega⟩ : Fin 256) l)
      = ∑ j : Fin 17, eX x0 x2 j b t l := by
    rw [denK_apply, Finset.sum_range]
    exact Finset.sum_congr rfl fun j _ => eK_eX arg2 harg2 arg4 harg4 x0 x2 j b t l
  rw [← e]
  unfold rK
  pointwise

/-- Gate `j + 1` in lane `L` at row `n`. -/
def aX (n : ℕ) (j : Fin 16) (L : Fin 1024) : EReal :=
  eX x0 x2 j.succ ⟨L.val / 512, by omega⟩ ⟨n % 128, Nat.mod_lt _ (by decide)⟩ ⟨L.val % 512, Nat.mod_lt _ (by decide)⟩
    * rX x0 x2 ⟨L.val / 512, by omega⟩ ⟨n % 128, Nat.mod_lt _ (by decide)⟩ ⟨L.val % 512, Nat.mod_lt _ (by decide)⟩

/-- Gate `0` times the input in lane `L` at row `n`. -/
def bX (n : ℕ) (L : Fin 1024) : EReal :=
  eX x0 x2 0 ⟨L.val / 512, by omega⟩ ⟨n % 128, Nat.mod_lt _ (by decide)⟩ ⟨L.val % 512, Nat.mod_lt _ (by decide)⟩
    * rX x0 x2 ⟨L.val / 512, by omega⟩ ⟨n % 128, Nat.mod_lt _ (by decide)⟩ ⟨L.val % 512, Nat.mod_lt _ (by decide)⟩
    * x1 (ix3 (⟨L.val / 512, by omega⟩ : Fin 2) (⟨n % 128, Nat.mod_lt _ (by decide)⟩ : Fin 128) (⟨L.val % 512, Nat.mod_lt _ (by decide)⟩ : Fin 512))

/-- A lane is its half and its place in the half. -/
theorem lane_split (L : Fin 1024) : L = ⟨512 * (L.val / 512) + L.val % 512, by omega⟩ := Fin.ext (by show L.val = 512 * (L.val / 512) + L.val % 512; omega)

/-- The stored gates, lane by lane. -/
theorem paK_apply (j : Fin 16) (n : Fin 128) (i : Fin 1) (L : Fin 1024) :
    paK (hB (F := Ideal) arg2 harg2 x0) (wB arg4 harg4 x2) (w4B arg4 harg4 x2) j.val (ix3 n i L) = aX x0 x2 n.val j L := by
  have en : (⟨n.val % 128, Nat.mod_lt _ (by decide)⟩ : Fin 128) = n := Fin.ext (Nat.mod_eq_of_lt n.isLt)
  have e1 := eK_eX arg2 harg2 arg4 harg4 x0 x2 j.succ ⟨L.val / 512, by omega⟩ n ⟨L.val % 512, Nat.mod_lt _ (by decide)⟩
  have e2 := rK_rX arg2 harg2 arg4 harg4 x0 x2 ⟨L.val / 512, by omega⟩ n ⟨L.val % 512, Nat.mod_lt _ (by decide)⟩
  unfold aX
  rw [en, ← e1, ← e2]
  unfold paK
  pointwise
  have h := twoLane_apply (mulf (eK (hB (F := Ideal) arg2 harg2 x0) (wB arg4 harg4 x2) (w4B arg4 harg4 x2) (j.val + 1)) (rK (hB (F := Ideal) arg2 harg2 x0) (wB arg4 harg4 x2) (w4B arg4 harg4 x2)))
    ⟨L.val / 512, by omega⟩ n ⟨L.val % 512, Nat.mod_lt _ (by decide)⟩
  rw [← lane_split L] at h
  exact h

/-- The stored inputs, lane by lane. -/
theorem bvK_apply (r : Fin 16) (q : Fin 8) (L : Fin 1024) :
    bvK (hB (F := Ideal) arg2 harg2 x0) (wB arg4 harg4 x2) (w4B arg4 harg4 x2) (vB arg3 harg3 x1) (ix3 r q L) = bX x0 x1 x2 (8 * r.val + q.val) L := by
  have hn : 8 * r.val + q.val < 128 := by omega
  have en : (⟨(8 * r.val + q.val) % 128, Nat.mod_lt _ (by decide)⟩ : Fin 128) = ⟨8 * r.val + q.val, hn⟩ := Fin.ext (Nat.mod_eq_of_lt hn)
  have e1 := eK_eX arg2 harg2 arg4 harg4 x0 x2 0 ⟨L.val / 512, by omega⟩ ⟨8 * r.val + q.val, hn⟩ ⟨L.val % 512, Nat.mod_lt _ (by decide)⟩
  have e2 := rK_rX arg2 harg2 arg4 harg4 x0 x2 ⟨L.val / 512, by omega⟩ ⟨8 * r.val + q.val, hn⟩ ⟨L.val % 512, Nat.mod_lt _ (by decide)⟩
  have e3 := vB_apply arg3 harg3 x1 ⟨L.val / 512, by omega⟩ ⟨8 * r.val + q.val, hn⟩ ⟨L.val % 512, Nat.mod_lt _ (by decide)⟩
  have h := twoLane_apply (mulf (eK (hB (F := Ideal) arg2 harg2 x0) (wB arg4 harg4 x2) (w4B arg4 harg4 x2) 0) (rK (hB (F := Ideal) arg2 harg2 x0) (wB arg4 harg4 x2) (w4B arg4 harg4 x2)))
    ⟨L.val / 512, by omega⟩ ⟨8 * r.val + q.val, hn⟩ ⟨L.val % 512, Nat.mod_lt _ (by decide)⟩
  rw [← lane_split L] at h e3
  unfold bX
  rw [en, ← e1, ← e2, ← e3]
  unfold bvK
  pointwise
  have eq : (⟨r.val * 8 + q.val, by omega⟩ : Fin 128) = ⟨8 * r.val + q.val, hn⟩ := Fin.ext (by show r.val * 8 + q.val = 8 * r.val + q.val; omega)
  rw [eq]
  exact congrArg₂ (· * ·) h rfl

end

end Cert.KernelIdeal.Lru

end
-- ==== Proof.Lru.PointVal.lean ====
/- What a grid point leaves in its output block and in the carried state. -/
module

public import proofs.«01_k».proof.Proof.Lru.GatesVal

@[expose] public section

set_option maxRecDepth 16384

noncomputable section

namespace Cert.KernelIdeal.Lru

open Idealize.ShloMosaic Idealize.ShloMosaic.TcCoe Idealize.ShloMosaic.Tactic
open Cert.KernelIdeal Cert.KernelIdeal.Gen

section generic
variable {F : FTy → Type} [FloatOps F]

/-- A chunk lies inside the state's scratch. -/
theorem inbS : ∀ c : Fin 8, ∀ a, (![0, 128 * c.val] : Fin 2 → ℕ) a + S16x128.size a ≤ S16x1024.size a := by decide

/-- Chunk `c` of the carried state. -/
def chunkAt (arg8 : Memref sig .tc .vmem S16x1024 .f32) (X : BufTy.Contents (Elt F) arg8.view.ty) (c : Fin 8) : Vec F S16x128 .f32 :=
  View.readAt (Elt F) arg8.view (Rect.unit (s := S16x1024) ![0, 128 * c.val] S16x128.size (inbS c)).toLoadRect X

/-- The eight chunks the loop starts from. -/
def initOf (arg8 : Memref sig .tc .vmem S16x1024 .f32) (X : BufTy.Contents (Elt F) arg8.view.ty) : St8 F :=
  (chunkAt arg8 X 0, chunkAt arg8 X 1, chunkAt arg8 X 2, chunkAt arg8 X 3, chunkAt arg8 X 4, chunkAt arg8 X 5, chunkAt arg8 X 6, chunkAt arg8 X 7)

/-- The loop's first carry, chunk by chunk. -/
theorem initOf_get (arg8 : Memref sig .tc .vmem S16x1024 .f32) (X : BufTy.Contents (Elt F) arg8.view.ty) (c : Fin 8) :
    St8.get (initOf arg8 X) c = chunkAt arg8 X c := by
  fin_cases c <;> rfl

variable (c : Dev nD) (i : grid0.Coords) (arg2 : Memref sig .tc .vmem S2x128x1024 .bf16) (harg2 : arg2.IsWhole) (arg3 : Memref sig .tc .vmem S2x128x512 .f32) (harg3 : arg3.IsWhole)
  (arg4 : Memref sig .tc .vmem S1x1024x8704 .bf16) (harg4 : arg4.IsWhole) (arg5 : Memref sig .tc .vmem S2x128x512 .f32) (harg5 : arg5.IsWhole)
  (arg6 : Memref sig .tc .vmem S128x16x1024 .f32) (harg6 : arg6.IsWhole) (arg7 : Memref sig .tc .vmem S16x8x1024 .f32) (harg7 : arg7.IsWhole)
  (arg8 : Memref sig .tc .vmem S16x1024 .f32) (harg8 : arg8.IsWhole)
  (x0 : S2x128x1024.Idx → Elt F .bf16) (x1 : S2x128x512.Idx → Elt F .f32) (x2 : S1x1024x8704.Idx → Elt F .bf16) (xs : S16x1024.Idx → Elt F .f32)

/-- The gate scratch at the loop. -/
def gatesX : BufTy.Contents (Elt F) arg6.view.ty :=
  arg6.view.writes (Elt F) arg6.view.junk (List.ofFn fun i : Fin 16 => ⟨Rect.unit (s := S128x16x1024) ![0, 15 - i.val, 0] S128x1x1024.size (inbJ ⟨15 - i.val, by omega⟩),
        paK (hB arg2 harg2 x0) (wB arg4 harg4 x2) (w4B arg4 harg4 x2) (15 - i.val)⟩)

/-- The input scratch at the loop. -/
def inputX : BufTy.Contents (Elt F) arg7.view.ty :=
  arg7.view.writes (Elt F) arg7.view.junk [⟨Rect.unit (s := S16x8x1024) ![0, 0, 0] S16x8x1024.size inb_S16x8x1024_S16x8x1024_0_0_0,
        bvK (hB arg2 harg2 x0) (wB arg4 harg4 x2) (w4B arg4 harg4 x2) (vB arg3 harg3 x1)⟩]

/-- The carried state after the first point's zero store. -/
def zeroX : BufTy.Contents (Elt F) arg8.view.ty :=
  arg8.view.writes (Elt F) arg8.view.junk [⟨Rect.unit (s := S16x1024) ![0, 0] S16x1024.size inb_S16x1024_S16x1024_0_0, k0_pay749⟩]

/-- The carried state and stored pieces of the loop from contents `X8` of the state scratch. -/
def loopOf (X8 : BufTy.Contents (Elt F) arg8.view.ty) :=
  st_k0_t1 (F := F) Variants.none c none i arg2 harg2 arg3 harg3 arg4 harg4 arg5 harg5 arg6 harg6 arg7 harg7 arg8 harg8 k0_pay750 (gatesX arg2 harg2 arg4 harg4 arg6 x0 x2) (inputX arg2 harg2 arg3 harg3 arg4 harg4 arg7 x0 x1 x2) (initOf arg8 X8) 4

/-- The state as stored after the loop. -/
def stateOf (s : St8 F) : FVec F S16x1024 .f32 :=
  k0_pay3 s.1 s.2.1 s.2.2.1 s.2.2.2.1 s.2.2.2.2.1 s.2.2.2.2.2.1 s.2.2.2.2.2.2.1 s.2.2.2.2.2.2.2

/-- What a later tile leaves in the output. -/
theorem runB_out (hc0 : ¬cond0 i) : (runB c i arg2 harg2 arg3 harg3 arg4 harg4 arg5 harg5 arg6 harg6 arg7 harg7 arg8 harg8 hc0 x0 x1 x2 xs).1
    = (loopOf c i arg2 harg2 arg3 harg3 arg4 harg4 arg5 harg5 arg6 harg6 arg7 harg7 arg8 harg8 x0 x1 x2 (harg8.unread xs)).2 := by
  unfold runB loopOf gatesX inputX
  rw [← HS0_B c, ← HS1_B c]
  sl_kernel_rfl

/-- What a later tile leaves in the state. -/
theorem runB_state (hc0 : ¬cond0 i) : (runB c i arg2 harg2 arg3 harg3 arg4 harg4 arg5 harg5 arg6 harg6 arg7 harg7 arg8 harg8 hc0 x0 x1 x2 xs).2.1
    = [⟨Rect.unit (s := S16x1024) ![0, 0] S16x1024.size inb_S16x1024_S16x1024_0_0, stateOf (loopOf c i arg2 harg2 arg3 harg3 arg4 harg4 arg5 harg5 arg6 harg6 arg7 harg7 arg8 harg8 x0 x1 x2 (harg8.unread xs)).1⟩] := by
  unfold runB loopOf gatesX inputX
  rw [← HS0_B c, ← HS1_B c]
  sl_kernel_rfl

/-- What a first tile leaves in the output. -/
theorem runA_out (hc0 : cond0 i) : (runA c i arg2 harg2 arg3 harg3 arg4 harg4 arg5 harg5 arg6 harg6 arg7 harg7 arg8 harg8 hc0 x0 x1 x2).1
    = (loopOf c i arg2 harg2 arg3 harg3 arg4 harg4 arg5 harg5 arg6 harg6 arg7 harg7 arg8 harg8 x0 x1 x2 (zeroX arg8)).2 := by
  unfold runA loopOf gatesX inputX zeroX
  rw [← HS0_A c, ← HS1_A c]
  sl_kernel_rfl

/-- What a first tile leaves in the state. -/
theorem runA_state (hc0 : cond0 i) : (runA c i arg2 harg2 arg3 harg3 arg4 harg4 arg5 harg5 arg6 harg6 arg7 harg7 arg8 harg8 hc0 x0 x1 x2).2.1
    = [⟨Rect.unit (s := S16x1024) ![0, 0] S16x1024.size inb_S16x1024_S16x1024_0_0, stateOf (loopOf c i arg2 harg2 arg3 harg3 arg4 harg4 arg5 harg5 arg6 harg6 arg7 harg7 arg8 harg8 x0 x1 x2 (zeroX arg8)).1⟩,
       ⟨Rect.unit (s := S16x1024) ![0, 0] S16x1024.size inb_S16x1024_S16x1024_0_0, k0_pay749⟩] := by
  unfold runA loopOf gatesX inputX zeroX
  rw [← HS0_A c, ← HS1_A c]
  sl_kernel_rfl

end generic

section ideal
variable (c : Dev nD) (i : grid0.Coords) (arg2 : Memref sig .tc .vmem S2x128x1024 .bf16) (harg2 : arg2.IsWhole) (arg3 : Memref sig .tc .vmem S2x128x512 .f32) (harg3 : arg3.IsWhole)
  (arg4 : Memref sig .tc .vmem S1x1024x8704 .bf16) (harg4 : arg4.IsWhole) (arg5 : Memref sig .tc .vmem S2x128x512 .f32) (harg5 : arg5.IsWhole)
  (arg6 : Memref sig .tc .vmem S128x16x1024 .f32) (harg6 : arg6.IsWhole) (arg7 : Memref sig .tc .vmem S16x8x1024 .f32) (harg7 : arg7.IsWhole)
  (arg8 : Memref sig .tc .vmem S16x1024 .f32) (harg8 : arg8.IsWhole)
  (x0 : S2x128x1024.Idx → EReal) (x1 : S2x128x512.Idx → EReal) (x2 : S1x1024x8704.Idx → EReal) (xs : S16x1024.Idx → EReal)

/-- Equal places have equal gates. -/
theorem aX_congr {n n' : ℕ} {j j' : Fin 16} {L L' : Fin 1024} (hn : n = n') (hj : j = j') (hL : L = L') : aX x0 x2 n j L = aX x0 x2 n' j' L' := by
  rw [hn, hj, hL]

/-- The gate scratch holds the gates. -/
theorem gatesX_read (n : Fin 128) (j : Fin 16) (L : Fin 1024) :
    arg6.view.read (Elt Ideal) (gatesX arg2 harg2 arg4 harg4 arg6 x0 x2) (ix3 n j L) = aX x0 x2 n.val j L := by
  unfold gatesX
  refine View.read_writes_apply_of_pieces (Val := Elt Ideal) (e := .f32) _ _ (fun y : S128x16x1024.Idx => aX x0 x2 (y 0).val (y 1) (y 2)) _ ?_ _ ?_
  · intro p hp x
    obtain ⟨q, rfl⟩ := (List.mem_ofFn' _ _).mp hp
    revert x
    intro (p : S128x1x1024.Idx)
    idx_vars p
    have h := paK_apply arg2 harg2 arg4 harg4 x0 x2 ⟨15 - q.val, by omega⟩ p0 p1 p2
    refine h.trans ?_
    have e0 := Fin.val_eq_zero p1
    refine aX_congr x0 x2 ?_ (Fin.ext ?_) (Fin.ext ?_)
    · show p0.val = 0 + 1 * p0.val; omega
    · show 15 - q.val = 15 - q.val + 1 * p1.val; omega
    · show p2.val = 0 + 1 * p2.val; omega
  · refine ⟨_, (List.mem_ofFn' _ _).mpr ⟨⟨15 - j.val, by omega⟩, rfl⟩, ?_⟩
    rw [Rect.mem_set_unit]
    intro a
    fin_cases a
    · show 0 ≤ n.val ∧ n.val < 0 + 128; omega
    · show 15 - (15 - j.val) ≤ j.val ∧ j.val < 15 - (15 - j.val) + 1; omega
    · show 0 ≤ L.val ∧ L.val < 0 + 1024; omega

/-- The input scratch holds the inputs. -/
theorem inputX_read (r : Fin 16) (q : Fin 8) (L : Fin 1024) :
    arg7.view.read (Elt Ideal) (inputX arg2 harg2 arg3 harg3 arg4 harg4 arg7 x0 x1 x2) (ix3 r q L) = bX x0 x1 x2 (8 * r.val + q.val) L := by
  unfold inputX
  rw [← bvK_apply arg2 harg2 arg3 harg3 arg4 harg4]
  refine View.read_writes_apply_of_pieces (Val := Elt Ideal) (e := .f32) _ _ (fun y : S16x8x1024.Idx => bvK (F := Ideal) (hB arg2 harg2 x0) (wB arg4 harg4 x2) (w4B arg4 harg4 x2) (vB arg3 harg3 x1) y) _ ?_ _ ?_
  · intro p hp x
    obtain rfl := List.mem_singleton.mp hp
    refine congrArg _ (funext fun a => Fin.ext ?_)
    fin_cases a
    · show (x 0).val = 0 + 1 * (x 0).val; omega
    · show (x 1).val = 0 + 1 * (x 1).val; omega
    · show (x 2).val = 0 + 1 * (x 2).val; omega
  · refine ⟨_, List.mem_singleton_self _, ?_⟩
    rw [Rect.mem_set_unit]
    intro a
    fin_cases a
    · show 0 ≤ r.val ∧ r.val < 0 + 16; omega
    · show 0 ≤ q.val ∧ q.val < 0 + 8; omega
    · show 0 ≤ L.val ∧ L.val < 0 + 1024; omega

/-- A store of the whole state leaves that state. -/
theorem state_read {F : FTy → Type} [FloatOps F] (arg8 : Memref sig .tc .vmem S16x1024 .f32) (f : BufTy.Contents (Elt F) arg8.view.ty) (g : S16x1024.Idx → Elt F .f32)
    (l : List (View.Piece (Elt F) S16x1024 .f32)) (y : S16x1024.Idx) :
    arg8.view.read (Elt F) (arg8.view.writes (Elt F) f (⟨Rect.unit (s := S16x1024) ![0, 0] S16x1024.size inb_S16x1024_S16x1024_0_0, g⟩ :: l)) y = g y := by
  refine View.read_writes_cons_hit_of_coords (Val := Elt F) (e := .f32) arg8.view f (Rect.unit (s := S16x1024) ![0, 0] S16x1024.size inb_S16x1024_S16x1024_0_0) g l y y fun a => ?_
  fin_cases a
  · show (y 0).val = 0 + 1 * (y 0).val; omega
  · show (y 1).val = 0 + 1 * (y 1).val; omega

/-- A chunk of the state's scratch. -/
theorem chunk_read (X : BufTy.Contents (Elt Ideal) arg8.view.ty) (g : S16x1024.Idx → EReal) (h : arg8.view.read (Elt Ideal) X = g) (e : Fin 8) (j : Fin 16) (l : Fin 128) :
    St8.get (initOf (F := Ideal) arg8 X) e (ix2 j l) = g (ix2 j (lane e l)) := by
  rw [initOf_get]
  unfold chunkAt
  rw [View.readAt_apply, h]
  refine congrArg g (funext fun a => Fin.ext ?_)
  fin_cases a
  · show 0 + 1 * j.val = j.val; omega
  · show 128 * e.val + 1 * l.val = 128 * e.val + l.val; omega

/-- The output block of the loop from a state `g`. -/
theorem loop_out (X : BufTy.Contents (Elt Ideal) arg8.view.ty) (g : S16x1024.Idx → EReal) (h : arg8.view.read (Elt Ideal) X = g) (f : BufTy.Contents (Elt Ideal) arg5.view.ty) :
    arg5.view.read (Elt Ideal) (arg5.view.writes (Elt Ideal) f (loopOf (F := Ideal) c i arg2 harg2 arg3 harg3 arg4 harg4 arg5 harg5 arg6 harg6 arg7 harg7 arg8 harg8 x0 x1 x2 X).2) = outG (aX x0 x2) (bX x0 x1 x2) (fun j L => g (ix2 j L)) :=
  read_out Variants.none c none i arg2 harg2 arg3 harg3 arg4 harg4 arg5 harg5 arg6 harg6 arg7 harg7 arg8 harg8 k0_pay750 _ _ pay750 (aX x0 x2) (bX x0 x1 x2) _
    (gatesX_read arg2 harg2 arg4 harg4 arg6 x0 x2) (inputX_read arg2 harg2 arg3 harg3 arg4 harg4 arg7 x0 x1 x2) _ (chunk_read arg8 X g h) f

/-- The state left by the loop from a state `g`. -/
theorem loop_state (X : BufTy.Contents (Elt Ideal) arg8.view.ty) (g : S16x1024.Idx → EReal) (h : arg8.view.read (Elt Ideal) X = g) (j : Fin 16) (L : Fin 1024) :
    stateOf (loopOf (F := Ideal) c i arg2 harg2 arg3 harg3 arg4 harg4 arg5 harg5 arg6 harg6 arg7 harg7 arg8 harg8 x0 x1 x2 X).1 (ix2 j L) = hsL (aX x0 x2) (bX x0 x1 x2) (fun j L => g (ix2 j L)) 128 j L := by
  obtain ⟨e, l, rfl⟩ : ∃ e l, L = lane e l := ⟨⟨L.val / 128, by omega⟩, ⟨L.val % 128, by omega⟩, by apply Fin.ext; simp only [lane]; omega⟩
  unfold stateOf
  rw [pay3_apply]
  exact st_get Variants.none c none i arg2 harg2 arg3 harg3 arg4 harg4 arg5 harg5 arg6 harg6 arg7 harg7 arg8 harg8 k0_pay750 _ _ pay750 (aX x0 x2) (bX x0 x1 x2) _
    (gatesX_read arg2 harg2 arg4 harg4 arg6 x0 x2) (inputX_read arg2 harg2 arg3 harg3 arg4 harg4 arg7 x0 x1 x2) _ (chunk_read arg8 X g h) 4 le_rfl e j l

/-- The first point of a group starts from the zero state. -/
theorem zeroX_read : arg8.view.read (Elt Ideal) (zeroX (F := Ideal) arg8) = fun _ => 0 := by
  unfold zeroX
  funext (y : S16x1024.Idx)
  rw [state_read]
  idx_vars y
  pointwise [k0_pay749]

end ideal

end Cert.KernelIdeal.Lru

end
-- ==== Proof.Lru.FrameI.lean ====
/- The frame of the kernel over the ideal numbers, with what each grid point leaves in its output block and in the
   carried state. -/
module

public import proofs.«01_k».proof.Proof.Lru.PointVal
public import Idealize.ShloMosaic.Lib.Claim

@[expose] public section

set_option maxRecDepth 16384

noncomputable section

namespace Cert.KernelIdeal.Lru

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The three staged blocks at a point. -/
abbrev bk0 (c : Dev nD) (t : Fin cfg0.N) : S2x128x1024.Idx → EReal := iblk m c 0 t
abbrev bk1 (c : Dev nD) (t : Fin cfg0.N) : S2x128x512.Idx → EReal := iblk m c 1 t
abbrev bk2 (c : Dev nD) (t : Fin cfg0.N) : S1x1024x8704.Idx → EReal := iblk m c 2 t

/-- The state after a point entered with state `g`. -/
def stepS (c : Dev nD) (t : Fin cfg0.N) (g : Fin 16 → Fin 1024 → EReal) : Fin 16 → Fin 1024 → EReal :=
  hsL (aX (bk0 m c t) (bk2 m c t)) (bX (bk0 m c t) (bk1 m c t) (bk2 m c t)) g 128

/-- The state a point's loop starts from: zero at the first time tile, else what the point before left. -/
def preS (c : Dev nD) : (n : ℕ) → n < cfg0.N → Fin 16 → Fin 1024 → EReal
  | 0, _ => fun _ _ => 0
  | n + 1, h => if (n + 1) % 8 = 0 then fun _ _ => 0 else stepS m c ⟨n, Nat.lt_of_succ_lt h⟩ (preS c n (Nat.lt_of_succ_lt h))

/-- The state after point `n`, as the scratch holds it. -/
def postS (c : Dev nD) (n : ℕ) (h : n < cfg0.N) : S16x1024.Idx → EReal := fun y => stepS m c ⟨n, h⟩ (preS m c n h) (y 0) (y 1)

/-- What the output block holds after point `t`. -/
def outB (c : Dev nD) (t : Fin cfg0.N) : S2x128x512.Idx → EReal :=
  outG (aX (bk0 m c t) (bk2 m c t)) (bX (bk0 m c t) (bk1 m c t) (bk2 m c t)) (preS m c t.val t.isLt)

/-- The state starts at zero in the first tile of a half. -/
theorem preS_zero (c : Dev nD) (t : Fin cfg0.N) (h0 : t.val % 8 = 0) : preS m c t.val t.isLt = fun _ _ => 0 := by
  obtain ⟨n, hn⟩ := t
  cases n with
  | zero => rfl
  | succ n => exact if_pos h0

/-- Else it is what the tile before left. -/
theorem preS_succ (c : Dev nD) (t : Fin cfg0.N) (h0 : ¬t.val % 8 = 0) (hz : t.val ≠ 0) :
    preS m c t.val t.isLt = fun j L => postS m c (t.val - 1) (by have := t.isLt; omega) (ix2 j L) := by
  obtain ⟨n, hn⟩ := t
  cases n with
  | zero => exact absurd rfl hz
  | succ n => exact if_neg h0

/-- The launch's invariant: at the start the work buffers at anything; later the carried state at its value. -/
def PhiS (c : Dev nD) : (n : ℕ) → n ≤ cfg0.N → sProp 𝕄
  | 0, _ => Pipeline.ΦA spec0 c
  | n + 1, hn => iprop(iprop((∃ d, owns (c : Thread nD τ) scA fullShare d) ∗ (∃ d, owns (c : Thread nD τ) scB fullShare d) ∗ owns (c : Thread nD τ) scS fullShare (postS m c n hn)) ∗ (∃ r, prngReg c r))

/-- The invariant before the first point. -/
theorem PhiS_zero (c : Dev nD) (n : ℕ) (h : n ≤ cfg0.N) (hz : n = 0) : PhiS m c n h = Pipeline.ΦA spec0 c := by
  subst hz; rfl

/-- The invariant after a point. -/
theorem PhiS_succ (c : Dev nD) (n : ℕ) (hn : n < cfg0.N) :
    PhiS m c (n + 1) hn = iprop(iprop((∃ d, owns (c : Thread nD τ) scA fullShare d) ∗ (∃ d, owns (c : Thread nD τ) scB fullShare d) ∗ owns (c : Thread nD τ) scS fullShare (postS m c n hn)) ∗ (∃ r, prngReg c r)) := rfl

/-- The invariant before a later point. -/
theorem PhiS_pos (c : Dev nD) (n : ℕ) (h : n ≤ cfg0.N) (hz : n ≠ 0) :
    PhiS m c n h = iprop(iprop((∃ d, owns (c : Thread nD τ) scA fullShare d) ∗ (∃ d, owns (c : Thread nD τ) scB fullShare d) ∗ owns (c : Thread nD τ) scS fullShare (postS m c (n - 1) (by omega))) ∗ (∃ r, prngReg c r)) := by
  cases n with
  | zero => exact absurd rfl hz
  | succ n => rfl

/-- The launch's proof data on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outB m c t
  Φ t := PhiS m c t.val (Nat.le_of_lt_succ t.isLt)
  q _ := fullShare
  owed _ := 0

/-- The arrays the windows move are the memory's. -/
theorem A_eq (c : Dev nD) (w : Fin cfg0.W) : (dats m 0 c).A w = V m c (Pipeline.arrRef spec0 w) := by
  dsimp only [dats]

/-- The invariant before a point, by its number. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- An input's block after a point is as before. -/
theorem after_0 (c : Dev nD) (t : Fin cfg0.N) : (dats m 0 c).after 0 t = iblk m c 0 t := by dsimp only [dats]
/-- An input's block after a point is as before. -/
theorem after_1 (c : Dev nD) (t : Fin cfg0.N) : (dats m 0 c).after 1 t = iblk m c 1 t := by dsimp only [dats]
/-- An input's block after a point is as before. -/
theorem after_2 (c : Dev nD) (t : Fin cfg0.N) : (dats m 0 c).after 2 t = iblk m c 2 t := by dsimp only [dats]
/-- The output's block after a point. -/
theorem after_3 (c : Dev nD) (t : Fin cfg0.N) : (dats m 0 c).after 3 t = outB m c t := by dsimp only [dats]

/-- An input's block before a point. -/
theorem before_0 (c : Dev nD) (t : Fin cfg0.N) (d) : (dats m 0 c).before 0 t d = iblk m c 0 t :=
  before0_0_of m (dats m 0 c) (A_eq m c 0) (after_0 m c) t d
/-- An input's block before a point. -/
theorem before_1 (c : Dev nD) (t : Fin cfg0.N) (d) : (dats m 0 c).before 1 t d = iblk m c 1 t :=
  before0_1_of m (dats m 0 c) (A_eq m c 1) (after_1 m c) t d
/-- An input's block before a point. -/
theorem before_2 (c : Dev nD) (t : Fin cfg0.N) (d) : (dats m 0 c).before 2 t d = iblk m c 2 t :=
  before0_2_of m (dats m 0 c) (A_eq m c 2) (after_2 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

section pieces

variable (c : Dev nD) (t : Fin cfg0.N)

/-- What the run of a first-tile point leaves in the output block. -/
theorem outA (h0 : t.val % 8 = 0) (f : BufTy.Contents (Elt Ideal) (ms3 t).view.ty) :
    (ms3 t).view.read (Elt Ideal) ((ms3 t).view.writes (Elt Ideal) f (runA (F := Ideal) c (grid0.coords t) (ms0 t) (hs0 t) (ms1 t) (hs1 t) (ms2 t) (hs2 t) (ms3 t) (hs3 t) scA (Memref.isWhole_whole _) scB (Memref.isWhole_whole _) scS (Memref.isWhole_whole _) ((hcond0 t).mpr h0) (bk0 m c t) (bk1 m c t) (bk2 m c t)).1)
      = outB m c t := by
  rw [runA_out]
  refine (loop_out c _ _ _ _ _ _ _ _ _ _ _ _ _ _ _ _ _ _ _ _ (zeroX_read _) f).trans ?_
  unfold outB
  rw [preS_zero m c t h0]

/-- What it leaves in the carried state. -/
theorem stA (h0 : t.val % 8 = 0) (f : BufTy.Contents (Elt Ideal) scS.view.ty) :
    scS.view.read (Elt Ideal) (scS.view.writes (Elt Ideal) f (runA (F := Ideal) c (grid0.coords t) (ms0 t) (hs0 t) (ms1 t) (hs1 t) (ms2 t) (hs2 t) (ms3 t) (hs3 t) scA (Memref.isWhole_whole _) scB (Memref.isWhole_whole _) scS (Memref.isWhole_whole _) ((hcond0 t).mpr h0) (bk0 m c t) (bk1 m c t) (bk2 m c t)).2.1)
      = postS m c t.val t.isLt := by
  rw [runA_state]
  funext (y : S16x1024.Idx)
  refine (state_read (F := Ideal) _ f _ _ y).trans ?_
  idx_vars y
  refine (loop_state c _ _ _ _ _ _ _ _ _ _ _ _ _ _ _ _ _ _ _ _ (zeroX_read _) y0 y1).trans ?_
  unfold postS stepS
  rw [preS_zero m c t h0]
  rfl

/-- The same at a later tile, entered with the state `xs`. -/
theorem outBB (h0 : ¬t.val % 8 = 0) (xs : S16x1024.Idx → EReal) (hxs : preS m c t.val t.isLt = fun j L => xs (ix2 j L))
    (f : BufTy.Contents (Elt Ideal) (ms3 t).view.ty) :
    (ms3 t).view.read (Elt Ideal) ((ms3 t).view.writes (Elt Ideal) f (runB (F := Ideal) c (grid0.coords t) (ms0 t) (hs0 t) (ms1 t) (hs1 t) (ms2 t) (hs2 t) (ms3 t) (hs3 t) scA (Memref.isWhole_whole _) scB (Memref.isWhole_whole _) scS (Memref.isWhole_whole _) (fun h => h0 ((hcond0 t).mp h)) (bk0 m c t) (bk1 m c t) (bk2 m c t) xs).1)
      = outB m c t := by
  rw [runB_out]
  refine (loop_out c _ _ _ _ _ _ _ _ _ _ _ _ _ _ _ _ _ _ _ xs (Memref.IsWhole.read_unread (Val := Elt Ideal) (m := scS) (Memref.isWhole_whole _) xs) f).trans ?_
  unfold outB
  rw [hxs]

/-- The state after a later tile. -/
theorem stB (h0 : ¬t.val % 8 = 0) (xs : S16x1024.Idx → EReal) (hxs : preS m c t.val t.isLt = fun j L => xs (ix2 j L))
    (f : BufTy.Contents (Elt Ideal) scS.view.ty) :
    scS.view.read (Elt Ideal) (scS.view.writes (Elt Ideal) f (runB (F := Ideal) c (grid0.coords t) (ms0 t) (hs0 t) (ms1 t) (hs1 t) (ms2 t) (hs2 t) (ms3 t) (hs3 t) scA (Memref.isWhole_whole _) scB (Memref.isWhole_whole _) scS (Memref.isWhole_whole _) (fun h => h0 ((hcond0 t).mp h)) (bk0 m c t) (bk1 m c t) (bk2 m c t) xs).2.1)
      = postS m c t.val t.isLt := by
  rw [runB_state]
  funext (y : S16x1024.Idx)
  refine (state_read (F := Ideal) _ f _ _ y).trans ?_
  idx_vars y
  refine (loop_state c _ _ _ _ _ _ _ _ _ _ _ _ _ _ _ _ _ _ _ xs (Memref.IsWhole.read_unread (Val := Elt Ideal) (m := scS) (Memref.isWhole_whole _) xs) y0 y1).trans ?_
  unfold postS stepS
  rw [hxs]
  rfl

end pieces

set_option maxHeartbeats 3200000 in
/-- The body's triple at any point, by the run of the point's case. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl, after_0, after_1, after_2, after_3]
  rw [show (dats m 0 c).Φ t.succ = PhiS m c (t.val + 1) t.isLt from rfl, PhiS_succ]
  by_cases h0 : t.val % 8 = 0
  · have hpre : PhiS m c t.val (Nat.le_of_lt t.isLt) ⊢ (Pipeline.ΦA spec0 c : sProp 𝕄) := by
      by_cases hz : t.val = 0
      · rw [PhiS_zero m c _ _ hz]
      · rw [PhiS_pos m c _ _ hz, PhiA_eq]
        iintro ⟨⟨HS0, HS1, HS2⟩, Hg⟩
        isplitl [HS0 HS1 HS2]
        · isplitl [HS0]; · iexact HS0
          isplitl [HS1]; · iexact HS1
          iexists _; iexact HS2
        iexact Hg
    rw [PhiS_castSucc m c t]
    refine (sep_mono_left hpre).trans ?_
    rw [PhiA_eq]
    iintro ⟨⟨⟨HS0, HS1, HS2⟩, Hg⟩, Ho, ⟨%d0, H0⟩, ⟨%d1, H1⟩, ⟨%d2, H2⟩, ⟨%d3, H3⟩⟩
    iapply ((runA (F := Ideal) c (grid0.coords t) _ _ _ _ _ _ _ _ _ _ _ _ _ _ ((hcond0 t).mpr h0) (iblk m c 0 t) (iblk m c 1 t) (iblk m c 2 t)).2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, ⟨%e8, HS2⟩⟩
    isplitl [HS0 HS1 HS2 Hg]
    · isplitl [HS0 HS1 HS2]
      · isplitl [HS0]; · iexact HS0
        isplitl [HS1]; · iexact HS1
        unfold owns; iexists _; isplitr
        swap; · iexact HS2
        ipureintro; exact stA m c t h0 e8
      iexact Hg
    isplitl [Ho]; · iexact Ho
    isplitl [H0]; · iexact H0
    isplitl [H1]; · iexact H1
    isplitl [H2]; · iexact H2
    unfold owns; iexists _; isplitr
    swap; · iexact H3
    ipureintro; exact outA m c t h0 e3
  · have hz : t.val ≠ 0 := fun h => h0 (by rw [h])
    rw [PhiS_castSucc m c t, PhiS_pos m c _ _ hz]
    iintro ⟨⟨⟨HS0, HS1, HS2⟩, Hg⟩, Ho, ⟨%d0, H0⟩, ⟨%d1, H1⟩, ⟨%d2, H2⟩, ⟨%d3, H3⟩⟩
    iapply ((runB (F := Ideal) c (grid0.coords t) _ _ _ _ _ _ _ _ _ _ _ _ _ _ (fun h => h0 ((hcond0 t).mp h)) (iblk m c 0 t) (iblk m c 1 t) (iblk m c 2 t) _).2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, ⟨%e8, HS2⟩⟩
    isplitl [HS0 HS1 HS2 Hg]
    · isplitl [HS0 HS1 HS2]
      · isplitl [HS0]; · iexact HS0
        isplitl [HS1]; · iexact HS1
        unfold owns; iexists _; isplitr
        swap; · iexact HS2
        ipureintro; exact stB m c t h0 _ (preS_succ m c t h0 hz) e8
      iexact Hg
    isplitl [Ho]; · iexact Ho
    isplitl [H0]; · iexact H0
    isplitl [H1]; · iexact H1
    isplitl [H2]; · iexact H2
    unfold owns; iexists _; isplitr
    swap; · iexact H3
    ipureintro; exact outBB m c t h0 _ (preS_succ m c t h0 hz) e3

/-- The body the launch runs at a point. -/
theorem defs₀_row (t : Fin cfg0.N) :
    defs₀ (F := Ideal) .tc cfg0.body (cfg0.bodyArgs t (cfg0.slots t)) = bodyAt0 t := by
  unfold defs₀; rw [Defs.onTc_tc]

/-- The body obligation at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- The invariant holds on entry. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the work buffers back. -/
theorem hout (c : Dev nD) : (dats m 0 c).Φ (Fin.last cfg0.N) ⊢ Pipeline.ΦA spec0 c := by
  have hN : (Fin.last cfg0.N).val ≠ 0 := by rw [Fin.val_last]; have : cfg0.N = 16 := N_0; omega
  rw [show (dats m 0 c).Φ (Fin.last cfg0.N) = PhiS m c (Fin.last cfg0.N).val (Nat.le_of_lt_succ (Fin.last cfg0.N).isLt) from rfl, PhiS_pos m c _ _ hN, PhiA_eq]
  iintro ⟨⟨HS0, HS1, HS2⟩, Hg⟩
  isplitl [HS0 HS1 HS2]
  · isplitl [HS0]; · iexact HS0
    isplitl [HS1]; · iexact HS1
    iexists _; iexact HS2
  iexact Hg

set_option backward.isDefEq.respectTransparency.types false in
/-- The launch ends with every array at what the proof data says, its counters at zero. -/
theorem run_main_quiescent : θ_run defs (onTc (τ := τ) (main (F := Ideal))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The launch, from its points. -/
theorem run_main : θ_run defs (onTc (τ := τ) (main (F := Ideal))) (s₀ m ρ) (Pipeline.FramePost cfgs (dats m) 0 (V m)) :=
  (θ_run defs _ _).mono (fun _ h => h.1) (run_main_quiescent m ρ)

/-- The kernel ends with its arguments unchanged and its counters at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Lru

end
-- ==== Proof.Lru.Spec.lean ====
/- The mathematics of the recurrence: gates by softmax, a linear recurrence mixing the channels of a head. -/
module

public import Idealize.ShloMosaic.Lib.Pointwise

@[expose] public section

noncomputable section

namespace Cert.Lru

open Idealize.ShloMosaic
open scoped BigOperators

/-- The logits: row `(b, t)` of `h` times column `n` of `w`. -/
def lg (h : Fin 2 → Fin 1024 → Fin 1024 → EReal) (w : Fin 1024 → Fin 17408 → EReal) (b : Fin 2) (t : Fin 1024) (n : Fin 17408) : EReal :=
  ∑ k : Fin 1024, h b t k * w k n

/-- Channel `d`'s gate `j` sits in column `17 d + j`. -/
def col (d : Fin 1024) (j : Fin 17) : Fin 17408 := ⟨17 * d.val + j.val, by omega⟩

/-- A gate as exponential times reciprocal of the sum. -/
def gateK (h : Fin 2 → Fin 1024 → Fin 1024 → EReal) (w : Fin 1024 → Fin 17408 → EReal) (b : Fin 2) (t : Fin 1024) (d : Fin 1024) (j : Fin 17) : EReal :=
  FloatOps.exp (F := Ideal) (φ := .f32) (lg h w b t (col d j))
    * FloatOps.divf (F := Ideal) (φ := .f32) 1 (∑ i : Fin 17, FloatOps.exp (F := Ideal) (φ := .f32) (lg h w b t (col d i)))

/-- Time step `n` as an index. -/
def tm (n : ℕ) : Fin 1024 := ⟨n % 1024, Nat.mod_lt _ (by decide)⟩

/-- A time step's number names that time step. -/
theorem tm_val (t : Fin 1024) : tm t.val = t := Fin.ext (Nat.mod_eq_of_lt t.isLt)

/-- Channel `j` of the head of channel `d`. -/
def peer (d : Fin 1024) (j : Fin 16) : Fin 1024 := ⟨16 * (d.val / 16) + j.val, by omega⟩

/-- The recurrence: the state before step `n`. -/
def Hst (gate : Fin 2 → Fin 1024 → Fin 1024 → Fin 17 → EReal) (v : Fin 2 → Fin 1024 → Fin 1024 → EReal) : ℕ → Fin 2 → Fin 1024 → EReal
  | 0 => fun _ _ => 0
  | n + 1 => fun b d => (∑ j : Fin 16, gate b (tm n) d j.succ * Hst gate v n b (peer d j)) + gate b (tm n) d 0 * v b (tm n) d

/-- One step of the recurrence. -/
theorem Hst_succ (gate : Fin 2 → Fin 1024 → Fin 1024 → Fin 17 → EReal) (v : Fin 2 → Fin 1024 → Fin 1024 → EReal) (n : ℕ) (b : Fin 2) (d : Fin 1024) :
    Hst gate v (n + 1) b d = (∑ j : Fin 16, gate b (tm n) d j.succ * Hst gate v n b (peer d j)) + gate b (tm n) d 0 * v b (tm n) d := rfl

/-- The result: the state after step `t`. -/
def out (gate : Fin 2 → Fin 1024 → Fin 1024 → Fin 17 → EReal) (v : Fin 2 → Fin 1024 → Fin 1024 → EReal) (b : Fin 2) (t d : Fin 1024) : EReal :=
  Hst gate v (t.val + 1) b d

/-- Equal gates give equal states. -/
theorem Hst_congr {gate gate' : Fin 2 → Fin 1024 → Fin 1024 → Fin 17 → EReal} (v : Fin 2 → Fin 1024 → Fin 1024 → EReal)
    (hg : ∀ b t d j, gate b t d j = gate' b t d j) : Hst gate v = Hst gate' v := by
  have : gate = gate' := funext fun b => funext fun t => funext fun d => funext fun j => hg b t d j
  rw [this]

end Cert.Lru

end
-- ==== Proof.Lru.Blocks.lean ====
/- The staged blocks of a grid point as entries of the arguments. -/
module

public import proofs.«01_k».proof.Proof.Lru.FrameI
public import proofs.«01_k».proof.Proof.Lru.Spec
public import Idealize.ShloMosaic.Lib.Pipeline.ValueKit

@[expose] public section

set_option maxRecDepth 16384

noncomputable section

namespace Cert.KernelIdeal.Lru

open Idealize.ShloMosaic Idealize.ShloMosaic.TcCoe Idealize.ShloMosaic.Tactic
open Idealize.SL Idealize.SL.Sem
open Idealize.ShloMosaic.Pipeline
open Cert.KernelIdeal Cert.KernelIdeal.Gen
open scoped BigOperators

variable (m : (ℓ : Loc nD τ sig) → Buf (Elt Ideal) ℓ)

/-- The three arguments as plain functions. -/
def hArg (c : Dev nD) (b : Fin 2) (t k : Fin 1024) : EReal := (m ((c.tc : Thread nD τ).loc main_arg0) : S2x1024x1024.Idx → EReal) (ix3 b t k)
def vArg (c : Dev nD) (b : Fin 2) (t d : Fin 1024) : EReal := (m ((c.tc : Thread nD τ).loc main_arg1) : S2x1024x1024.Idx → EReal) (ix3 b t d)
def wArg (c : Dev nD) (k : Fin 1024) (n : Fin 17408) : EReal := (m ((c.tc : Thread nD τ).loc main_arg2) : S1024x17408.Idx → EReal) (ix2 k n)

/-- The first window's block indices. -/
theorem index0 : ∀ t : Fin cfg0.N, win0_0.index t = ![0, t.val % 8, 0] := (by decide +kernel : ∀ t : Fin grid0.N, win0_0.index t = ![0, t.val % 8, 0])
/-- The second window's block indices. -/
theorem index1 : ∀ t : Fin cfg0.N, win0_1.index t = ![0, t.val % 8, t.val / 8] := (by decide +kernel : ∀ t : Fin grid0.N, win0_1.index t = ![0, t.val % 8, t.val / 8])
/-- The third window's block indices. -/
theorem index2 : ∀ t : Fin cfg0.N, win0_2.index t = ![t.val / 8, 0, 0] := (by decide +kernel : ∀ t : Fin grid0.N, win0_2.index t = ![t.val / 8, 0, 0])
/-- The output window's block indices. -/
theorem index3 : ∀ t : Fin cfg0.N, win0_3.index t = ![0, t.val % 8, t.val / 8] := (by decide +kernel : ∀ t : Fin grid0.N, win0_3.index t = ![0, t.val % 8, t.val / 8])

/-- The time step of row `r` of tile `t`'s block. -/
def rowT (t : Fin cfg0.N) (r : Fin 128) : Fin 1024 := ⟨128 * (t.val % 8) + r.val, by omega⟩

/-- The channel of column `l` of the group of point `t`. -/
def chan (t : Fin cfg0.N) (l : Fin 512) : Fin 1024 := ⟨512 * (t.val / 8) + l.val, by
  have h : t.val < 16 := lt_of_lt_of_eq t.isLt N_0
  omega⟩

/-- A point's block of the first argument. -/
theorem bk0_apply (c : Dev nD) (t : Fin cfg0.N) (b : Fin 2) (r : Fin 128) (k : Fin 1024) :
    bk0 m c t (ix3 b r k) = hArg m c b (rowT t r) k := by
  unfold bk0
  blk_simp [iblk]
  refine (congrFun (V_main_arg0 m c) _).trans ?_
  unfold hArg
  refine congrArg (m ((c.tc : Thread nD τ).loc main_arg0)) ?_
  blk_ext [index0, rowT]

/-- A point's block of the second argument. -/
theorem bk1_apply (c : Dev nD) (t : Fin cfg0.N) (b : Fin 2) (r : Fin 128) (l : Fin 512) :
    bk1 m c t (ix3 b r l) = vArg m c b (rowT t r) (chan t l) := by
  unfold bk1
  blk_simp [iblk]
  refine (congrFun (V_main_arg1 m c) _).trans ?_
  unfold vArg
  refine congrArg (m ((c.tc : Thread nD τ).loc main_arg1)) ?_
  blk_ext [index1, rowT, chan]

/-- The rearranged weights as the launch finds them. -/
theorem V_w (c : Dev nD) : V m c main_v3 = shapeCast S2x1024x8704 (transpose S2x1024x17x32x16 [1, 0, 4, 2, 3]
    (shapeCast S1024x2x32x16x17 (truncf (F := Ideal) .bf16 (m ((c.tc : Thread nD τ).loc main_arg2)) bitsLt_bf16_f32) shapeCasts_S1024x17408_S1024x2x32x16x17) transposes_S1024x2x32x16x17_S2x1024x17x32x16_1_0_4_2_3) shapeCasts_S2x1024x17x32x16_S2x1024x8704 := by
  unfold_abbrev_sides
  after_results
  rfl

/-- The weights as the call gets them: gate-major columns of each half. -/
theorem V_w_apply (c : Dev nD) (g : Fin 2) (k : Fin 1024) (n : Fin 8704) :
    (V m c main_v3 : S2x1024x8704.Idx → EReal) (ix3 g k n) = wArg m c k ⟨17 * (512 * g.val + n.val % 512) + n.val / 512, by omega⟩ := by
  have hn : n.val / 512 < 17 := by omega
  have hl : n.val % 512 / 16 < 32 := by omega
  have hi : n.val % 16 < 16 := by omega
  rw [V_w]
  unfold wArg
  refine (Idealize.ShloMosaic.shapeCast_apply _ _ (ix3 g k n) (ix5 g k (⟨n.val / 512, hn⟩ : Fin 17) (⟨n.val % 512 / 16, hl⟩ : Fin 32) (⟨n.val % 16, hi⟩ : Fin 16)) ?_).trans ?_
  · rw [Shape.rowMajor_val_five, Shape.rowMajor_val_three]
    show (((g.val * 1024 + k.val) * 17 + n.val / 512) * 32 + n.val % 512 / 16) * 16 + n.val % 16 = (g.val * 1024 + k.val) * 8704 + n.val
    omega
  refine (Idealize.ShloMosaic.transpose_apply _ _ _ _ (ix5 k g (⟨n.val % 512 / 16, hl⟩ : Fin 32) (⟨n.val % 16, hi⟩ : Fin 16) (⟨n.val / 512, hn⟩ : Fin 17)) ?_).trans ?_
  · intro a
    fin_cases a <;> rfl
  refine (Idealize.ShloMosaic.shapeCast_apply _ _ _ (ix2 k (⟨17 * (512 * g.val + n.val % 512) + n.val / 512, by omega⟩ : Fin 17408)) ?_).trans rfl
  · rw [Shape.rowMajor_val_five, Shape.rowMajor_val_two]
    show k.val * 17408 + (17 * (512 * g.val + n.val % 512) + n.val / 512) = (((k.val * 2 + g.val) * 32 + n.val % 512 / 16) * 16 + n.val % 16) * 17 + n.val / 512
    omega

/-- Column `512 j + l` of a point's weight block is the column of gate `j` of its channel `l`. -/
theorem bk2_apply (c : Dev nD) (t : Fin cfg0.N) (k : Fin 1024) (j : Fin 17) (l : Fin 512) :
    bk2 m c t (ix3 (0 : Fin 1) k (⟨512 * j.val + l.val, by omega⟩ : Fin 8704)) = wArg m c k (Cert.Lru.col (chan t l) j) := by
  have h16 : t.val < 16 := lt_of_lt_of_eq t.isLt N_0
  unfold bk2
  blk_simp [iblk]
  refine Eq.trans ?_ ((V_w_apply m c ⟨t.val / 8, by omega⟩ k ⟨512 * j.val + l.val, by omega⟩).trans (congrArg (wArg m c k) (Fin.ext ?_)))
  · refine congrArg (V m c main_v3) ?_
    blk_ext [index2]
  · show 17 * (512 * (t.val / 8) + (512 * j.val + l.val) % 512) + (512 * j.val + l.val) / 512 = 17 * (512 * (t.val / 8) + l.val) + j.val
    omega

end Cert.KernelIdeal.Lru

end
-- ==== Proof.Lru.Out.lean ====
/- The kernel's result array: the recurrence's states over all time steps and channels. -/
module

public import proofs.«01_k».proof.Proof.Lru.Blocks

@[expose] public section

set_option maxRecDepth 16384

noncomputable section

namespace Cert.KernelIdeal.Lru

open Idealize.ShloMosaic Idealize.ShloMosaic.TcCoe Idealize.ShloMosaic.Tactic
open Idealize.SL Idealize.SL.Sem
open Idealize.ShloMosaic.Pipeline
open Cert.KernelIdeal Cert.KernelIdeal.Gen
open Cert.Lru (tm peer Hst gateK lg col)
open scoped BigOperators

variable (m : (ℓ : Loc nD τ sig) → Buf (Elt Ideal) ℓ) (ρ : Dev nD → PrngReg)

/-- The logits of a point's block. -/
theorem lgX_eq (c : Dev nD) (t : Fin cfg0.N) (b : Fin 2) (r : Fin 128) (j : Fin 17) (l : Fin 512) :
    lgX (bk0 m c t) (bk2 m c t) b r ⟨512 * j.val + l.val, by omega⟩ = lg (hArg m c) (wArg m c) b (rowT t r) (col (chan t l) j) := by
  unfold lgX lg
  exact Finset.sum_congr rfl fun k _ => by rw [bk0_apply, bk2_apply]

/-- The gates of a point's block. -/
theorem gX_eq (c : Dev nD) (t : Fin cfg0.N) (b : Fin 2) (r : Fin 128) (j : Fin 17) (l : Fin 512) :
    eX (bk0 m c t) (bk2 m c t) j b r l * rX (bk0 m c t) (bk2 m c t) b r l = gateK (hArg m c) (wArg m c) b (rowT t r) (chan t l) j := by
  unfold rX gateK eX
  simp only [lgX_eq]

/-- The recurrence at the kernel's gates. -/
abbrev HK (c : Dev nD) : ℕ → Fin 2 → Fin 1024 → EReal := Hst (gateK (hArg m c) (wArg m c)) (vArg m c)

/-- The batch element and the column of lane `L`. -/
def bat (L : Fin 1024) : Fin 2 := ⟨L.val / 512, by omega⟩
def cm (L : Fin 1024) : Fin 512 := ⟨L.val % 512, by omega⟩

/-- A tile's row is a time step. -/
theorem row_tm (t : Fin cfg0.N) (n : ℕ) (h : n < 128) : rowT t ⟨n % 128, Nat.mod_lt _ (by decide)⟩ = tm (128 * (t.val % 8) + n) := by
  apply Fin.ext
  simp only [rowT, tm]
  omega

/-- One step of the kernel's lanes is one step of the recurrence. -/
theorem newL_eq (c : Dev nD) (t : Fin cfg0.N) (n : ℕ) (h : n < 128) (s : Fin 16 → Fin 1024 → EReal) (L : Fin 1024)
    (hs : ∀ j, s j L = HK m c (128 * (t.val % 8) + n) (bat L) (peer (chan t (cm L)) j)) :
    newL (aX (bk0 m c t) (bk2 m c t) n) (bX (bk0 m c t) (bk1 m c t) (bk2 m c t) n) s L = HK m c (128 * (t.val % 8) + n + 1) (bat L) (chan t (cm L)) := by
  unfold newL aX bX
  show _ = Hst _ _ _ _ _
  rw [Cert.Lru.Hst_succ]
  refine congrArg₂ (· + ·) (Finset.sum_congr rfl fun j _ => ?_) ?_
  · rw [hs j]
    refine congrArg (· * _) ((gX_eq m c t _ _ _ _).trans ?_)
    rw [row_tm t n h]; rfl
  · refine congrArg₂ (· * ·) ((gX_eq m c t _ _ _ _).trans ?_) ?_
    · rw [row_tm t n h]; rfl
    · rw [bk1_apply, row_tm t n h]; rfl

/-- The kernel's lane states through a tile are the recurrence's. -/
theorem hsL_eq (c : Dev nD) (t : Fin cfg0.N) (S : Fin 16 → Fin 1024 → EReal)
    (hS : ∀ j L, S j L = HK m c (128 * (t.val % 8)) (bat L) (peer (chan t (cm L)) j)) :
    ∀ n ≤ 128, ∀ j L, hsL (aX (bk0 m c t) (bk2 m c t)) (bX (bk0 m c t) (bk1 m c t) (bk2 m c t)) S n j L
      = HK m c (128 * (t.val % 8) + n) (bat L) (peer (chan t (cm L)) j)
  | 0, _, j, L => hS j L
  | n + 1, hn, j, L => by
    have h16 : t.val < 16 := lt_of_lt_of_eq t.isLt N_0
    have hb : bat (lsrc j L) = bat L := by apply Fin.ext; simp only [bat, lsrc]; omega
    have hc : chan t (cm (lsrc j L)) = peer (chan t (cm L)) j := by apply Fin.ext; simp only [chan, cm, lsrc, peer]; omega
    show newL _ _ _ (lsrc j L) = _
    rw [newL_eq m c t n (by omega) _ _ fun j' => hsL_eq c t S hS n (by omega) j' (lsrc j L), hb, hc]
    rfl

/-- The state a point starts from is the recurrence's at its first time step. -/
theorem preS_eq (c : Dev nD) : ∀ (n : ℕ) (hn : n < cfg0.N) (j : Fin 16) (L : Fin 1024),
    preS m c n hn j L = HK m c (128 * (n % 8)) (bat L) (peer (chan ⟨n, hn⟩ (cm L)) j)
  | 0, _, j, L => rfl
  | n + 1, hn, j, L => by
    unfold preS
    split
    · next h =>
      rw [h]
      rfl
    · next h =>
      unfold stepS
      rw [hsL_eq m c ⟨n, _⟩ _ (fun j L => preS_eq c n _ j L) 128 le_rfl]
      have e1 : 128 * ((⟨n, Nat.lt_of_succ_lt hn⟩ : Fin cfg0.N).val % 8) + 128 = 128 * ((n + 1) % 8) := by show 128 * (n % 8) + 128 = _; omega
      have e2 : chan ⟨n, Nat.lt_of_succ_lt hn⟩ (cm L) = chan ⟨n + 1, hn⟩ (cm L) := by
        apply Fin.ext
        show 512 * (n / 8) + (cm L).val = 512 * ((n + 1) / 8) + (cm L).val
        omega
      rw [e1, e2]

/-- A point's output block. -/
theorem outB_eq (c : Dev nD) (t : Fin cfg0.N) (b : Fin 2) (r : Fin 128) (l : Fin 512) :
    outB m c t (ix3 b r l) = Cert.Lru.out (gateK (hArg m c) (wArg m c)) (vArg m c) b (rowT t r) (chan t l) := by
  have h16 : t.val < 16 := lt_of_lt_of_eq t.isLt N_0
  unfold outB outG
  show newL (aX _ _ r.val) (bX _ _ _ r.val) (hsL _ _ _ r.val) ⟨512 * b.val + l.val, _⟩ = _
  rw [newL_eq m c t r.val r.isLt _ _ fun j => hsL_eq m c t _ (fun j L => preS_eq m c t.val t.isLt j L) r.val (le_of_lt r.isLt) j _]
  unfold Cert.Lru.out
  refine congrArg₂ (Hst _ _ _) ?_ ?_
  · apply Fin.ext; simp only [bat]; omega
  · apply Fin.ext; simp only [chan, cm]; omega

/-- The result array. -/
def result (c : Dev nD) : S2x1024x1024.Idx → EReal := fun y => Cert.Lru.out (gateK (hArg m c) (wArg m c)) (vArg m c) (y 0) (y 1) (y 2)

/-- The output array at the end. -/
theorem final_o (c : Dev nD) : (dats m 0 c).arrAt 3 cfg0.N = result m c := by
  refine (dats m 0 c).arrAt_eq_of_covers 3 _ (by decide +kernel) fun t hf (y : S2x128x512.Idx) => ?_
  blk_simp
  rw [after_3]
  idx_vars y
  refine (outB_eq m c t y0 y1 y2).trans ?_
  unfold result
  refine congr (congr (congrArg (Cert.Lru.out _ _) (Fin.ext ?_)) (Fin.ext ?_)) (Fin.ext ?_)
  · show y0.val = ((win0_3.blk t).view.emb (ix3 y0 y1 y2) 0 : ℕ)
    blk_simp [index3]
  · show 128 * (t.val % 8) + y1.val = ((win0_3.blk t).view.emb (ix3 y0 y1 y2) 1 : ℕ)
    blk_simp [index3]
    show 128 * (t.val % 8) + y1.val = t.val % 8 * 128 + y1.val
    omega
  · show 512 * (t.val / 8) + y2.val = ((win0_3.blk t).view.emb (ix3 y0 y1 y2) 2 : ℕ)
    blk_simp [index3]
    show 512 * (t.val / 8) + y2.val = t.val / 8 * 512 + y2.val
    omega

/-- The kernel ends with the recurrence in its result array and its arguments unchanged. -/
theorem run : θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  have h : θ_run defs (onTc (τ := τ) (main (F := Ideal))) ⟨m, fun _ => 0, ρ⟩ (fun r => ∀ c : Dev nD,
      r.2.mem ((c.tc : Thread nD τ).loc main_v4) = result m c) :=
    (θ_run defs _ _).mono (fun _ h c => (h.out_eq c 3).trans (final_o m c)) (run_main m ρ)
  (θ_run defs _ _).mono (fun _ h c => ⟨h.2 c, h.1.1 c⟩) (θ_run_and (frame m ρ) h)

end Cert.KernelIdeal.Lru

end
-- ==== Proof.Lru.RefRun.lean ====
/- The reference's run over the step of Gen/ReferenceIdeal/Step.lean: one lemma per value of a trip, so that one trip of the loop
   is one `step`, and the result is read off state number 1024. -/
module

public import proofs.«01_k».proof.Proof.Gen.ReferenceIdeal.Run
public import proofs.«01_k».proof.Proof.Gen.ReferenceIdeal.Step

@[expose] public section

noncomputable section

namespace Cert.ReferenceIdeal.Lru

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_4 : V0 (Proc.devRef .tc main_v23_4) = s.main_v23_4
  f_5 : V0 (Proc.devRef .tc main_v23_5) = s.main_v23_5
  f_0 : V0 (Proc.devRef .tc main_v23_0) = s.main_v23_0
  f_1 : V0 (Proc.devRef .tc main_v23_1) = s.main_v23_1
  f_2 : V0 (Proc.devRef .tc main_v23_2) = s.main_v23_2
  n_3 : V0 (Proc.devRef .tc main_v23_3) = constantI S_ 32 (BitVec.ofNat 32 j)

variable {V0 s j}

set_option maxRecDepth 8192 in
/-- A value of the loop's body, as the step function names it (number 0). -/
theorem al_0 (h : Holds V0 s j) : (constantI S_ 32 0#32 : (Proc.devRef .tc main_while0b_call0_c : DevRef τ sig).ty.Contents (Elt F)) = Cert.ReferenceIdeal.Step.b0 j s := by
  unfold Cert.ReferenceIdeal.Step.b0
  rfl
set_option maxRecDepth 8192 in
/-- A value of the loop's body, as the step function names it (number 1). -/
theorem al_1 (h : Holds V0 s j) : (constantI S_ 32 0#32 : (Proc.devRef .tc main_while0b_call0_c_0 : DevRef τ sig).ty.Contents (Elt F)) = Cert.ReferenceIdeal.Step.b1 j s := by
  unfold Cert.ReferenceIdeal.Step.b1
  rfl
set_option maxRecDepth 8192 in
/-- A value of the loop's body, as the step function names it (number 2). -/
theorem al_2 (h : Holds V0 s j) : (constantI S_ 32 0#32 : (Proc.devRef .tc main_while0b_call0_c_1 : DevRef τ sig).ty.Contents (Elt F)) = Cert.ReferenceIdeal.Step.b2 j s := by
  unfold Cert.ReferenceIdeal.Step.b2
  rfl
set_option maxRecDepth 8192 in
/-- A value of the loop's body, as the step function names it (number 3). -/
theorem al_3 (h : Holds V0 s j) : (constantI S_ 32 0#32 : (Proc.devRef .tc main_while0b_call0_c_2 : DevRef τ sig).ty.Contents (Elt F)) = Cert.ReferenceIdeal.Step.b3 j s := by
  unfold Cert.ReferenceIdeal.Step.b3
  rfl
set_option maxRecDepth 8192 in
/-- A value of the loop's body, as the step function names it (number 4). -/
theorem al_4 (h : Holds V0 s j) : (Host.dynamicSlice S1x2x64x16x16 (V0 (Proc.devRef .tc main_v23_0)) (fun k => (((![V0 (Proc.devRef .tc main_v23_3), constantI S_ 32 0#32, constantI S_ 32 0#32, constantI S_ 32 0#32, constantI S_ 32 0#32] : Fin 5 → (⟨S_, .i32⟩ : BufTy).Contents (Elt F))) k (Shape.Idx.first h_S_)).toInt) sliceFits_S1024x2x64x16x16_S1x2x64x16x16 : (Proc.devRef .tc main_while0b_call0_v0 : DevRef τ sig).ty.Contents (Elt F)) = Cert.ReferenceIdeal.Step.b4 j s := by
  unfold Cert.ReferenceIdeal.Step.b4
  rw [← al_0 h, ← al_1 h, ← al_2 h, ← al_3 h, h.f_0, h.n_3]
  try rfl
set_option maxRecDepth 8192 in
/-- A value of the loop's body, as the step function names it (number 5). -/
theorem al_5 (h : Holds V0 s j) : (shapeCast S2x64x16x16 (Host.dynamicSlice S1x2x64x16x16 (V0 (Proc.devRef .tc main_v23_0)) (fun k => (((![V0 (Proc.devRef .tc main_v23_3), constantI S_ 32 0#32, constantI S_ 32 0#32, constantI S_ 32 0#32, constantI S_ 32 0#32] : Fin 5 → (⟨S_, .i32⟩ : BufTy).Contents (Elt F))) k (Shape.Idx.first h_S_)).toInt) sliceFits_S1024x2x64x16x16_S1x2x64x16x16) shapeCasts_S1x2x64x16x16_S2x64x16x16 : (Proc.devRef .tc main_while0b_v26 : DevRef τ sig).ty.Contents (Elt F)) = Cert.ReferenceIdeal.Step.b5 j s := by
  unfold Cert.ReferenceIdeal.Step.b5
  rw [← al_4 h]
  try rfl
set_option maxRecDepth 8192 in
/-- A value of the loop's body, as the step function names it (number 6). -/
theorem al_6 (h : Holds V0 s j) : (constantI S_ 32 0#32 : (Proc.devRef .tc main_while0b_call1_c : DevRef τ sig).ty.Contents (Elt F)) = Cert.ReferenceIdeal.Step.b6 j s := by
  unfold Cert.ReferenceIdeal.Step.b6
  rfl
set_option maxRecDepth 8192 in
/-- A value of the loop's body, as the step function names it (number 7). -/
theorem al_7 (h : Holds V0 s j) : (constantI S_ 32 0#32 : (Proc.devRef .tc main_while0b_call1_c_0 : DevRef τ sig).ty.Contents (Elt F)) = Cert.ReferenceIdeal.Step.b7 j s := by
  unfold Cert.ReferenceIdeal.Step.b7
  rfl
set_option maxRecDepth 8192 in
/-- A value of the loop's body, as the step function names it (number 8). -/
theorem al_8 (h : Holds V0 s j) : (constantI S_ 32 0#32 : (Proc.devRef .tc main_while0b_call1_c_1 : DevRef τ sig).ty.Contents (Elt F)) = Cert.ReferenceIdeal.Step.b8 j s := by
  unfold Cert.ReferenceIdeal.Step.b8
  rfl
set_option maxRecDepth 8192 in
/-- A value of the loop's body, as the step function names it (number 9). -/
theorem al_9 (h : Holds V0 s j) : (Host.dynamicSlice S1x2x64x16 (V0 (Proc.devRef .tc main_v23_1)) (fun k => (((![V0 (Proc.devRef .tc main_v23_3), constantI S_ 32 0#32, constantI S_ 32 0#32, constantI S_ 32 0#32] : Fin 4 → (⟨S_, .i32⟩ : BufTy).Contents (Elt F))) k (Shape.Idx.first h_S_)).toInt) sliceFits_S1024x2x64x16_S1x2x64x16 : (Proc.devRef .tc main_while0b_call1_v0 : DevRef τ sig).ty.Contents (Elt F)) = Cert.ReferenceIdeal.Step.b9 j s := by
  unfold Cert.ReferenceIdeal.Step.b9
  rw [← al_6 h, ← al_7 h, ← al_8 h, h.f_1, h.n_3]
  try rfl
set_option maxRecDepth 8192 in
/-- A value of the loop's body, as the step function names it (number 10). -/
theorem al_10 (h : Holds V0 s j) : (shapeCast S2x64x16 (Host.dynamicSlice S1x2x64x16 (V0 (Proc.devRef .tc main_v23_1)) (fun k => (((![V0 (Proc.devRef .tc main_v23_3), constantI S_ 32 0#32, constantI S_ 32 0#32, constantI S_ 32 0#32] : Fin 4 → (⟨S_, .i32⟩ : BufTy).Contents (Elt F))) k (Shape.Idx.first h_S_)).toInt) sliceFits_S1024x2x64x16_S1x2x64x16) shapeCasts_S1x2x64x16_S2x64x16 : (Proc.devRef .tc main_while0b_v27 : DevRef τ sig).ty.Contents (Elt F)) = Cert.ReferenceIdeal.Step.b10 j s := by
  unfold Cert.ReferenceIdeal.Step.b10
  rw [← al_9 h]
  try rfl
set_option maxRecDepth 8192 in
/-- A value of the loop's body, as the step function names it (number 11). -/
theorem al_11 (h : Holds V0 s j) : (constantI S_ 32 0#32 : (Proc.devRef .tc main_while0b_call2_c : DevRef τ sig).ty.Contents (Elt F)) = Cert.ReferenceIdeal.Step.b11 j s := by
  unfold Cert.ReferenceIdeal.Step.b11
  rfl
set_option maxRecDepth 8192 in
/-- A value of the loop's body, as the step function names it (number 12). -/
theorem al_12 (h : Holds V0 s j) : (constantI S_ 32 0#32 : (Proc.devRef .tc main_while0b_call2_c_0 : DevRef τ sig).ty.Contents (Elt F)) = Cert.ReferenceIdeal.Step.b12 j s := by
  unfold Cert.ReferenceIdeal.Step.b12
  rfl
set_option maxRecDepth 8192 in
/-- A value of the loop's body, as the step function names it (number 13). -/
theorem al_13 (h : Holds V0 s j) : (constantI S_ 32 0#32 : (Proc.devRef .tc main_while0b_call2_c_1 : DevRef τ sig).ty.Contents (Elt F)) = Cert.ReferenceIdeal.Step.b13 j s := by
  unfold Cert.ReferenceIdeal.Step.b13
  rfl
set_option maxRecDepth 8192 in
/-- A value of the loop's body, as the step function names it (number 14). -/
theorem al_14 (h : Holds V0 s j) : (Host.dynamicSlice S1x2x64x16 (V0 (Proc.devRef .tc main_v23_2)) (fun k => (((![V0 (Proc.devRef .tc main_v23_3), constantI S_ 32 0#32, constantI S_ 32 0#32, constantI S_ 32 0#32] : Fin 4 → (⟨S_, .i32⟩ : BufTy).Contents (Elt F))) k (Shape.Idx.first h_S_)).toInt) sliceFits_S1024x2x64x16_S1x2x64x16 : (Proc.devRef .tc main_while0b_call2_v0 : DevRef τ sig).ty.Contents (Elt F)) = Cert.ReferenceIdeal.Step.b14 j s := by
  unfold Cert.ReferenceIdeal.Step.b14
  rw [← al_11 h, ← al_12 h, ← al_13 h, h.f_2, h.n_3]
  try rfl
set_option maxRecDepth 8192 in
/-- A value of the loop's body, as the step function names it (number 15). -/
theorem al_15 (h : Holds V0 s j) : (shapeCast S2x64x16 (Host.dynamicSlice S1x2x64x16 (V0 (Proc.devRef .tc main_v23_2)) (fun k => (((![V0 (Proc.devRef .tc main_v23_3), constantI S_ 32 0#32, constantI S_ 32 0#32, constantI S_ 32 0#32] : Fin 4 → (⟨S_, .i32⟩ : BufTy).Contents (Elt F))) k (Shape.Idx.first h_S_)).toInt) sliceFits_S1024x2x64x16_S1x2x64x16) shapeCasts_S1x2x64x16_S2x64x16 : (Proc.devRef .tc main_while0b_v28 : DevRef τ sig).ty.Contents (Elt F)) = Cert.ReferenceIdeal.Step.b15 j s := by
  unfold Cert.ReferenceIdeal.Step.b15
  rw [← al_14 h]
  try rfl
set_option maxRecDepth 8192 in
/-- A value of the loop's body, as the step function names it (number 16). -/
theorem al_16 (h : Holds V0 s j) : (Host.dotGeneral dot_S2x64x16x16_S2x64x16_S2x64x16_3_2_2_n_01_01 none (shapeCast S2x64x16x16 (Host.dynamicSlice S1x2x64x16x16 (V0 (Proc.devRef .tc main_v23_0)) (fun k => (((![V0 (Proc.devRef .tc main_v23_3), constantI S_ 32 0#32, constantI S_ 32 0#32, constantI S_ 32 0#32, constantI S_ 32 0#32] : Fin 5 → (⟨S_, .i32⟩ : BufTy).Contents (Elt F))) k (Shape.Idx.first h_S_)).toInt) sliceFits_S1024x2x64x16x16_S1x2x64x16x16) shapeCasts_S1x2x64x16x16_S2x64x16x16) (V0 (Proc.devRef .tc main_v23_4)) : (Proc.devRef .tc main_while0b_v29 : DevRef τ sig).ty.Contents (Elt F)) = Cert.ReferenceIdeal.Step.b16 j s := by
  unfold Cert.ReferenceIdeal.Step.b16
  rw [← al_5 h, h.f_4]
  try rfl
set_option maxRecDepth 8192 in
/-- A value of the loop's body, as the step function names it (number 17). -/
theorem al_17 (h : Holds V0 s j) : (mulf (shapeCast S2x64x16 (Host.dynamicSlice S1x2x64x16 (V0 (Proc.devRef .tc main_v23_1)) (fun k => (((![V0 (Proc.devRef .tc main_v23_3), constantI S_ 32 0#32, constantI S_ 32 0#32, constantI S_ 32 0#32] : Fin 4 → (⟨S_, .i32⟩ : BufTy).Contents (Elt F))) k (Shape.Idx.first h_S_)).toInt) sliceFits_S1024x2x64x16_S1x2x64x16) shapeCasts_S1x2x64x16_S2x64x16) (shapeCast S2x64x16 (Host.dynamicSlice S1x2x64x16 (V0 (Proc.devRef .tc main_v23_2)) (fun k => (((![V0 (Proc.devRef .tc main_v23_3), constantI S_ 32 0#32, constantI S_ 32 0#32, constantI S_ 32 0#32] : Fin 4 → (⟨S_, .i32⟩ : BufTy).Contents (Elt F))) k (Shape.Idx.first h_S_)).toInt) sliceFits_S1024x2x64x16_S1x2x64x16) shapeCasts_S1x2x64x16_S2x64x16) : (Proc.devRef .tc main_while0b_v30 : DevRef τ sig).ty.Contents (Elt F)) = Cert.ReferenceIdeal.Step.b17 j s := by
  unfold Cert.ReferenceIdeal.Step.b17
  rw [← al_10 h, ← al_15 h]
  try rfl
set_option maxRecDepth 8192 in
/-- A value of the loop's body, as the step function names it (number 18). -/
theorem al_18 (h : Holds V0 s j) : (res_main_while0b_v31 V0 : (Proc.devRef .tc main_while0b_v31 : DevRef τ sig).ty.Contents (Elt F)) = Cert.ReferenceIdeal.Step.b18 j s := by
  unfold res_main_while0b_v31 Cert.ReferenceIdeal.Step.b18
  rw [← al_16 h, ← al_17 h]
  try rfl
set_option maxRecDepth 8192 in
/-- A value of the loop's body, as the step function names it (number 19). -/
theorem al_19 (h : Holds V0 s j) : (broadcastInDim S1x2x64x16 ![1, 2, 3] bcast_S2x64x16_S1x2x64x16_1_2_3 (res_main_while0b_v31 V0) : (Proc.devRef .tc main_while0b_call3_v0 : DevRef τ sig).ty.Contents (Elt F)) = Cert.ReferenceIdeal.Step.b19 j s := by
  unfold Cert.ReferenceIdeal.Step.b19
  rw [← al_18 h]
  try rfl
set_option maxRecDepth 8192 in
/-- A value of the loop's body, as the step function names it (number 20). -/
theorem al_20 (h : Holds V0 s j) : (constantI S_ 32 0#32 : (Proc.devRef .tc main_while0b_call3_c : DevRef τ sig).ty.Contents (Elt F)) = Cert.ReferenceIdeal.Step.b20 j s := by
  unfold Cert.ReferenceIdeal.Step.b20
  rfl
set_option maxRecDepth 8192 in
/-- A value of the loop's body, as the step function names it (number 21). -/
theorem al_21 (h : Holds V0 s j) : (constantI S_ 32 0#32 : (Proc.devRef .tc main_while0b_call3_c_0 : DevRef τ sig).ty.Contents (Elt F)) = Cert.ReferenceIdeal.Step.b21 j s := by
  unfold Cert.ReferenceIdeal.Step.b21
  rfl
set_option maxRecDepth 8192 in
/-- A value of the loop's body, as the step function names it (number 22). -/
theorem al_22 (h : Holds V0 s j) : (constantI S_ 32 0#32 : (Proc.devRef .tc main_while0b_call3_c_1 : DevRef τ sig).ty.Contents (Elt F)) = Cert.ReferenceIdeal.Step.b22 j s := by
  unfold Cert.ReferenceIdeal.Step.b22
  rfl
set_option maxRecDepth 8192 in
/-- A value of the loop's body, as the step function names it (number 23). -/
theorem al_23 (h : Holds V0 s j) : (Host.dynamicUpdateSlice (V0 (Proc.devRef .tc main_v23_5)) (broadcastInDim S1x2x64x16 ![1, 2, 3] bcast_S2x64x16_S1x2x64x16_1_2_3 (res_main_while0b_v31 V0)) (fun k => (((![V0 (Proc.devRef .tc main_v23_3), constantI S_ 32 0#32, constantI S_ 32 0#32, constantI S_ 32 0#32] : Fin 4 → (⟨S_, .i32⟩ : BufTy).Contents (Elt F))) k (Shape.Idx.first h_S_)).toInt) updateFits_S1024x2x64x16_S1x2x64x16 : (Proc.devRef .tc main_while0b_v32 : DevRef τ sig).ty.Contents (Elt F)) = Cert.ReferenceIdeal.Step.b23 j s := by
  unfold Cert.ReferenceIdeal.Step.b23
  rw [← al_19 h, ← al_20 h, ← al_21 h, ← al_22 h, h.f_5, h.n_3]
  try rfl

/-! One trip's step of the carried values is `step`, field by field; a counter steps to the next number. -/

/-- The loop's body makes the next state. -/
theorem step_4 (h : Holds V0 s j) : step_main_v23_4 V0 = (step j s).main_v23_4 := by
  unfold step_main_v23_4 Cert.ReferenceIdeal.Step.step
  show id (res_main_while0b_v31 V0) = _
  rw [al_18 h]
  try rfl
/-- The loop's body makes the next stack. -/
theorem step_5 (h : Holds V0 s j) : step_main_v23_5 V0 = (step j s).main_v23_5 := by
  unfold step_main_v23_5 Cert.ReferenceIdeal.Step.step
  show id (Host.dynamicUpdateSlice (V0 (Proc.devRef .tc main_v23_5)) (broadcastInDim S1x2x64x16 ![1, 2, 3] bcast_S2x64x16_S1x2x64x16_1_2_3 (res_main_while0b_v31 V0)) (fun k => (((![V0 (Proc.devRef .tc main_v23_3), constantI S_ 32 0#32, constantI S_ 32 0#32, constantI S_ 32 0#32] : Fin 4 → (⟨S_, .i32⟩ : BufTy).Contents (Elt F))) k (Shape.Idx.first h_S_)).toInt) updateFits_S1024x2x64x16_S1x2x64x16) = _
  exact al_23 h
/-- The loop's body counts one on. -/
theorem step_3 (h : Holds V0 s j) : step_main_v23_3 V0 = constantI S_ 32 (BitVec.ofNat 32 (j + 1)) := by
  unfold step_main_v23_3
  rw [h.n_3]
  funext i
  show BitVec.ofNat 32 j + 1#32 = BitVec.ofNat 32 (j + 1)
  simp only [BitVec.ofNat_add]

set_option maxRecDepth 8192 in
/-- The result is read off the last state. -/
theorem out_main_v25_holds (h : Holds V0 s j) : out_main_v25 V0 = Cert.ReferenceIdeal.Step.R_main_v25 s := by
  unfold out_main_v25 Cert.ReferenceIdeal.Step.R_main_v25
  rw [h.f_5]
  try rfl

/-- One trip keeps the valuation holding: `step` of the state, the same set-up values, the next number. -/
theorem holds_step (h : Holds V0 s j) : Holds (STEP V0) (step j s) (j + 1) where
  f_4 := (STEP_main_v23_4 V0).trans (step_4 h)
  f_5 := (STEP_main_v23_5 V0).trans (step_5 h)
  n_3 := (STEP_main_v23_3 V0).trans (step_3 h)
  f_0 := (STEP_main_v23_0 V0).trans h.f_0
  f_1 := (STEP_main_v23_1 V0).trans h.f_1
  f_2 := (STEP_main_v23_2 V0).trans h.f_2

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2))

variable (m : (ℓ : Loc nD τ sig) → Buf (Elt F) ℓ) (c : Dev nD)

set_option maxRecDepth 65536 in
set_option maxHeartbeats 300000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 1024 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v25) = Cert.ReferenceIdeal.Step.R_main_v25 (it c 1024)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have hk := holds_iter m c (it c) (h0 c) (hs c) 1024
    ⟨(h c).1.trans (out_main_v25_holds hk), (h c).2.1, (h c).2.2.1, (h c).2.2.2⟩) (Value.run m ρ)

end Cert.ReferenceIdeal.Lru

end
-- ==== Proof.Lru.RefLoop.lean ====
/- One trip of the reference's loop at an index. -/
module

public import proofs.«01_k».proof.Proof.Gen.ReferenceIdeal.Step
public import proofs.«01_k».proof.Proof.Lru.Spec
public import Idealize.ShloMosaic.Lib.DynamicIndex
public import Idealize.ShloMosaic.Lib.WordCmp
public import Idealize.ShloMosaic.Lib.Pipeline.Value

@[expose] public section

set_option maxRecDepth 16384

noncomputable section

namespace Cert.ReferenceIdeal.Lru

open Idealize.ShloMosaic
open Cert.ReferenceIdeal Cert.ReferenceIdeal.Gen Cert.ReferenceIdeal.Step
open scoped BigOperators

/-- A trip number below 1024 as a 32-bit word reads back as itself. -/
theorem word_int (j : ℕ) (hj : j < 1024) : (BitVec.ofNat 32 j).toInt = (j : ℤ) := by
  rw [BitVec.toInt_eq_toNat_of_lt (by rw [BitVec.toNat_ofNat]; omega), BitVec.toNat_ofNat]
  omega

variable (j : ℕ) (hj : j < 1024) (s : State Ideal)

/-- The trip's slice of the matrices of gates. -/
theorem b5_apply (b : Fin 2) (h : Fin 64) (i k : Fin 16) :
    (b5 j s : S2x64x16x16.Idx → EReal) (ix4 b h i k) = (s.main_v23_0 : S1024x2x64x16x16.Idx → EReal) (ix5 (⟨j, hj⟩ : Fin 1024) b h i k) := by
  have hs : S1024x2x64x16x16.Slices ![j, 0, 0, 0, 0] S1x2x64x16x16 := ⟨rfl, fun a => by fin_cases a <;> simp <;> omega⟩
  unfold b5 b4
  rw [Host.dynamicSlice_eq_extractStridedSlice _ _ _ ![j, 0, 0, 0, 0] _ hs]
  · pointwise
  · intro a
    fin_cases a
    · exact word_int j hj
    all_goals rfl

/-- The trip's slice of the input gates. -/
theorem b10_apply (b : Fin 2) (h : Fin 64) (i : Fin 16) :
    (b10 j s : S2x64x16.Idx → EReal) (ix3 b h i) = (s.main_v23_1 : S1024x2x64x16.Idx → EReal) (ix4 (⟨j, hj⟩ : Fin 1024) b h i) := by
  have hs : S1024x2x64x16.Slices ![j, 0, 0, 0] S1x2x64x16 := ⟨rfl, fun a => by fin_cases a <;> simp <;> omega⟩
  unfold b10 b9
  rw [Host.dynamicSlice_eq_extractStridedSlice _ _ _ ![j, 0, 0, 0] _ hs]
  · pointwise
  · intro a
    fin_cases a
    · exact word_int j hj
    all_goals rfl

/-- The trip's slice of the inputs. -/
theorem b15_apply (b : Fin 2) (h : Fin 64) (i : Fin 16) :
    (b15 j s : S2x64x16.Idx → EReal) (ix3 b h i) = (s.main_v23_2 : S1024x2x64x16.Idx → EReal) (ix4 (⟨j, hj⟩ : Fin 1024) b h i) := by
  have hs : S1024x2x64x16.Slices ![j, 0, 0, 0] S1x2x64x16 := ⟨rfl, fun a => by fin_cases a <;> simp <;> omega⟩
  unfold b15 b14
  rw [Host.dynamicSlice_eq_extractStridedSlice _ _ _ ![j, 0, 0, 0] _ hs]
  · pointwise
  · intro a
    fin_cases a
    · exact word_int j hj
    all_goals rfl

/-- The new state of a trip. -/
theorem b18_apply (b : Fin 2) (h : Fin 64) (i : Fin 16) :
    (b18 j s : S2x64x16.Idx → EReal) (ix3 b h i)
      = (∑ x : Fin 16, (s.main_v23_0 : S1024x2x64x16x16.Idx → EReal) (ix5 (⟨j, hj⟩ : Fin 1024) b h i x) * (s.main_v23_4 : S2x64x16.Idx → EReal) (ix3 b h x))
        + (s.main_v23_1 : S1024x2x64x16.Idx → EReal) (ix4 (⟨j, hj⟩ : Fin 1024) b h i) * (s.main_v23_2 : S1024x2x64x16.Idx → EReal) (ix4 (⟨j, hj⟩ : Fin 1024) b h i) := by
  unfold b18 b16 b17
  pointwise
  rw [b10_apply j hj, b15_apply j hj]
  simp only [b5_apply j hj]

include hj in
/-- A trip stores its new state as row `j` of the outputs. -/
theorem b23_apply (t : Fin 1024) (b : Fin 2) (h : Fin 64) (i : Fin 16) :
    (b23 j s : S1024x2x64x16.Idx → EReal) (ix4 t b h i) = if t.val = j then (b18 j s : S2x64x16.Idx → EReal) (ix3 b h i) else (s.main_v23_5 : S1024x2x64x16.Idx → EReal) (ix4 t b h i) := by
  have hs : S1024x2x64x16.Slices ![j, 0, 0, 0] S1x2x64x16 := ⟨rfl, fun a => by fin_cases a <;> simp <;> omega⟩
  unfold b23 b19
  rw [WordCmp.dynamicUpdateSlice_eq_update _ _ _ _ ![j, 0, 0, 0] hs]
  · pointwise
    by_cases ht : t.val = j
    · rw [dif_pos ⟨ht.ge, by omega⟩, if_pos ht]
    · rw [dif_neg (by omega), if_neg ht]
  · intro a
    fin_cases a
    · exact word_int j hj
    all_goals rfl

end Cert.ReferenceIdeal.Lru

end
-- ==== Proof.Lru.RefGate.lean ====
/- The arrays the reference computes before its loop, at an index: logits, gates, inputs. -/
module

public import proofs.«01_k».proof.Proof.Gen.ReferenceIdeal.Step
public import proofs.«01_k».proof.Proof.Lru.Spec
public import Idealize.ShloMosaic.Lib.Pipeline.Value

@[expose] public section

set_option maxRecDepth 16384

noncomputable section

namespace Cert.ReferenceIdeal.Lru

open Idealize.ShloMosaic
open Cert.ReferenceIdeal Cert.ReferenceIdeal.Gen Cert.ReferenceIdeal.Step
open Cert.Lru (lg col)
open scoped BigOperators

variable (x0 x1 : S2x1024x1024.Idx → EReal) (x2 : S1024x17408.Idx → EReal)

/-- Channel `i` of head `h`. -/
def ch (h : Fin 64) (i : Fin 16) : Fin 1024 := ⟨16 * h.val + i.val, by omega⟩

/-- The arguments as plain functions. -/
def fh (b : Fin 2) (t k : Fin 1024) : EReal := x0 (ix3 b t k)
def fw (k : Fin 1024) (n : Fin 17408) : EReal := x2 (ix2 k n)

/-- The product's entries are the logits. -/
theorem v2_apply (b : Fin 2) (t : Fin 1024) (n : Fin 17408) :
    (A_main_v2 (F := Ideal) x0 x1 x2 : S2x1024x17408.Idx → EReal) (ix3 b t n) = lg (fh x0) (fw x2) b t n := by
  unfold A_main_v2 A_main_v0 lg fh fw
  pointwise

/-- The logits by head, channel and gate. -/
theorem v3_apply (b : Fin 2) (t : Fin 1024) (h : Fin 64) (i : Fin 16) (j : Fin 17) :
    (A_main_v3 (F := Ideal) x0 x1 x2 : S2x1024x64x16x17.Idx → EReal) (ix5 b t h i j) = lg (fh x0) (fw x2) b t (col (ch h i) j) := by
  unfold A_main_v3
  refine (shapeCast_apply _ _ _ (ix3 b t (col (ch h i) j)) ?_).trans (v2_apply x0 x1 x2 b t _)
  rw [Shape.rowMajor_val_five, Shape.rowMajor_val_three]
  show (b.val * 1024 + t.val) * 17408 + (17 * (16 * h.val + i.val) + j.val) = (((b.val * 1024 + t.val) * 64 + h.val) * 16 + i.val) * 17 + j.val
  omega

/-- The greatest of a channel's logits. -/
theorem v4_apply (b : Fin 2) (t : Fin 1024) (h : Fin 64) (i : Fin 16) :
    (A_main_v4 (F := Ideal) x0 x1 x2 : S2x1024x64x16.Idx → EReal) (ix4 b t h i) = Finset.fold max (Ideal.ofBits FTy.f32 4286578688#32) (fun j : Fin 17 => lg (fh x0) (fw x2) b t (col (ch h i) j)) Finset.univ := by
  rw [← funext (v3_apply x0 x1 x2 b t h i)]
  unfold A_main_v4 K_main_cst
  generalize A_main_v3 (F := Ideal) x0 x1 x2 = z
  pointwise

/-- The word of minus infinity. -/
theorem bits_bot : Ideal.ofBits FTy.f32 4286578688#32 = ⊥ := by simp [Ideal.ofBits, Ideal.ieee]

/-- The array the maximum is taken with is minus infinity everywhere. -/
theorem v5_apply (j : S2x1024x64x16.Idx) : (K_main_v5 (F := Ideal) : S2x1024x64x16.Idx → EReal) j = ⊥ := by
  unfold K_main_v5 K_main_cst_0
  rw [← bits_bot]
  pointwise

/-- A maximum with minus infinity is the other array. -/
theorem maximumf_of_bot (z y : FVec Ideal S2x1024x64x16 .f32) (i : S2x1024x64x16.Idx) (hz : z i = (⊥ : EReal)) : maximumf z y i = y i := by
  have e : maximumf z y i = (max (z i : EReal) (y i) : EReal) := rfl
  rw [e, hz]
  exact max_eq_right bot_le

/-- So the maximum with it changes nothing. -/
theorem v6_apply (b : Fin 2) (t : Fin 1024) (h : Fin 64) (i : Fin 16) :
    (A_main_v6 (F := Ideal) x0 x1 x2 : S2x1024x64x16.Idx → EReal) (ix4 b t h i) = (A_main_v4 (F := Ideal) x0 x1 x2 : S2x1024x64x16.Idx → EReal) (ix4 b t h i) := by
  unfold A_main_v6
  exact maximumf_of_bot (K_main_v5 (F := Ideal)) (A_main_v4 (F := Ideal) x0 x1 x2) _ (v5_apply _)

/-- The maximum, repeated for every gate. -/
theorem v8_apply (b : Fin 2) (t : Fin 1024) (h : Fin 64) (i : Fin 16) (j : Fin 17) :
    (A_main_v8 (F := Ideal) x0 x1 x2 : S2x1024x64x16x17.Idx → EReal) (ix5 b t h i j) = (A_main_v6 (F := Ideal) x0 x1 x2 : S2x1024x64x16.Idx → EReal) (ix4 b t h i) := by
  unfold A_main_v8 A_main_v7
  generalize A_main_v6 (F := Ideal) x0 x1 x2 = y
  pointwise

/-- The logits less their maximum. -/
theorem v9_apply (b : Fin 2) (t : Fin 1024) (h : Fin 64) (i : Fin 16) (j : Fin 17) :
    (A_main_v9 (F := Ideal) x0 x1 x2 : S2x1024x64x16x17.Idx → EReal) (ix5 b t h i j) = (A_main_v3 (F := Ideal) x0 x1 x2 : S2x1024x64x16x17.Idx → EReal) (ix5 b t h i j) - (A_main_v8 (F := Ideal) x0 x1 x2 : S2x1024x64x16x17.Idx → EReal) (ix5 b t h i j) := rfl

/-- The softmax of the shifted logits. -/
theorem v14_apply (b : Fin 2) (t : Fin 1024) (h : Fin 64) (i : Fin 16) (j : Fin 17) :
    (A_main_v14 (F := Ideal) x0 x1 x2 : S2x1024x64x16x17.Idx → EReal) (ix5 b t h i j) = Ideal.div (Ideal.exp ((A_main_v9 (F := Ideal) x0 x1 x2 : S2x1024x64x16x17.Idx → EReal) (ix5 b t h i j))) (∑ x, Ideal.exp ((A_main_v9 (F := Ideal) x0 x1 x2 : S2x1024x64x16x17.Idx → EReal) (ix5 b t h i x))) := by
  unfold A_main_v14 A_main_v13 A_main_v12 A_main_v11 A_main_v10 K_main_cst_1
  generalize A_main_v9 (F := Ideal) x0 x1 x2 = z
  pointwise

/-- The matrices of gates, time first. -/
theorem v19_apply (b : Fin 2) (t : Fin 1024) (h : Fin 64) (i k : Fin 16) :
    (A_main_v19 (F := Ideal) x0 x1 x2 : S1024x2x64x16x16.Idx → EReal) (ix5 t b h i k) = (A_main_v14 (F := Ideal) x0 x1 x2 : S2x1024x64x16x17.Idx → EReal) (ix5 b t h i k.succ) := by
  unfold A_main_v19 A_main_v17
  generalize A_main_v14 (F := Ideal) x0 x1 x2 = z
  pointwise
  exact congrArg z (congrArg (ix5 b t h i) (Fin.ext (by simp; omega)))

/-- The input gates, time first. -/
theorem v20_apply (b : Fin 2) (t : Fin 1024) (h : Fin 64) (i : Fin 16) :
    (A_main_v20 (F := Ideal) x0 x1 x2 : S1024x2x64x16.Idx → EReal) (ix4 t b h i) = (A_main_v14 (F := Ideal) x0 x1 x2 : S2x1024x64x16x17.Idx → EReal) (ix5 b t h i 0) := by
  unfold A_main_v20 A_main_v16 A_main_v15
  generalize A_main_v14 (F := Ideal) x0 x1 x2 = z
  pointwise

/-- The inputs, time first and by head. -/
theorem v21_apply (b : Fin 2) (t : Fin 1024) (h : Fin 64) (i : Fin 16) :
    (A_main_v21 (F := Ideal) x0 x1 x2 : S1024x2x64x16.Idx → EReal) (ix4 t b h i) = x1 (ix3 b t (ch h i)) := by
  unfold A_main_v21
  refine (transpose_apply _ _ _ _ (ix4 b t h i) fun a => by fin_cases a <;> rfl).trans ?_
  unfold A_main_v1
  refine shapeCast_apply _ _ _ (ix3 b t (ch h i)) ?_
  rw [Shape.rowMajor_val_four, Shape.rowMajor_val_three]
  show (b.val * 1024 + t.val) * 1024 + (16 * h.val + i.val) = ((b.val * 1024 + t.val) * 64 + h.val) * 16 + i.val
  omega

end Cert.ReferenceIdeal.Lru

end
-- ==== Proof.Lru.Softmax.lean ====
/- The reference's softmax, which takes off the greatest logit first, is the kernel's, which does not, when the logits are real. -/
module

public import proofs.«01_k».proof.Proof.Lru.Spec

@[expose] public section

noncomputable section

namespace Cert.Lru

open Idealize.ShloMosaic
open scoped BigOperators

/-- Neither infinity. -/
def Fine (x : EReal) : Prop := x ≠ ⊤ ∧ x ≠ ⊥

/-- A real entry is its real part. -/
theorem Fine.coe {x : EReal} (h : Fine x) : ((x.toReal : ℝ) : EReal) = x := EReal.coe_toReal h.1 h.2

/-- A sum of reals is real. -/
theorem sum_coe {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Logits of finite entries are real. -/
theorem lg_real {h : Fin 2 → Fin 1024 → Fin 1024 → EReal} {w : Fin 1024 → Fin 17408 → EReal}
    (hh : ∀ b t k, Fine (h b t k)) (hw : ∀ k n, Fine (w k n)) (b : Fin 2) (t : Fin 1024) (n : Fin 17408) :
    lg h w b t n = ((∑ k, (h b t k).toReal * (w k n).toReal : ℝ) : EReal) := by
  rw [← sum_coe]
  unfold lg
  exact Finset.sum_congr rfl fun k _ => by rw [EReal.coe_mul, (hh b t k).coe, (hw k n).coe]

/-- The greatest of finitely many reals, folded from `⊥`, is one of them. -/
theorem fold_real (f : Fin 17 → ℝ) : ∃ M : ℝ, Finset.fold max (⊥ : EReal) (fun j : Fin 17 => ((f j : ℝ) : EReal)) Finset.univ = (M : EReal) := by
  obtain ⟨i, _, hi⟩ := Finset.exists_mem_eq_sup (Finset.univ : Finset (Fin 17)) ⟨0, Finset.mem_univ _⟩ (fun j : Fin 17 => ((f j : ℝ) : EReal))
  exact ⟨f i, hi⟩

/-- A quotient of reals is real. -/
theorem div_coe (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

/-- Taking any real off every exponent leaves the quotients as they are. -/
theorem shift (f : Fin 17 → ℝ) (M : ℝ) (j : Fin 17) :
    Ideal.div (Ideal.exp ((f j : EReal) - (M : EReal))) (∑ x : Fin 17, Ideal.exp ((f x : EReal) - (M : EReal)))
      = Ideal.exp (f j : EReal) * Ideal.div 1 (∑ x : Fin 17, Ideal.exp (f x : EReal)) := by
  have pos : ∀ g : Fin 17 → ℝ, (∑ x, Real.exp (g x)) ≠ 0 := fun g =>
    (Finset.sum_pos (fun x _ => Real.exp_pos (g x)) ⟨0, Finset.mem_univ _⟩).ne'
  simp only [← EReal.coe_sub, Ideal.exp_coe]
  rw [sum_coe, sum_coe, div_coe _ _ (pos _), ← EReal.coe_one, div_coe _ _ (pos _), ← EReal.coe_mul]
  congr 1
  simp only [Real.exp_sub]
  rw [← Finset.sum_div]
  have := pos f
  have := Real.exp_ne_zero M
  field_simp

/-- The reference's gate is the kernel's. -/
theorem gate_eq {h : Fin 2 → Fin 1024 → Fin 1024 → EReal} {w : Fin 1024 → Fin 17408 → EReal}
    (hh : ∀ b t k, Fine (h b t k)) (hw : ∀ k n, Fine (w k n)) (b : Fin 2) (t d : Fin 1024) (j : Fin 17) :
    Ideal.div (Ideal.exp (lg h w b t (col d j) - Finset.fold max (⊥ : EReal) (fun x : Fin 17 => lg h w b t (col d x)) Finset.univ))
        (∑ x : Fin 17, Ideal.exp (lg h w b t (col d x) - Finset.fold max (⊥ : EReal) (fun x : Fin 17 => lg h w b t (col d x)) Finset.univ))
      = gateK h w b t d j := by
  have e := lg_real hh hw
  unfold gateK
  simp only [e]
  obtain ⟨M, hM⟩ := fold_real fun x => ∑ k, (h b t k).toReal * (w k (col d x)).toReal
  rw [hM]
  exact shift _ M j

/-- An entry whose absolute value is below `⊤` is real. -/
theorem fin_of_olt {x : EReal} (h : Ideal.cmp .olt (max x (-x)) ⊤ = 1#1) : Fine x := by
  have h' : max x (-x) < ⊤ := by
    by_contra hn
    simp [Ideal.cmp, hn] at h
  rw [max_lt_iff] at h'
  refine ⟨h'.1.ne, fun hb => ?_⟩
  rw [hb] at h'
  simp at h'

end Cert.Lru

end
-- ==== Proof.Lru.RefVal.lean ====
/- What the reference's loop leaves: its state after `n` trips, its stack of states, and the result read off it. -/
module

public import proofs.«01_k».proof.Proof.Lru.RefLoop
public import proofs.«01_k».proof.Proof.Lru.RefGate
public import proofs.«01_k».proof.Proof.Lru.Softmax

@[expose] public section

set_option maxRecDepth 16384

noncomputable section

namespace Cert.ReferenceIdeal.Lru

open Idealize.ShloMosaic
open Cert.ReferenceIdeal Cert.ReferenceIdeal.Gen Cert.ReferenceIdeal.Step
open Cert.Lru (lg col tm tm_val peer Hst Hst_succ Fine gateK)
open scoped BigOperators

variable (x0 x1 : S2x1024x1024.Idx → EReal) (x2 : S1024x17408.Idx → EReal)

/-- The reference's gates, by channel. -/
def gateR (b : Fin 2) (t d : Fin 1024) (j : Fin 17) : EReal :=
  (A_main_v14 (F := Ideal) x0 x1 x2 : S2x1024x64x16x17.Idx → EReal) (ix5 b t (⟨d.val / 16, by omega⟩ : Fin 64) (⟨d.val % 16, by omega⟩ : Fin 16) j)

/-- The softmax array at a head and a place in it is the gate of that channel. -/
theorem gateR_ch (b : Fin 2) (t : Fin 1024) (h : Fin 64) (i : Fin 16) (j : Fin 17) :
    (A_main_v14 (F := Ideal) x0 x1 x2 : S2x1024x64x16x17.Idx → EReal) (ix5 b t h i j) = gateR x0 x1 x2 b t (ch h i) j := by
  unfold gateR
  have e1 : (⟨(ch h i).val / 16, by omega⟩ : Fin 64) = h := Fin.ext (by show (16 * h.val + i.val) / 16 = h.val; omega)
  have e2 : (⟨(ch h i).val % 16, by omega⟩ : Fin 16) = i := Fin.ext (by show (16 * h.val + i.val) % 16 = i.val; omega)
  rw [e1, e2]

/-- The states of the loop. -/
def its : ℕ → State Ideal
  | 0 => init x0 x1 x2
  | n + 1 => step n (its n)

/-- The third argument as a plain function. -/
def fv (b : Fin 2) (t d : Fin 1024) : EReal := x1 (ix3 b t d)

/-- The recurrence at the reference's gates. -/
abbrev HR : ℕ → Fin 2 → Fin 1024 → EReal := Hst (gateR x0 x1 x2) (fv x1)

/-- The loop never changes the arrays it reads. -/
theorem const_its : ∀ n, (its x0 x1 x2 n).main_v23_0 = A_main_v19 (F := Ideal) x0 x1 x2
    ∧ (its x0 x1 x2 n).main_v23_1 = A_main_v20 (F := Ideal) x0 x1 x2 ∧ (its x0 x1 x2 n).main_v23_2 = A_main_v21 (F := Ideal) x0 x1 x2
  | 0 => ⟨rfl, rfl, rfl⟩
  | n + 1 => const_its n

/-- One trip takes the recurrence's state one step on. -/
theorem b18_its (n : ℕ) (hn : n < 1024) (b : Fin 2) (h : Fin 64) (i : Fin 16)
    (ih : ∀ k, ((its x0 x1 x2 n).main_v23_4 : S2x64x16.Idx → EReal) (ix3 b h k) = HR x0 x1 x2 n b (ch h k)) :
    (b18 n (its x0 x1 x2 n) : S2x64x16.Idx → EReal) (ix3 b h i) = HR x0 x1 x2 (n + 1) b (ch h i) := by
  obtain ⟨c0, c1, c2⟩ := const_its x0 x1 x2 n
  rw [b18_apply n hn, c0, c1, c2, v20_apply, v21_apply, gateR_ch]
  have et : (⟨n, hn⟩ : Fin 1024) = tm n := (tm_val ⟨n, hn⟩).symm
  unfold HR
  rw [Hst_succ, et]
  refine congrArg₂ (· + ·) (Finset.sum_congr rfl fun k _ => ?_) rfl
  have ep : peer (ch h i) k = ch h k := Fin.ext (by show 16 * ((16 * h.val + i.val) / 16) + k.val = 16 * h.val + k.val; omega)
  rw [v19_apply, gateR_ch, ih k, ep]

/-- The state after `n` trips. -/
theorem state_its : ∀ n ≤ 1024, ∀ (b : Fin 2) (h : Fin 64) (i : Fin 16),
    ((its x0 x1 x2 n).main_v23_4 : S2x64x16.Idx → EReal) (ix3 b h i) = HR x0 x1 x2 n b (ch h i)
  | 0, _, b, h, i => by
    show (K_main_v18 (F := Ideal) : S2x64x16.Idx → EReal) (ix3 b h i) = 0
    unfold K_main_v18 K_main_cst_2
    pointwise
  | n + 1, hn, b, h, i => b18_its x0 x1 x2 n (by omega) b h i fun k => state_its n (by omega) b h k

/-- The stack after `n` trips. -/
theorem stack_its : ∀ n ≤ 1024, ∀ (t : Fin 1024) (b : Fin 2) (h : Fin 64) (i : Fin 16), t.val < n →
    ((its x0 x1 x2 n).main_v23_5 : S1024x2x64x16.Idx → EReal) (ix4 t b h i) = HR x0 x1 x2 (t.val + 1) b (ch h i)
  | 0, _, t, b, h, i, ht => absurd ht (Nat.not_lt_zero _)
  | n + 1, hn, t, b, h, i, ht => by
    show (b23 n (its x0 x1 x2 n) : S1024x2x64x16.Idx → EReal) (ix4 t b h i) = _
    rw [b23_apply n (by omega)]
    by_cases e : t.val = n
    · rw [if_pos e, e]
      exact b18_its x0 x1 x2 n (by omega) b h i fun k => state_its x0 x1 x2 n (by omega) b h k
    · rw [if_neg e]
      exact stack_its n (by omega) t b h i (by omega)

/-- The result. -/
theorem result_its (b : Fin 2) (t d : Fin 1024) :
    (R_main_v25 (its x0 x1 x2 1024) : S2x1024x1024.Idx → EReal) (ix3 b t d) = Cert.Lru.out (gateR x0 x1 x2) (fv x1) b t d := by
  unfold R_main_v25
  refine (shapeCast_apply _ _ _ (ix4 b t (⟨d.val / 16, by omega⟩ : Fin 64) (⟨d.val % 16, by omega⟩ : Fin 16)) ?_).trans ?_
  · rw [Shape.rowMajor_val_four, Shape.rowMajor_val_three]
    show ((b.val * 1024 + t.val) * 64 + d.val / 16) * 16 + d.val % 16 = (b.val * 1024 + t.val) * 1024 + d.val
    omega
  · refine (transpose_apply _ _ _ _ (ix4 t b (⟨d.val / 16, by omega⟩ : Fin 64) (⟨d.val % 16, by omega⟩ : Fin 16)) fun a => by fin_cases a <;> rfl).trans ?_
    refine (stack_its x0 x1 x2 1024 le_rfl t b _ _ t.isLt).trans ?_
    have e : ch (⟨d.val / 16, by omega⟩ : Fin 64) (⟨d.val % 16, by omega⟩ : Fin 16) = d := Fin.ext (by show 16 * (d.val / 16) + d.val % 16 = d.val; omega)
    rw [e]
    rfl

/-- With finite arguments the reference's gates are the kernel's. -/
theorem gateR_eq (h0 : ∀ i, Fine (x0 i)) (h2 : ∀ i, Fine (x2 i)) (b : Fin 2) (t d : Fin 1024) (j : Fin 17) :
    gateR x0 x1 x2 b t d j = gateK (fh x0) (fw x2) b t d j := by
  have e : ch (⟨d.val / 16, by omega⟩ : Fin 64) (⟨d.val % 16, by omega⟩ : Fin 16) = d := Fin.ext (by show 16 * (d.val / 16) + d.val % 16 = d.val; omega)
  unfold gateR
  rw [v14_apply]
  simp only [v9_apply, v8_apply, v6_apply, v4_apply, v3_apply, e, bits_bot]
  exact Cert.Lru.gate_eq (fun b t k => h0 _) (fun k n => h2 _) b t d j

end Cert.ReferenceIdeal.Lru

end
-- ==== Proof.Lru.Pre.lean ====
/- What the precondition says: every entry of the first and the third argument is real. -/
module

public import proofs.«01_k».proof.Pre_finite
public import proofs.«01_k».proof.Proof.Lru.Softmax
public import Idealize.ShloMosaic.Lib.ReduceAll
public import Idealize.ShloMosaic.Lib.Pointwise

@[expose] public section

set_option maxRecDepth 16384

noncomputable section

namespace Cert.Pre_finite

open Idealize.ShloMosaic
open Cert.Lru (Fine fin_of_olt)

/-- The shape relations the precondition's operations take. -/
theorem facts : Facts where
  bitsLt_bf16_f32 := by decide
  bcast_S_S2x1024x1024 := by constructor <;> decide
  reducesTo_S2x1024x1024_S_d0_1_2 := by decide +kernel
  h_S_ := by decide
  bcast_S_S1024x17408 := by constructor <;> decide
  reducesTo_S1024x17408_S_d0_1 := by decide +kernel

variable [Facts]

/-- The word of plus infinity. -/
theorem bits_top : Ideal.ofBits FTy.f32 2139095040#32 = ⊤ := by simp [Ideal.ofBits, Ideal.ieee]

/-- One word of the comparison with `⊤`, for an array of any shape. -/
theorem fine_of_word {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) : Fine (x i) := by
  refine fin_of_olt ?_
  rw [← bits_top]
  exact h

/-- An `and` of two words that is one has both one. -/
theorem both {p q : IVec S_ 1} (h : andi p q = fun _ => 1#1) : p = (fun _ => 1#1) ∧ q = fun _ => 1#1 := by
  have key : ∀ a b : BitVec 1, a &&& b = 1#1 → a = 1#1 ∧ b = 1#1 := by decide
  exact ⟨funext fun i => (key _ _ (congrFun h i)).1, funext fun i => (key _ _ (congrFun h i)).2⟩

/-- The precondition gives real entries. -/
theorem fine (x0 : FVec Ideal S2x1024x1024 .bf16) (x1 : FVec Ideal S2x1024x1024 .f32) (x2 : FVec Ideal S1024x17408 .f32)
    (h : fn (F := Ideal) x0 x1 x2 = fun _ => 1#1) : (∀ i, Fine (x0 i)) ∧ ∀ i, Fine (x2 i) := by
  unfold fn at h
  obtain ⟨h1, h2⟩ := both h
  haveI : Subsingleton S_.Idx := ⟨fun a b => funext fun k => k.elim0⟩
  have j : S_.Idx := fun k => k.elim0
  exact ⟨fun i => fine_of_word _ _ i (Host.reduce_andi_all _ _ _ _ j (congrFun h1 j) i),
    fun i => fine_of_word x2 _ i (Host.reduce_andi_all _ _ _ _ j (congrFun h2 j) i)⟩

end Cert.Pre_finite

end
-- ==== Proof.Lru.Agree.lean ====
/- The two sides of the value claim meet: the reference ends with the kernel's result. -/
module

public import proofs.«01_k».proof.Defs
public import proofs.«01_k».proof.Proof.Lru.Out
public import proofs.«01_k».proof.Proof.Lru.RefRun
public import proofs.«01_k».proof.Proof.Lru.RefVal
public import proofs.«01_k».proof.Proof.Lru.Pre

@[expose] public section

noncomputable section

namespace Cert.Proof

open Idealize.ShloMosaic Idealize.SL.Sem

/-- The reference's states on a device. -/
abbrev refIts (m : (ℓ : Loc Cert.ReferenceIdeal.nD Cert.ReferenceIdeal.τ Cert.ReferenceIdeal.sig) → Buf (Elt Ideal) ℓ) (c : Dev Cert.ReferenceIdeal.nD) : ℕ → Cert.ReferenceIdeal.Step.State Ideal :=
  Cert.ReferenceIdeal.Lru.its (m ((c.tc : Thread Cert.ReferenceIdeal.nD Cert.ReferenceIdeal.τ).loc Cert.ReferenceIdeal.main_arg0))
    (m ((c.tc : Thread Cert.ReferenceIdeal.nD Cert.ReferenceIdeal.τ).loc Cert.ReferenceIdeal.main_arg1))
    (m ((c.tc : Thread Cert.ReferenceIdeal.nD Cert.ReferenceIdeal.τ).loc Cert.ReferenceIdeal.main_arg2))

/-- The reference's arguments end unchanged and its semaphores, of which it has none, at zero. -/
theorem ref_quiescent (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2, sem_eq_zero_of_no_sems (by decide) r.2⟩) (Cert.ReferenceIdeal.Lru.run_iter m ρ (refIts m) (fun _ => rfl) (fun _ _ => rfl))

/-- At finite first and third arguments the reference's result is the recurrence at the kernel's gates. -/
theorem value_eq (x0 x1 : Cert.ReferenceIdeal.S2x1024x1024.Idx → EReal) (x2 : Cert.ReferenceIdeal.S1024x17408.Idx → EReal)
    (h0 : ∀ i, Cert.Lru.Fine (x0 i)) (h2 : ∀ i, Cert.Lru.Fine (x2 i)) (y : Cert.ReferenceIdeal.S2x1024x1024.Idx) :
    (Cert.ReferenceIdeal.Step.R_main_v25 (Cert.ReferenceIdeal.Lru.its x0 x1 x2 1024) : Cert.ReferenceIdeal.S2x1024x1024.Idx → EReal) y
      = Cert.Lru.out (Cert.Lru.gateK (Cert.ReferenceIdeal.Lru.fh x0) (Cert.ReferenceIdeal.Lru.fw x2)) (Cert.ReferenceIdeal.Lru.fv x1) (y 0) (y 1) (y 2) := by
  idx_vars y
  refine (Cert.ReferenceIdeal.Lru.result_its x0 x1 x2 y0 y1 y2).trans ?_
  unfold Cert.Lru.out
  rw [Cert.Lru.Hst_congr _ (Cert.ReferenceIdeal.Lru.gateR_eq x0 x1 x2 h0 h2)]

/-- The value claim. -/
theorem value [Cert.Pre_finite.Facts] : Cert.algebraic_KernelIdeal_ReferenceIdeal_pre_finite (hKernelIdeal := Cert.KernelIdeal.Gen.facts) (hReferenceIdeal := Cert.ReferenceIdeal.Gen.facts) := by
  intro m g m' g' hp ha
  refine ⟨fun c => Cert.KernelIdeal.Lru.result m c, Cert.KernelIdeal.Lru.run m g, ?_⟩
  refine (θ_run _ _ _).mono (fun r h c => ⟨(h c).1.trans (?_ : _), (h c).2⟩) (Cert.ReferenceIdeal.Lru.run_iter m' g' (refIts m') (fun _ => rfl) (fun _ _ => rfl))
  obtain ⟨f0, f2⟩ := Cert.Pre_finite.fine _ _ _ (hp c)
  unfold refIts
  rw [(ha c).1, (ha c).2.1, (ha c).2.2]
  exact funext fun y => value_eq _ _ _ f0 f2 y

end Cert.Proof

end
-- ==== Proof.Out.Value.lean ====
/- The output projection's call: the array it leaves, and the reference's, at an index. -/
module

public import proofs.«01_k».proof.Proof.Gen.Kernel2Ideal.Value
public import proofs.«01_k».proof.Proof.Gen.Reference2Ideal.Run
public import Idealize.ShloMosaic.Lib.Pipeline.ValueKit
public import Idealize.ShloMosaic.Lib.Pointwise

@[expose] public section

set_option maxRecDepth 16384

noncomputable section

namespace Cert.Kernel2Ideal.Out

open Idealize.ShloMosaic Idealize.ShloMosaic.TcCoe Idealize.ShloMosaic.Tactic
open Idealize.SL Idealize.SL.Sem
open Idealize.ShloMosaic.Pipeline
open Cert.Kernel2Ideal Cert.Kernel2Ideal.Gen
open scoped BigOperators

variable (m : (ℓ : Loc nD τ sig) → Buf (Elt Ideal) ℓ) (ρ : Dev nD → PrngReg)

/-- The residual plus the projection, at an index. -/
def proj (x h : S2x1024x1024.Idx → EReal) (w : S1024x1024.Idx → EReal) (b : Fin 2) (t n : Fin 1024) : EReal :=
  x (ix3 b t n) + ∑ k : Fin 1024, h (ix3 b t k) * w (ix2 k n)

/-- The blocks' indices of the first window. -/
theorem index0 : ∀ t : Fin cfg0.N, win0_0.index t = ![t.val / 2, t.val % 2, 0] := (by decide +kernel : ∀ t : Fin grid0.N, win0_0.index t = ![t.val / 2, t.val % 2, 0])
/-- The blocks' indices of the second window. -/
theorem index1 : ∀ t : Fin cfg0.N, win0_1.index t = ![t.val / 2, t.val % 2, 0] := (by decide +kernel : ∀ t : Fin grid0.N, win0_1.index t = ![t.val / 2, t.val % 2, 0])
/-- The weights come whole. -/
theorem index2 : ∀ t : Fin cfg0.N, win0_2.index t = ![0, 0] := (by decide +kernel : ∀ t : Fin grid0.N, win0_2.index t = ![0, 0])
/-- The blocks' indices of the output window. -/
theorem index3 : ∀ t : Fin cfg0.N, win0_3.index t = ![t.val / 2, t.val % 2, 0] := (by decide +kernel : ∀ t : Fin grid0.N, win0_3.index t = ![t.val / 2, t.val % 2, 0])

/-- The weights as the call gets them. -/
theorem V_w (c : Dev nD) : V m c main_v0 = truncf (F := Ideal) .bf16 (m ((c.tc : Thread nD τ).loc main_arg2)) bitsLt_bf16_f32 := by
  unfold_abbrev_sides
  after_results

/-- A point's batch element, and the time step of a row of its block. -/
def bat (t : Fin cfg0.N) : Fin 2 := ⟨t.val / 2, by have h : t.val < 4 := lt_of_lt_of_eq t.isLt N_0; omega⟩
def row (t : Fin cfg0.N) (r : Fin 512) : Fin 1024 := ⟨512 * (t.val % 2) + r.val, by omega⟩

/-- What one block's body makes. -/
theorem pay_apply (h x : Vec Ideal S1x512x1024 .f32) (w : Vec Ideal S1024x1024 .bf16) (r : Fin 512) (n : Fin 1024) :
    (k0_pay1 h x w : S1x512x1024.Idx → EReal) (ix3 (0 : Fin 1) r n) = x (ix3 (0 : Fin 1) r n) + ∑ k : Fin 1024, h (ix3 (0 : Fin 1) r k) * w (ix2 k n) := by
  unfold k0_pay1
  pointwise

/-- The blocks of the three inputs. -/
theorem blk0 (c : Dev nD) (t : Fin cfg0.N) (r : Fin 512) (n : Fin 1024) :
    (iblk m c 0 t : S1x512x1024.Idx → EReal) (ix3 (0 : Fin 1) r n) = m ((c.tc : Thread nD τ).loc main_arg0) (ix3 (bat t) (row t r) n) := by
  blk_simp [iblk]
  refine (congrFun (V_main_arg0 m c) _).trans (congrArg (m ((c.tc : Thread nD τ).loc main_arg0)) ?_)
  blk_ext [index0, row, bat]
theorem blk1 (c : Dev nD) (t : Fin cfg0.N) (r : Fin 512) (n : Fin 1024) :
    (iblk m c 1 t : S1x512x1024.Idx → EReal) (ix3 (0 : Fin 1) r n) = m ((c.tc : Thread nD τ).loc main_arg1) (ix3 (bat t) (row t r) n) := by
  blk_simp [iblk]
  refine (congrFun (V_main_arg1 m c) _).trans (congrArg (m ((c.tc : Thread nD τ).loc main_arg1)) ?_)
  blk_ext [index1, row, bat]
theorem blk2 (c : Dev nD) (t : Fin cfg0.N) (k n : Fin 1024) :
    (iblk m c 2 t : S1024x1024.Idx → EReal) (ix2 k n) = m ((c.tc : Thread nD τ).loc main_arg2) (ix2 k n) := by
  blk_simp [iblk]
  refine (congrFun (V_w m c) _).trans (congrArg (m ((c.tc : Thread nD τ).loc main_arg2)) ?_)
  blk_ext [index2]

/-- The result array. -/
def result (c : Dev nD) : S2x1024x1024.Idx → EReal := fun y =>
  proj (m ((c.tc : Thread nD τ).loc main_arg0)) (m ((c.tc : Thread nD τ).loc main_arg1)) (m ((c.tc : Thread nD τ).loc main_arg2)) (y 0) (y 1) (y 2)

/-- What a point writes. -/
theorem after_apply (c : Dev nD) (t : Fin cfg0.N) (r : Fin 512) (n : Fin 1024) :
    ((dats m 0 c).after 3 t : S1x512x1024.Idx → EReal) (ix3 (0 : Fin 1) r n) = result m c (ix3 (bat t) (row t r) n) := by
  rw [after0_3]
  unfold out0_3
  rw [View.canon_cons_unit_lit _ _ _ (by decide), View.ld_unit_lit _ _ (by decide), View.ld_unit_lit _ _ (by decide), View.ld_unit_lit _ _ (by decide)]
  refine (pay_apply _ _ _ r n).trans ?_
  rw [blk0]
  refine congrArg₂ (· + ·) rfl (Finset.sum_congr rfl fun k _ => ?_)
  rw [blk1, blk2]
  rfl

/-- The output array at the end. -/
theorem final (c : Dev nD) : (dats m 0 c).arrAt 3 cfg0.N = result m c := by
  refine (dats m 0 c).arrAt_eq_of_covers 3 _ (by decide +kernel) fun t hf (y : S1x512x1024.Idx) => ?_
  blk_simp
  idx_vars y
  fin_cases y0
  refine (after_apply m c t y1 y2).trans (congrArg (result m c) ?_)
  blk_ext [index3, row, bat]

end Cert.Kernel2Ideal.Out

end
-- ==== Proof.Out.Agree.lean ====
/- The output projection's call: the reference's result, and the value claim. -/
module

public import proofs.«01_k».proof.Defs
public import proofs.«01_k».proof.Proof.Out.Value

@[expose] public section

noncomputable section

namespace Cert.Proof.Out

open Idealize.ShloMosaic Idealize.SL.Sem Idealize.ShloMosaic.Tactic
open Cert.Reference2Ideal Cert.Reference2Ideal.Gen
open scoped BigOperators

/-- The reference's result at an index: the residual plus the projection. -/
theorem ref_apply (x h : S2x1024x1024.Idx → EReal) (w : S1024x1024.Idx → EReal) (b : Fin 2) (t n : Fin 1024) :
    (addf (F := Ideal) (φ := .f32) x (Host.dotGeneral (F := Ideal) (φ₁ := .f32) (φ₂ := .f32) dot_S2x1024x1024_S1024x1024_S2x1024x1024_2_0_01_1_n_n none h w) : S2x1024x1024.Idx → EReal) (ix3 b t n)
      = Cert.Kernel2Ideal.Out.proj x h w b t n := by
  unfold Cert.Kernel2Ideal.Out.proj
  pointwise

/-- The reference's arguments end unchanged and its semaphores, of which it has none, at zero. -/
theorem ref_quiescent : Cert.quiescent_Reference2Ideal (hReference2Ideal := Cert.Reference2Ideal.Gen.facts) := fun m ρ _ =>
  (θ_run _ _ _).mono (fun r h => ⟨fun c => (h c).2, sem_eq_zero_of_no_sems (by decide) r.2⟩) (Cert.Reference2Ideal.Value.run m ρ)

/-- The value claim of the output projection's call. -/
theorem value : Cert.algebraic_Kernel2Ideal_Reference2Ideal (hKernel2Ideal := Cert.Kernel2Ideal.Gen.facts) (hReference2Ideal := Cert.Reference2Ideal.Gen.facts) := by
  intro m g m' g' _ ha
  refine ⟨fun c => Cert.Kernel2Ideal.Out.result m c, ?_, ?_⟩
  · exact (θ_run _ _ _).mono (fun r h c => ⟨(h c).1.trans (Cert.Kernel2Ideal.Out.final m c), (h c).2⟩) (Cert.Kernel2Ideal.Value.run_blocks m g)
  · refine (θ_run _ _ _).mono (fun r h c => ⟨(h c).1.trans (?_ : _), (h c).2⟩) (Cert.Reference2Ideal.Value.run m' g')
    rw [(ha c).1, (ha c).2.1, (ha c).2.2]
    refine funext fun (y : S2x1024x1024.Idx) => ?_
    idx_vars y
    exact ref_apply _ _ _ y0 y1 y2

end Cert.Proof.Out

end
-- ==== Proof.Norm.Spec.lean ====
/- The normalization by the root of the mean square, of one row of 1024. -/
module

public import Idealize.ShloMosaic.Lib.Pointwise

@[expose] public section

noncomputable section

namespace Cert.Norm

open Idealize.ShloMosaic
open scoped BigOperators

/-- A row over the root of its mean square, times the weights. -/
def rms (z w : Fin 1024 → EReal) (n : Fin 1024) : EReal :=
  z n * Ideal.rsqrt (Ideal.div (∑ k : Fin 1024, z k * z k) (Ideal.ofBits FTy.f32 0x44800000#32) + Ideal.ofBits FTy.f32 0x3727C5AC#32) * w n

/-- The normalized rows of equal rows. -/
theorem rms_congr {z z' w w' : Fin 1024 → EReal} (hz : ∀ k, z k = z' k) (hw : ∀ k, w k = w' k) (n : Fin 1024) :
    rms z w n = rms z' w' n := by
  rw [funext hz, funext hw]

end Cert.Norm

end
-- ==== Proof.Mid.Pay.lean ====
/- The middle call's payloads at an index: the attention's output added, the normalized rows, the gate branch's other factor. -/
module

public import proofs.«01_k».proof.Proof.Gen.Kernel3Ideal.Value
public import proofs.«01_k».proof.Proof.Norm.Spec
public import Idealize.ShloMosaic.Lib.Pipeline.ValueKit
public import Idealize.ShloMosaic.Lib.Pointwise

@[expose] public section

set_option maxRecDepth 16384

noncomputable section

namespace Cert.Kernel3Ideal.Mid

open Idealize.ShloMosaic Idealize.ShloMosaic.TcCoe Idealize.ShloMosaic.Tactic
open Cert.Kernel3Ideal Cert.Kernel3Ideal.Gen Cert.Norm
open scoped BigOperators

variable (o : Vec Ideal S1x512x1024 .bf16) (x : Vec Ideal S1x512x1024 .f32) (w : Vec Ideal S1024x1024 .bf16)
  (nw : Vec Ideal S1x1024 .f32) (wv : Vec Ideal S1024x1024 .bf16)

/-- The residual with the attention's output projected, in a block. -/
def resid (r : Fin 512) (n : Fin 1024) : EReal := x (ix3 (0 : Fin 1) r n) + ∑ k : Fin 1024, o (ix3 (0 : Fin 1) r k) * w (ix2 k n)

/-- The sum. -/
theorem pay2_apply (r : Fin 512) (n : Fin 1024) : (k0_pay2 o x w : S512x1024.Idx → EReal) (ix2 r n) = resid o x w r n := by
  unfold k0_pay2 resid
  pointwise

/-- What is stored of it. -/
theorem pay3_apply (r : Fin 512) (n : Fin 1024) : (k0_pay3 o x w : S1x512x1024.Idx → EReal) (ix3 (0 : Fin 1) r n) = resid o x w r n := by
  refine Eq.trans ?_ (pay2_apply o x w r n)
  unfold k0_pay3
  generalize k0_pay2 o x w = z
  pointwise

/-- The normalized rows. -/
theorem pay4_apply (r : Fin 512) (n : Fin 1024) :
    (k0_pay4 o x w nw : S512x1024.Idx → EReal) (ix2 r n) = rms (resid o x w r) (fun k => nw (ix2 (0 : Fin 1) k)) n := by
  refine Eq.trans ?_ (rms_congr (pay2_apply o x w r) (fun _ => rfl) n)
  unfold k0_pay4 rms
  generalize k0_pay2 o x w = z
  pointwise

/-- What is stored of them. -/
theorem pay5_apply (r : Fin 512) (n : Fin 1024) :
    (k0_pay5 o x w nw : S1x512x1024.Idx → EReal) (ix3 (0 : Fin 1) r n) = rms (resid o x w r) (fun k => nw (ix2 (0 : Fin 1) k)) n := by
  refine Eq.trans ?_ (pay4_apply o x w nw r n)
  unfold k0_pay5
  generalize k0_pay4 o x w nw = z
  pointwise

/-- The normalized rows times the other weights. -/
theorem pay6_apply (r : Fin 512) (n : Fin 1024) :
    (k0_pay1 (k0_pay6 o x w nw wv) : S1x512x1024.Idx → EReal) (ix3 (0 : Fin 1) r n)
      = ∑ k : Fin 1024, rms (resid o x w r) (fun k => nw (ix2 (0 : Fin 1) k)) k * wv (ix2 k n) := by
  refine Eq.trans ?_ (Finset.sum_congr rfl fun k _ => congrArg (· * wv (ix2 k n)) (pay4_apply o x w nw r k))
  unfold k0_pay1 k0_pay6
  generalize k0_pay4 o x w nw = z
  pointwise

end Cert.Kernel3Ideal.Mid

end
-- ==== Proof.Mid.Value.lean ====
/- The middle call: the three arrays it leaves. -/
module

public import proofs.«01_k».proof.Proof.Mid.Pay

@[expose] public section

set_option maxRecDepth 16384

noncomputable section

namespace Cert.Kernel3Ideal.Mid

open Idealize.ShloMosaic Idealize.ShloMosaic.TcCoe Idealize.ShloMosaic.Tactic
open Idealize.SL Idealize.SL.Sem
open Idealize.ShloMosaic.Pipeline
open Cert.Kernel3Ideal Cert.Kernel3Ideal.Gen Cert.Norm
open scoped BigOperators

variable (m : (ℓ : Loc nD τ sig) → Buf (Elt Ideal) ℓ) (ρ : Dev nD → PrngReg)

/-- The residual with the attention's output projected. -/
def mid (x o : S2x1024x1024.Idx → EReal) (w : S1024x1024.Idx → EReal) (b : Fin 2) (t n : Fin 1024) : EReal :=
  x (ix3 b t n) + ∑ k : Fin 1024, o (ix3 b t k) * w (ix2 k n)
/-- Its normalized rows. -/
def nrm (x o : S2x1024x1024.Idx → EReal) (w : S1024x1024.Idx → EReal) (nw : S1024.Idx → EReal) (b : Fin 2) (t n : Fin 1024) : EReal :=
  rms (mid x o w b t) (fun k => nw (ix1 k)) n
/-- The normalized rows through the other weights. -/
def other (x o : S2x1024x1024.Idx → EReal) (w : S1024x1024.Idx → EReal) (nw : S1024.Idx → EReal) (wv : S1024x1024.Idx → EReal) (b : Fin 2) (t n : Fin 1024) : EReal :=
  ∑ k : Fin 1024, nrm x o w nw b t k * wv (ix2 k n)

/-- The blocks' indices: a batch element and a half of its time steps for the streamed windows, the whole array for the weights. -/
theorem index0 : ∀ t : Fin cfg0.N, win0_0.index t = ![t.val / 2, t.val % 2, 0] := (by decide +kernel : ∀ t : Fin grid0.N, win0_0.index t = ![t.val / 2, t.val % 2, 0])
/-- The attention's output comes in the same blocks. -/
theorem index1 : ∀ t : Fin cfg0.N, win0_1.index t = ![t.val / 2, t.val % 2, 0] := (by decide +kernel : ∀ t : Fin grid0.N, win0_1.index t = ![t.val / 2, t.val % 2, 0])
/-- The projection's weights come whole. -/
theorem index2 : ∀ t : Fin cfg0.N, win0_2.index t = ![0, 0] := (by decide +kernel : ∀ t : Fin grid0.N, win0_2.index t = ![0, 0])
/-- The normalization's weights come whole. -/
theorem index3 : ∀ t : Fin cfg0.N, win0_3.index t = ![0, 0] := (by decide +kernel : ∀ t : Fin grid0.N, win0_3.index t = ![0, 0])
/-- The other weights come whole. -/
theorem index4 : ∀ t : Fin cfg0.N, win0_4.index t = ![0, 0] := (by decide +kernel : ∀ t : Fin grid0.N, win0_4.index t = ![0, 0])
/-- The outputs leave in the blocks of the streamed inputs. -/
theorem index5 : ∀ t : Fin cfg0.N, win0_5.index t = ![t.val / 2, t.val % 2, 0] := (by decide +kernel : ∀ t : Fin grid0.N, win0_5.index t = ![t.val / 2, t.val % 2, 0])
/-- So does the second. -/
theorem index6 : ∀ t : Fin cfg0.N, win0_6.index t = ![t.val / 2, t.val % 2, 0] := (by decide +kernel : ∀ t : Fin grid0.N, win0_6.index t = ![t.val / 2, t.val % 2, 0])
/-- So does the third. -/
theorem index7 : ∀ t : Fin cfg0.N, win0_7.index t = ![t.val / 2, t.val % 2, 0] := (by decide +kernel : ∀ t : Fin grid0.N, win0_7.index t = ![t.val / 2, t.val % 2, 0])

/-- The projection's weights as the call gets them. -/
theorem V_wo (c : Dev nD) : V m c main_v1 = truncf (F := Ideal) .bf16 (m ((c.tc : Thread nD τ).loc main_arg2)) bitsLt_bf16_f32 := by
  unfold_abbrev_sides
  after_results
/-- The other weights as the call gets them. -/
theorem V_wv (c : Dev nD) : V m c main_v2 = truncf (F := Ideal) .bf16 (m ((c.tc : Thread nD τ).loc main_arg4)) bitsLt_bf16_f32 := by
  unfold_abbrev_sides
  after_results
/-- The normalization's weights as the call gets them. -/
theorem V_nw (c : Dev nD) : V m c main_v0 = shapeCast S1x1024 (m ((c.tc : Thread nD τ).loc main_arg3) : S1024.Idx → EReal) shapeCasts_S1024_S1x1024 := by
  unfold_abbrev_sides
  after_results
  rfl

/-- A point's batch element. -/
def bat (t : Fin cfg0.N) : Fin 2 := ⟨t.val / 2, by have h : t.val < 4 := lt_of_lt_of_eq t.isLt N_0; omega⟩
/-- The time step of a row of a point's block. -/
def row (t : Fin cfg0.N) (r : Fin 512) : Fin 1024 := ⟨512 * (t.val % 2) + r.val, by omega⟩

/-- The residual's block. -/
theorem blk0 (c : Dev nD) (t : Fin cfg0.N) (r : Fin 512) (n : Fin 1024) :
    (iblk m c 0 t : S1x512x1024.Idx → EReal) (ix3 (0 : Fin 1) r n) = m ((c.tc : Thread nD τ).loc main_arg0) (ix3 (bat t) (row t r) n) := by
  blk_simp [iblk]
  refine (congrFun (V_main_arg0 m c) _).trans (congrArg (m ((c.tc : Thread nD τ).loc main_arg0)) ?_)
  blk_ext [index0, row, bat]
/-- The attention output's block. -/
theorem blk1 (c : Dev nD) (t : Fin cfg0.N) (r : Fin 512) (n : Fin 1024) :
    (iblk m c 1 t : S1x512x1024.Idx → EReal) (ix3 (0 : Fin 1) r n) = m ((c.tc : Thread nD τ).loc main_arg1) (ix3 (bat t) (row t r) n) := by
  blk_simp [iblk]
  refine (congrFun (V_main_arg1 m c) _).trans (congrArg (m ((c.tc : Thread nD τ).loc main_arg1)) ?_)
  blk_ext [index1, row, bat]
/-- The projection's weights. -/
theorem blk2 (c : Dev nD) (t : Fin cfg0.N) (k n : Fin 1024) :
    (iblk m c 2 t : S1024x1024.Idx → EReal) (ix2 k n) = m ((c.tc : Thread nD τ).loc main_arg2) (ix2 k n) := by
  blk_simp [iblk]
  refine (congrFun (V_wo m c) _).trans (congrArg (m ((c.tc : Thread nD τ).loc main_arg2)) ?_)
  blk_ext [index2]
/-- The normalization's weights. -/
theorem blk3 (c : Dev nD) (t : Fin cfg0.N) (k : Fin 1024) :
    (iblk m c 3 t : S1x1024.Idx → EReal) (ix2 (0 : Fin 1) k) = m ((c.tc : Thread nD τ).loc main_arg3) (ix1 k) := by
  blk_simp [iblk]
  have e : ((win0_3.blk t).view.emb (ix2 (0 : Fin 1) k) : S1x1024.Idx) = ix2 (0 : Fin 1) k := by blk_ext [index3]
  refine (congrFun (V_nw m c) _).trans ?_
  refine (congrArg (shapeCast S1x1024 (m ((c.tc : Thread nD τ).loc main_arg3) : S1024.Idx → EReal) shapeCasts_S1024_S1x1024) e).trans ?_
  pointwise
/-- The other weights. -/
theorem blk4 (c : Dev nD) (t : Fin cfg0.N) (k n : Fin 1024) :
    (iblk m c 4 t : S1024x1024.Idx → EReal) (ix2 k n) = m ((c.tc : Thread nD τ).loc main_arg4) (ix2 k n) := by
  blk_simp [iblk]
  refine (congrFun (V_wv m c) _).trans (congrArg (m ((c.tc : Thread nD τ).loc main_arg4)) ?_)
  blk_ext [index4]

/-- A block's rows of the residual with the attention's output. -/
theorem resid_blk (c : Dev nD) (t : Fin cfg0.N) (r : Fin 512) (n : Fin 1024) :
    resid (iblk m c 1 t) (iblk m c 0 t) (iblk m c 2 t) r n
      = mid (m ((c.tc : Thread nD τ).loc main_arg0)) (m ((c.tc : Thread nD τ).loc main_arg1)) (m ((c.tc : Thread nD τ).loc main_arg2)) (bat t) (row t r) n := by
  unfold resid mid
  rw [blk0]
  refine congrArg₂ (· + ·) rfl (Finset.sum_congr rfl fun k _ => ?_)
  rw [blk1, blk2]

/-- The first result array. -/
def result0 (c : Dev nD) : S2x1024x1024.Idx → EReal := fun y =>
  mid (m ((c.tc : Thread nD τ).loc main_arg0)) (m ((c.tc : Thread nD τ).loc main_arg1)) (m ((c.tc : Thread nD τ).loc main_arg2)) (y 0) (y 1) (y 2)
/-- The second result array. -/
def result1 (c : Dev nD) : S2x1024x1024.Idx → EReal := fun y =>
  nrm (m ((c.tc : Thread nD τ).loc main_arg0)) (m ((c.tc : Thread nD τ).loc main_arg1)) (m ((c.tc : Thread nD τ).loc main_arg2)) (m ((c.tc : Thread nD τ).loc main_arg3)) (y 0) (y 1) (y 2)
/-- The third result array. -/
def result2 (c : Dev nD) : S2x1024x1024.Idx → EReal := fun y =>
  other (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (y 0) (y 1) (y 2)

/-- What a point writes of the first result. -/
theorem after0 (c : Dev nD) (t : Fin cfg0.N) (r : Fin 512) (n : Fin 1024) :
    ((dats m 0 c).after 5 t : S1x512x1024.Idx → EReal) (ix3 (0 : Fin 1) r n) = result0 m c (ix3 (bat t) (row t r) n) := by
  rw [after0_5]
  unfold out0_5
  rw [View.canon_cons_unit_lit _ _ _ (by decide), View.ld_unit_lit _ _ (by decide), View.ld_unit_lit _ _ (by decide), View.ld_unit_lit _ _ (by decide)]
  exact (pay3_apply _ _ _ r n).trans (resid_blk m c t r n)
/-- What a point writes of the second result. -/
theorem after1 (c : Dev nD) (t : Fin cfg0.N) (r : Fin 512) (n : Fin 1024) :
    ((dats m 0 c).after 6 t : S1x512x1024.Idx → EReal) (ix3 (0 : Fin 1) r n) = result1 m c (ix3 (bat t) (row t r) n) := by
  rw [after0_6]
  unfold out0_6
  rw [View.canon_cons_unit_lit _ _ _ (by decide), View.ld_unit_lit _ _ (by decide), View.ld_unit_lit _ _ (by decide), View.ld_unit_lit _ _ (by decide), View.ld_unit_lit _ _ (by decide)]
  exact (pay5_apply _ _ _ _ r n).trans (rms_congr (resid_blk m c t r) (blk3 m c t) n)
/-- What a point writes of the third result. -/
theorem after2 (c : Dev nD) (t : Fin cfg0.N) (r : Fin 512) (n : Fin 1024) :
    ((dats m 0 c).after 7 t : S1x512x1024.Idx → EReal) (ix3 (0 : Fin 1) r n) = result2 m c (ix3 (bat t) (row t r) n) := by
  rw [after0_7]
  unfold out0_7
  rw [View.canon_cons_unit_lit _ _ _ (by decide), View.ld_unit_lit _ _ (by decide), View.ld_unit_lit _ _ (by decide), View.ld_unit_lit _ _ (by decide), View.ld_unit_lit _ _ (by decide), View.ld_unit_lit _ _ (by decide)]
  exact (pay6_apply _ _ _ _ _ r n).trans (Finset.sum_congr rfl fun k _ => congrArg₂ (· * ·) (rms_congr (resid_blk m c t r) (blk3 m c t) k) (blk4 m c t k n))

/-- The first output array at the end. -/
theorem final0 (c : Dev nD) : (dats m 0 c).arrAt 5 cfg0.N = result0 m c := by
  refine (dats m 0 c).arrAt_eq_of_covers 5 _ (by decide +kernel) fun t hf (y : S1x512x1024.Idx) => ?_
  blk_simp
  idx_vars y
  fin_cases y0
  refine (after0 m c t y1 y2).trans (congrArg (result0 m c) ?_)
  blk_ext [index5, row, bat]
/-- The second output array at the end. -/
theorem final1 (c : Dev nD) : (dats m 0 c).arrAt 6 cfg0.N = result1 m c := by
  refine (dats m 0 c).arrAt_eq_of_covers 6 _ (by decide +kernel) fun t hf (y : S1x512x1024.Idx) => ?_
  blk_simp
  idx_vars y
  fin_cases y0
  refine (after1 m c t y1 y2).trans (congrArg (result1 m c) ?_)
  blk_ext [index6, row, bat]
/-- The third output array at the end. -/
theorem final2 (c : Dev nD) : (dats m 0 c).arrAt 7 cfg0.N = result2 m c := by
  refine (dats m 0 c).arrAt_eq_of_covers 7 _ (by decide +kernel) fun t hf (y : S1x512x1024.Idx) => ?_
  blk_simp
  idx_vars y
  fin_cases y0
  refine (after2 m c t y1 y2).trans (congrArg (result2 m c) ?_)
  blk_ext [index7, row, bat]

end Cert.Kernel3Ideal.Mid

end
-- ==== Proof.Mid.Agree.lean ====
/- The middle call: the reference's three results, and the value claim. -/
module

public import proofs.«01_k».proof.Defs
public import proofs.«01_k».proof.Proof.Mid.Value
public import proofs.«01_k».proof.Proof.Gen.Reference3Ideal.Run

@[expose] public section

noncomputable section

namespace Cert.Proof.Mid

open Idealize.ShloMosaic Idealize.SL.Sem Idealize.ShloMosaic.Tactic
open Cert.Reference3Ideal Cert.Reference3Ideal.Gen Cert.Norm
open scoped BigOperators

variable (x o : S2x1024x1024.Idx → EReal) (w : S1024x1024.Idx → EReal) (nw : S1024.Idx → EReal) (wv : S1024x1024.Idx → EReal)

/-- The reference's sum of the residual and the projection. -/
def sumR : FVec Ideal S2x1024x1024 .f32 :=
  addf (F := Ideal) (φ := .f32) x (Host.dotGeneral (F := Ideal) (φ₁ := .f32) (φ₂ := .f32) dot_S2x1024x1024_S1024x1024_S2x1024x1024_2_0_01_1_n_n none (extf (F := Ideal) (φ := .bf16) .f32 o bitsLt_bf16_f32) w)

/-- The reference's normalization of rows. -/
def normR (z : FVec Ideal S2x1024x1024 .f32) : FVec Ideal S2x1024x1024 .f32 :=
  mulf (mulf z (broadcastInDim S2x1024x1024 ![0, 1, 2] bcast_S2x1024x1_S2x1024x1024_0_1_2 (Host.rsqrt (addf (Host.divf (broadcastInDim S2x1024x1 ![0, 1] bcast_S2x1024_S2x1024x1_0_1 (Host.reduceAdd (mulf z z) (constant S_ .f32 0x00000000#32) reducesTo_S2x1024x1024_S2x1024_d2 h_S_)) (broadcastInDim S2x1024x1 ![] bcast_S_S2x1024x1 (constant S_ .f32 0x44800000#32))) (broadcastInDim S2x1024x1 ![] bcast_S_S2x1024x1 (constant S_ .f32 0x3727C5AC#32)))))) (broadcastInDim S2x1024x1024 ![0, 1, 2] bcast_S1x1x1024_S2x1024x1024_0_1_2 (broadcastInDim S1x1x1024 ![2] bcast_S1024_S1x1x1024_2 (nw : FVec Ideal S1024 .f32)))

/-- The sum at an index. -/
theorem sumR_apply (b : Fin 2) (t n : Fin 1024) : (sumR x o w : S2x1024x1024.Idx → EReal) (ix3 b t n) = Cert.Kernel3Ideal.Mid.mid x o w b t n := by
  unfold sumR Cert.Kernel3Ideal.Mid.mid
  pointwise

/-- The normalization at an index. -/
theorem normR_apply (z : FVec Ideal S2x1024x1024 .f32) (b : Fin 2) (t n : Fin 1024) :
    (normR nw z : S2x1024x1024.Idx → EReal) (ix3 b t n) = rms (fun k => z (ix3 b t k)) (fun k => nw (ix1 k)) n := by
  unfold normR rms
  pointwise

/-- The normalized sum at an index. -/
theorem nrm_apply (b : Fin 2) (t n : Fin 1024) :
    (normR nw (sumR x o w) : S2x1024x1024.Idx → EReal) (ix3 b t n) = Cert.Kernel3Ideal.Mid.nrm x o w nw b t n :=
  (normR_apply nw _ b t n).trans (rms_congr (sumR_apply x o w b t) (fun _ => rfl) n)

/-- Its product with the other weights at an index. -/
theorem other_apply (b : Fin 2) (t n : Fin 1024) :
    (Host.dotGeneral (F := Ideal) (φ₁ := .f32) (φ₂ := .f32) dot_S2x1024x1024_S1024x1024_S2x1024x1024_2_0_01_1_n_n none (normR nw (sumR x o w)) wv : S2x1024x1024.Idx → EReal) (ix3 b t n)
      = Cert.Kernel3Ideal.Mid.other x o w nw wv b t n := by
  refine Eq.trans ?_ (Finset.sum_congr rfl fun k _ => congrArg (· * wv (ix2 k n)) (nrm_apply x o w nw b t k))
  generalize normR nw (sumR x o w) = z
  pointwise

/-- The reference's arguments end unchanged and its semaphores, of which it has none, at zero. -/
theorem ref_quiescent : Cert.quiescent_Reference3Ideal (hReference3Ideal := Cert.Reference3Ideal.Gen.facts) := fun m ρ _ =>
  (θ_run _ _ _).mono (fun r h => ⟨fun c => (h c).2.2.2, sem_eq_zero_of_no_sems (by decide) r.2⟩) (Cert.Reference3Ideal.Value.run m ρ)

/-- The value claim of the middle call. -/
theorem value : Cert.algebraic_Kernel3Ideal_Reference3Ideal (hKernel3Ideal := Cert.Kernel3Ideal.Gen.facts) (hReference3Ideal := Cert.Reference3Ideal.Gen.facts) := by
  intro m g m' g' _ ha
  refine ⟨fun c => Cert.Kernel3Ideal.Mid.result0 m c, fun c => Cert.Kernel3Ideal.Mid.result1 m c, fun c => Cert.Kernel3Ideal.Mid.result2 m c, ?_, ?_⟩
  · exact (θ_run _ _ _).mono (fun r h c => ⟨(h c).1.trans (Cert.Kernel3Ideal.Mid.final0 m c), (h c).2.1.trans (Cert.Kernel3Ideal.Mid.final1 m c),
      (h c).2.2.1.trans (Cert.Kernel3Ideal.Mid.final2 m c), (h c).2.2.2⟩) (Cert.Kernel3Ideal.Value.run_blocks m g)
  · refine (θ_run _ _ _).mono (fun r h c => ⟨(h c).1.trans (?_ : _), (h c).2.1.trans (?_ : _), (h c).2.2.1.trans (?_ : _), (h c).2.2.2⟩) (Cert.Reference3Ideal.Value.run m' g')
    all_goals obtain ⟨e0, e1, e2, e3, e4⟩ := ha c
    · rw [e0, e1, e2]
      refine funext fun (y : S2x1024x1024.Idx) => ?_
      idx_vars y
      exact sumR_apply _ _ _ y0 y1 y2
    · rw [e0, e1, e2, e3]
      refine funext fun (y : S2x1024x1024.Idx) => ?_
      idx_vars y
      exact nrm_apply _ _ _ _ y0 y1 y2
    · rw [e0, e1, e2, e3, e4]
      refine funext fun (y : S2x1024x1024.Idx) => ?_
      idx_vars y
      exact other_apply _ _ _ _ _ y0 y1 y2

end Cert.Proof.Mid

end
-- ==== Proof.Qkv.Pay.lean ====
/- The first call's payloads at an index: the normalized rows through the three projections, and the rotation. -/
module

public import proofs.«01_k».proof.Proof.Gen.Kernel4Ideal.Value
public import proofs.«01_k».proof.Proof.Norm.Spec
public import Idealize.ShloMosaic.Lib.Pipeline.ValueKit
public import Idealize.ShloMosaic.Lib.Pointwise

@[expose] public section

set_option maxRecDepth 16384

noncomputable section

namespace Cert.Kernel4Ideal.Qkv

open Idealize.ShloMosaic Idealize.ShloMosaic.TcCoe Idealize.ShloMosaic.Tactic
open Cert.Kernel4Ideal Cert.Kernel4Ideal.Gen Cert.Norm
open scoped BigOperators

/-- The halves of each head's 64 lanes exchanged, the one that comes first negated. -/
def rot (z : Fin 1024 → EReal) (n : Fin 1024) : EReal :=
  if h : n.val % 64 < 32 then -(z ⟨n.val + 32, by omega⟩) else z ⟨n.val - 32, by omega⟩

/-- A row rotated by the angles whose cosines and sines are given. -/
def rope (z c s : Fin 1024 → EReal) (n : Fin 1024) : EReal := z n * c n + rot z n * s n

variable (x : Vec Ideal S1x512x1024 .f32) (nw : Vec Ideal S1x1024 .f32) (w : Vec Ideal S1024x3072 .bf16)

/-- The normalized rows through the weights, in a block. -/
def proj (r : Fin 512) (n : Fin 3072) : EReal :=
  ∑ k : Fin 1024, rms (fun k => x (ix3 (0 : Fin 1) r k)) (fun k => nw (ix2 (0 : Fin 1) k)) k * w (ix2 k n)

/-- The product. -/
theorem pay1_apply (r : Fin 512) (n : Fin 3072) : (k0_pay1 x nw w : S512x3072.Idx → EReal) (ix2 r n) = proj x nw w r n := by
  unfold k0_pay1 proj rms
  pointwise

/-- Its first third. -/
theorem pay2_apply (r : Fin 512) (n : Fin 1024) : (k0_pay2 x nw w : S512x1024.Idx → EReal) (ix2 r n) = proj x nw w r ⟨n.val, by omega⟩ := by
  refine Eq.trans ?_ (pay1_apply x nw w r _)
  unfold k0_pay2
  generalize k0_pay1 x nw w = z
  pointwise

/-- Its second third. -/
theorem pay3_apply (r : Fin 512) (n : Fin 1024) : (k0_pay3 x nw w : S512x1024.Idx → EReal) (ix2 r n) = proj x nw w r ⟨1024 + n.val, by omega⟩ := by
  refine Eq.trans ?_ (pay1_apply x nw w r _)
  unfold k0_pay3
  generalize k0_pay1 x nw w = z
  pointwise

/-- Its last third. -/
theorem pay4_apply (r : Fin 512) (n : Fin 1024) : (k0_pay13 (k0_pay4 x nw w) : S1x512x1024.Idx → EReal) (ix3 (0 : Fin 1) r n) = proj x nw w r ⟨2048 + n.val, by omega⟩ := by
  refine Eq.trans ?_ (pay1_apply x nw w r _)
  unfold k0_pay13 k0_pay4
  generalize k0_pay1 x nw w = z
  pointwise

/-- The mask of the first halves. -/
theorem mask_apply (r : Fin 512) (n : Fin 1024) :
    (k0_pay10 (Scalar.select (Scalar.cmpi .eq 64#32 0#32) 1#32 64#32) k0_pay7 k0_pay8 k0_pay9 0#32 : S512x1024.Idx → BitVec 1) (ix2 r n) = if n.val % 64 < 32 then 1#1 else 0#1 := by
  unfold k0_pay10 k0_pay9 k0_pay8 k0_pay7
  pointwise
  revert n
  decide +kernel

variable (z c s : FVec Ideal S512x1024 .f32)

/-- The rotation of a block. -/
theorem pay11_apply (r : Fin 512) (n : Fin 1024) :
    (k0_pay11 z c s (Scalar.select (Scalar.cmpi .eq 64#32 0#32) 1#32 64#32) k0_pay7 k0_pay8 k0_pay9 0#32 : S1x512x1024.Idx → EReal) (ix3 (0 : Fin 1) r n)
      = rope (fun k => z (ix2 r k)) (fun k => c (ix2 r k)) (fun k => s (ix2 r k)) n := by
  have hm := mask_apply r n
  unfold k0_pay11 rope rot
  revert hm
  generalize k0_pay10 (Scalar.select (Scalar.cmpi .eq 64#32 0#32) 1#32 64#32) k0_pay7 k0_pay8 k0_pay9 0#32 = b
  intro hm
  pointwise
  rw [hm]
  by_cases h : n.val % 64 < 32
  · have h' : n.val < 992 := by omega
    rw [if_pos h, dif_pos h, dif_pos h', zero_sub]
    simp only [Nat.add_comm 32]
    rfl
  · have h' : ¬ n.val < 32 := by omega
    rw [if_neg h, dif_neg h, dif_neg h']
    rfl

/-- The rotation of a block of the keys, the same. -/
theorem pay12_apply (r : Fin 512) (n : Fin 1024) :
    (k0_pay12 z c s (Scalar.select (Scalar.cmpi .eq 64#32 0#32) 1#32 64#32) k0_pay7 k0_pay8 k0_pay9 0#32 : S1x512x1024.Idx → EReal) (ix3 (0 : Fin 1) r n)
      = rope (fun k => z (ix2 r k)) (fun k => c (ix2 r k)) (fun k => s (ix2 r k)) n := pay11_apply z c s r n

end Cert.Kernel4Ideal.Qkv

end
-- ==== Proof.Qkv.Value.lean ====
/- The first call: the three arrays it leaves. -/
module

public import proofs.«01_k».proof.Proof.Qkv.Pay

@[expose] public section

set_option maxRecDepth 16384

noncomputable section

namespace Cert.Kernel4Ideal.Qkv

open Idealize.ShloMosaic Idealize.ShloMosaic.TcCoe Idealize.ShloMosaic.Tactic
open Idealize.SL Idealize.SL.Sem
open Idealize.ShloMosaic.Pipeline
open Cert.Kernel4Ideal Cert.Kernel4Ideal.Gen Cert.Norm
open scoped BigOperators

variable (m : (ℓ : Loc nD τ sig) → Buf (Elt Ideal) ℓ) (ρ : Dev nD → PrngReg)

/-- The frequencies of the 32 pairs of lanes. -/
def inv : FVec Ideal S32 .f32 :=
  Host.divf (broadcastInDim S32 ![] bcast_S_S32 (constant S_ .f32 0x3F800000#32)) (Host.powf (broadcastInDim S32 ![] bcast_S_S32 (constant S_ .f32 0x461C4000#32)) (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32))))
/-- A time step times a frequency. -/
def freq : FVec Ideal S1024x32 .f32 :=
  mulf (broadcastInDim S1024x32 ![0, 1] bcast_S1024x1_S1024x32_0_1 (broadcastInDim S1024x1 ![0] bcast_S1024_S1024x1_0 (sitofp .f32 (iotaInDim S1024 32 0)))) (broadcastInDim S1024x32 ![0, 1] bcast_S1x32_S1024x32_0_1 (broadcastInDim S1x32 ![1] bcast_S32_S1x32_1 inv))
/-- The angles of a time step, for the 64 lanes of a head. -/
def emb : FVec Ideal S1024x64 .f32 :=
  concatenate S1024x64 1 [⟨S1024x32, freq⟩, ⟨S1024x32, freq⟩] concatenates_S1024x32_S1024x32_S1024x64_d1

/-- A head's lane of a lane. -/
def sub (n : Fin 1024) : Fin 64 := ⟨n.val % 64, by omega⟩

/-- A row's projection: columns of the weights from `off` on. -/
def col (x : S2x1024x1024.Idx → EReal) (nw : S1024.Idx → EReal) (w : S1024x3072.Idx → EReal) (b : Fin 2) (t : Fin 1024) (n : Fin 3072) : EReal :=
  ∑ k : Fin 1024, rms (fun k => x (ix3 b t k)) (fun k => nw (ix1 k)) k * w (ix2 k n)

/-- A row of the table of cosines over all the lanes, and of sines. -/
def cosT (t n : Fin 1024) : EReal := (Host.cos emb : S1024x64.Idx → EReal) (ix2 t (sub n))
/-- The sines. -/
def sinT (t n : Fin 1024) : EReal := (Host.sin emb : S1024x64.Idx → EReal) (ix2 t (sub n))

/-- The three results at an index: the queries, -/
def qry (x : S2x1024x1024.Idx → EReal) (nw : S1024.Idx → EReal) (w : S1024x3072.Idx → EReal) (b : Fin 2) (t n : Fin 1024) : EReal :=
  rope (fun k => col x nw w b t ⟨k.val, by omega⟩) (cosT t) (sinT t) n
/-- the keys, -/
def key (x : S2x1024x1024.Idx → EReal) (nw : S1024.Idx → EReal) (w : S1024x3072.Idx → EReal) (b : Fin 2) (t n : Fin 1024) : EReal :=
  rope (fun k => col x nw w b t ⟨1024 + k.val, by omega⟩) (cosT t) (sinT t) n
/-- and the values. -/
def val (x : S2x1024x1024.Idx → EReal) (nw : S1024.Idx → EReal) (w : S1024x3072.Idx → EReal) (b : Fin 2) (t n : Fin 1024) : EReal :=
  col x nw w b t ⟨2048 + n.val, by omega⟩

/-- The blocks of the input: a batch element and a half of its time steps. -/
theorem index0 : ∀ t : Fin cfg0.N, win0_0.index t = ![t.val / 2, t.val % 2, 0] := (by decide +kernel : ∀ t : Fin grid0.N, win0_0.index t = ![t.val / 2, t.val % 2, 0])
/-- The normalization's weights come whole. -/
theorem index1 : ∀ t : Fin cfg0.N, win0_1.index t = ![0, 0] := (by decide +kernel : ∀ t : Fin grid0.N, win0_1.index t = ![0, 0])
/-- The projections' weights come whole. -/
theorem index2 : ∀ t : Fin cfg0.N, win0_2.index t = ![0, 0] := (by decide +kernel : ∀ t : Fin grid0.N, win0_2.index t = ![0, 0])
/-- A half of the table of cosines. -/
theorem index3 : ∀ t : Fin cfg0.N, win0_3.index t = ![t.val % 2, 0] := (by decide +kernel : ∀ t : Fin grid0.N, win0_3.index t = ![t.val % 2, 0])
/-- A half of the table of sines. -/
theorem index4 : ∀ t : Fin cfg0.N, win0_4.index t = ![t.val % 2, 0] := (by decide +kernel : ∀ t : Fin grid0.N, win0_4.index t = ![t.val % 2, 0])
/-- The queries leave in the blocks of the input. -/
theorem index5 : ∀ t : Fin cfg0.N, win0_5.index t = ![t.val / 2, t.val % 2, 0] := (by decide +kernel : ∀ t : Fin grid0.N, win0_5.index t = ![t.val / 2, t.val % 2, 0])
/-- So do the keys. -/
theorem index6 : ∀ t : Fin cfg0.N, win0_6.index t = ![t.val / 2, t.val % 2, 0] := (by decide +kernel : ∀ t : Fin grid0.N, win0_6.index t = ![t.val / 2, t.val % 2, 0])
/-- So do the values. -/
theorem index7 : ∀ t : Fin cfg0.N, win0_7.index t = ![t.val / 2, t.val % 2, 0] := (by decide +kernel : ∀ t : Fin grid0.N, win0_7.index t = ![t.val / 2, t.val % 2, 0])

/-- The projections' weights as the call gets them. -/
theorem V_w (c : Dev nD) : V m c main_v27 = truncf (F := Ideal) .bf16 (m ((c.tc : Thread nD τ).loc main_arg2)) bitsLt_bf16_f32 := by
  unfold_abbrev_sides
  after_results
/-- The normalization's weights as the call gets them. -/
theorem V_nw (c : Dev nD) : V m c main_v26 = shapeCast S1x1024 (m ((c.tc : Thread nD τ).loc main_arg1) : S1024.Idx → EReal) shapeCasts_S1024_S1x1024 := by
  unfold_abbrev_sides
  after_results
  rfl

/-- A head's table, laid over all the heads. -/
def tile (z : FVec Ideal S1024x64 .f32) : FVec Ideal S1024x1024 .f32 :=
  shapeCast S1024x1024 (broadcastInDim S1x1024x16x64 ![0, 1, 2, 3] bcast_S1x1024x1x64_S1x1024x16x64_0_1_2_3 (shapeCast S1x1024x1x64 z shapeCasts_S1024x64_S1x1024x1x64)) shapeCasts_S1x1024x16x64_S1024x1024

/-- The table of cosines as the call gets it. -/
theorem V_cos (c : Dev nD) : V m c main_v21 = tile (Host.cos emb) := by
  unfold_abbrev_sides
  after_results
  rfl
/-- The table of sines as the call gets it. -/
theorem V_sin (c : Dev nD) : V m c main_v25 = tile (Host.sin emb) := by
  unfold_abbrev_sides
  after_results
  rfl

/-- The table over all the heads reads the head's. -/
theorem tile_apply (z : FVec Ideal S1024x64 .f32) (t n : Fin 1024) : (tile z : S1024x1024.Idx → EReal) (ix2 t n) = z (ix2 t (sub n)) := by
  unfold tile sub
  refine (shapeCast_apply _ _ _ (ix4 (0 : Fin 1) t (⟨n.val / 64, by omega⟩ : Fin 16) (⟨n.val % 64, by omega⟩ : Fin 64)) (by
    rw [Shape.rowMajor_val_two, Shape.rowMajor_val_four]
    show ((0 * 1024 + t.val) * 16 + n.val / 64) * 64 + n.val % 64 = t.val * 1024 + n.val
    omega)).trans ?_
  pointwise

/-- A point's batch element. -/
def bat (t : Fin cfg0.N) : Fin 2 := ⟨t.val / 2, by have h : t.val < 4 := lt_of_lt_of_eq t.isLt N_0; omega⟩
/-- The time step of a row of a point's block. -/
def row (t : Fin cfg0.N) (r : Fin 512) : Fin 1024 := ⟨512 * (t.val % 2) + r.val, by omega⟩

/-- The input's block. -/
theorem blk0 (c : Dev nD) (t : Fin cfg0.N) (r : Fin 512) (n : Fin 1024) :
    (iblk m c 0 t : S1x512x1024.Idx → EReal) (ix3 (0 : Fin 1) r n) = m ((c.tc : Thread nD τ).loc main_arg0) (ix3 (bat t) (row t r) n) := by
  blk_simp [iblk]
  refine (congrFun (V_main_arg0 m c) _).trans (congrArg (m ((c.tc : Thread nD τ).loc main_arg0)) ?_)
  blk_ext [index0, row, bat]
/-- The normalization's weights. -/
theorem blk1 (c : Dev nD) (t : Fin cfg0.N) (k : Fin 1024) :
    (iblk m c 1 t : S1x1024.Idx → EReal) (ix2 (0 : Fin 1) k) = m ((c.tc : Thread nD τ).loc main_arg1) (ix1 k) := by
  blk_simp [iblk]
  have e : ((win0_1.blk t).view.emb (ix2 (0 : Fin 1) k) : S1x1024.Idx) = ix2 (0 : Fin 1) k := by blk_ext [index1]
  refine (congrFun (V_nw m c) _).trans ?_
  refine (congrArg (shapeCast S1x1024 (m ((c.tc : Thread nD τ).loc main_arg1) : S1024.Idx → EReal) shapeCasts_S1024_S1x1024) e).trans ?_
  pointwise
/-- The projections' weights. -/
theorem blk2 (c : Dev nD) (t : Fin cfg0.N) (k : Fin 1024) (n : Fin 3072) :
    (iblk m c 2 t : S1024x3072.Idx → EReal) (ix2 k n) = m ((c.tc : Thread nD τ).loc main_arg2) (ix2 k n) := by
  blk_simp [iblk]
  refine (congrFun (V_w m c) _).trans (congrArg (m ((c.tc : Thread nD τ).loc main_arg2)) ?_)
  blk_ext [index2]
/-- The block of the table of cosines. -/
theorem blk3 (c : Dev nD) (t : Fin cfg0.N) (r : Fin 512) (n : Fin 1024) :
    (iblk m c 3 t : S512x1024.Idx → EReal) (ix2 r n) = cosT (row t r) n := by
  blk_simp [iblk]
  have e : ((win0_3.blk t).view.emb (ix2 r n) : S1024x1024.Idx) = ix2 (row t r) n := by blk_ext [index3, row]
  exact (congrFun (V_cos m c) _).trans ((congrArg (tile (Host.cos emb) : S1024x1024.Idx → EReal) e).trans (tile_apply _ _ _))
/-- The block of the table of sines. -/
theorem blk4 (c : Dev nD) (t : Fin cfg0.N) (r : Fin 512) (n : Fin 1024) :
    (iblk m c 4 t : S512x1024.Idx → EReal) (ix2 r n) = sinT (row t r) n := by
  blk_simp [iblk]
  have e : ((win0_4.blk t).view.emb (ix2 r n) : S1024x1024.Idx) = ix2 (row t r) n := by blk_ext [index4, row]
  exact (congrFun (V_sin m c) _).trans ((congrArg (tile (Host.sin emb) : S1024x1024.Idx → EReal) e).trans (tile_apply _ _ _))

/-- A block's rows through the weights. -/
theorem proj_blk (c : Dev nD) (t : Fin cfg0.N) (r : Fin 512) (n : Fin 3072) :
    proj (iblk m c 0 t) (iblk m c 1 t) (iblk m c 2 t) r n
      = col (m ((c.tc : Thread nD τ).loc main_arg0)) (m ((c.tc : Thread nD τ).loc main_arg1)) (m ((c.tc : Thread nD τ).loc main_arg2)) (bat t) (row t r) n := by
  unfold proj col
  exact Finset.sum_congr rfl fun k _ => congrArg₂ (· * ·) (rms_congr (blk0 m c t r) (blk1 m c t) k) (blk2 m c t k n)

/-- The rotations of equal rows by equal angles. -/
theorem rope_congr {z z' c c' s s' : Fin 1024 → EReal} (hz : ∀ k, z k = z' k) (hc : ∀ k, c k = c' k) (hs : ∀ k, s k = s' k) (n : Fin 1024) :
    rope z c s n = rope z' c' s' n := by
  rw [funext hz, funext hc, funext hs]

/-- The cosines and sines as the body loads them. -/
theorem tables (x3 : Vec Ideal S512x1024 .f32) (r : Fin 512) (k : Fin 1024) : (k0_pay5 x3 : S512x1024.Idx → EReal) (ix2 r k) = x3 (ix2 r k) := by
  unfold k0_pay5
  pointwise

/-- The first result array. -/
def result0 (c : Dev nD) : S2x1024x1024.Idx → EReal := fun y =>
  qry (m ((c.tc : Thread nD τ).loc main_arg0)) (m ((c.tc : Thread nD τ).loc main_arg1)) (m ((c.tc : Thread nD τ).loc main_arg2)) (y 0) (y 1) (y 2)
/-- The second result array. -/
def result1 (c : Dev nD) : S2x1024x1024.Idx → EReal := fun y =>
  key (m ((c.tc : Thread nD τ).loc main_arg0)) (m ((c.tc : Thread nD τ).loc main_arg1)) (m ((c.tc : Thread nD τ).loc main_arg2)) (y 0) (y 1) (y 2)
/-- The third result array. -/
def result2 (c : Dev nD) : S2x1024x1024.Idx → EReal := fun y =>
  val (m ((c.tc : Thread nD τ).loc main_arg0)) (m ((c.tc : Thread nD τ).loc main_arg1)) (m ((c.tc : Thread nD τ).loc main_arg2)) (y 0) (y 1) (y 2)

/-- What a point writes of the queries. -/
theorem after0 (c : Dev nD) (t : Fin cfg0.N) (r : Fin 512) (n : Fin 1024) :
    ((dats m 0 c).after 5 t : S1x512x1024.Idx → EReal) (ix3 (0 : Fin 1) r n) = result0 m c (ix3 (bat t) (row t r) n) := by
  rw [after0_5]
  unfold out0_5 k0_pay14 k0_pay15 k0_pay16 k0_pay17 k0_pay18
  rw [View.canon_cons_unit_lit _ _ _ (by decide), View.ld_unit_lit _ _ (by decide), View.ld_unit_lit _ _ (by decide), View.ld_unit_lit _ _ (by decide), View.ld_unit_lit _ _ (by decide), View.ld_unit_lit _ _ (by decide)]
  refine (pay11_apply _ _ _ r n).trans ?_
  exact rope_congr (fun k => (pay2_apply _ _ _ r k).trans (proj_blk m c t r _)) (fun k => (tables _ r k).trans (blk3 m c t r k)) (fun k => (tables _ r k).trans (blk4 m c t r k)) n
/-- What a point writes of the keys. -/
theorem after1 (c : Dev nD) (t : Fin cfg0.N) (r : Fin 512) (n : Fin 1024) :
    ((dats m 0 c).after 6 t : S1x512x1024.Idx → EReal) (ix3 (0 : Fin 1) r n) = result1 m c (ix3 (bat t) (row t r) n) := by
  rw [after0_6]
  unfold out0_6 k0_pay14 k0_pay15 k0_pay16 k0_pay17 k0_pay18
  rw [View.canon_cons_unit_lit _ _ _ (by decide), View.ld_unit_lit _ _ (by decide), View.ld_unit_lit _ _ (by decide), View.ld_unit_lit _ _ (by decide), View.ld_unit_lit _ _ (by decide), View.ld_unit_lit _ _ (by decide)]
  refine (pay12_apply _ _ _ r n).trans ?_
  exact rope_congr (fun k => (pay3_apply _ _ _ r k).trans (proj_blk m c t r _)) (fun k => (tables _ r k).trans (blk3 m c t r k)) (fun k => (tables _ r k).trans (blk4 m c t r k)) n
/-- What a point writes of the values. -/
theorem after2 (c : Dev nD) (t : Fin cfg0.N) (r : Fin 512) (n : Fin 1024) :
    ((dats m 0 c).after 7 t : S1x512x1024.Idx → EReal) (ix3 (0 : Fin 1) r n) = result2 m c (ix3 (bat t) (row t r) n) := by
  rw [after0_7]
  unfold out0_7
  rw [View.canon_cons_unit_lit _ _ _ (by decide), View.ld_unit_lit _ _ (by decide), View.ld_unit_lit _ _ (by decide), View.ld_unit_lit _ _ (by decide)]
  exact (pay4_apply _ _ _ r n).trans (proj_blk m c t r _)

/-- The first output array at the end. -/
theorem final0 (c : Dev nD) : (dats m 0 c).arrAt 5 cfg0.N = result0 m c := by
  refine (dats m 0 c).arrAt_eq_of_covers 5 _ (by decide +kernel) fun t hf (y : S1x512x1024.Idx) => ?_
  blk_simp
  idx_vars y
  fin_cases y0
  refine (after0 m c t y1 y2).trans (congrArg (result0 m c) ?_)
  blk_ext [index5, row, bat]
/-- The second output array at the end. -/
theorem final1 (c : Dev nD) : (dats m 0 c).arrAt 6 cfg0.N = result1 m c := by
  refine (dats m 0 c).arrAt_eq_of_covers 6 _ (by decide +kernel) fun t hf (y : S1x512x1024.Idx) => ?_
  blk_simp
  idx_vars y
  fin_cases y0
  refine (after1 m c t y1 y2).trans (congrArg (result1 m c) ?_)
  blk_ext [index6, row, bat]
/-- The third output array at the end. -/
theorem final2 (c : Dev nD) : (dats m 0 c).arrAt 7 cfg0.N = result2 m c := by
  refine (dats m 0 c).arrAt_eq_of_covers 7 _ (by decide +kernel) fun t hf (y : S1x512x1024.Idx) => ?_
  blk_simp
  idx_vars y
  fin_cases y0
  refine (after2 m c t y1 y2).trans (congrArg (result2 m c) ?_)
  blk_ext [index7, row, bat]

end Cert.Kernel4Ideal.Qkv

end
-- ==== Proof.Qkv.Ref.lean ====
/- The first call's reference: its projections and its rotation at an index. -/
module

public import proofs.«01_k».proof.Proof.Qkv.Value
public import proofs.«01_k».proof.Proof.Mid.Agree
public import proofs.«01_k».proof.Proof.Gen.Reference4Ideal.Run

@[expose] public section

noncomputable section

namespace Cert.Proof.Qkv

open Idealize.ShloMosaic Idealize.SL.Sem Idealize.ShloMosaic.Tactic
open Cert.Reference4Ideal Cert.Reference4Ideal.Gen Cert.Norm
open Cert.Kernel4Ideal.Qkv (rot rope col cosT sinT emb qry key val)
open scoped BigOperators

variable (x : S2x1024x1024.Idx → EReal) (nw : S1024.Idx → EReal) (w : S1024x3072.Idx → EReal)

/-- The reference's product of the normalized rows and the weights. -/
def prodR : FVec Ideal S2x1024x3072 .f32 :=
  Host.dotGeneral (F := Ideal) (φ₁ := .f32) (φ₂ := .f32) dot_S2x1024x1024_S1024x3072_S2x1024x3072_2_0_01_1_n_n none (Cert.Proof.Mid.normR nw x) w

/-- The product at an index. -/
theorem prodR_apply (b : Fin 2) (t : Fin 1024) (n : Fin 3072) : (prodR x nw w : S2x1024x3072.Idx → EReal) (ix3 b t n) = col x nw w b t n := by
  refine Eq.trans ?_ (Finset.sum_congr rfl fun k _ => congrArg (· * w (ix2 k n)) (Cert.Proof.Mid.normR_apply nw x b t k))
  unfold prodR
  generalize Cert.Proof.Mid.normR nw x = z
  pointwise

/-- One of the three parts of the product, by heads. -/
def part (off : Fin 5 → ℕ) (h : Shape.Slices S2x1024x3x16x64 off S2x1024x1x16x64) (z : FVec Ideal S2x1024x3072 .f32) : FVec Ideal S2x1024x16x64 .f32 :=
  shapeCast S2x1024x16x64 (extractStridedSlice S2x1024x1x16x64 off (shapeCast S2x1024x3x16x64 z shapeCasts_S2x1024x3072_S2x1024x3x16x64) h) shapeCasts_S2x1024x1x16x64_S2x1024x16x64

/-- A part at an index: the columns of its third. -/
theorem part_apply (p : Fin 3) (h : Shape.Slices S2x1024x3x16x64 ![0, 0, p.val, 0, 0] S2x1024x1x16x64) (z : FVec Ideal S2x1024x3072 .f32)
    (b : Fin 2) (t : Fin 1024) (e : Fin 16) (d : Fin 64) :
    (part ![0, 0, p.val, 0, 0] h z : S2x1024x16x64.Idx → EReal) (ix4 b t e d) = z (ix3 b t ⟨1024 * p.val + (64 * e.val + d.val), by omega⟩) := by
  unfold part
  refine (shapeCast_apply _ _ _ (ix5 b t (0 : Fin 1) e d) (by
    rw [Shape.rowMajor_val_five, Shape.rowMajor_val_four]
    show (((b.val * 1024 + t.val) * 1 + 0) * 16 + e.val) * 64 + d.val = ((b.val * 1024 + t.val) * 16 + e.val) * 64 + d.val
    omega)).trans ?_
  refine (extractStridedSlice_apply _ _ _ _ (ix5 b t p e d) (fun a => by fin_cases a <;> simp)).trans ?_
  exact shapeCast_apply _ _ _ _ (by
    rw [Shape.rowMajor_val_five, Shape.rowMajor_val_three]
    show (b.val * 1024 + t.val) * 3072 + (1024 * p.val + (64 * e.val + d.val)) = (((b.val * 1024 + t.val) * 3 + p.val) * 16 + e.val) * 64 + d.val
    omega)

/-- The reference's rotation, by heads, and back to rows. -/
def ropeR (z : FVec Ideal S2x1024x16x64 .f32) (C S : FVec Ideal S1024x64 .f32) : FVec Ideal S2x1024x1024 .f32 :=
  shapeCast S2x1024x1024 (addf (mulf z (broadcastInDim S2x1024x16x64 ![0, 1, 2, 3] bcast_S1x1024x1x64_S2x1024x16x64_0_1_2_3 (broadcastInDim S1x1024x1x64 ![1, 3] bcast_S1024x64_S1x1024x1x64_1_3 C)))
    (mulf (concatenate S2x1024x16x64 3 [⟨S2x1024x16x32, Host.negf (extractStridedSlice S2x1024x16x32 ![0, 0, 0, 32] z slices_S2x1024x16x64_S2x1024x16x32_0_0_0_32)⟩, ⟨S2x1024x16x32, extractStridedSlice S2x1024x16x32 ![0, 0, 0, 0] z slices_S2x1024x16x64_S2x1024x16x32_0_0_0_0⟩] concatenates_S2x1024x16x32_S2x1024x16x32_S2x1024x16x64_d3)
      (broadcastInDim S2x1024x16x64 ![0, 1, 2, 3] bcast_S1x1024x1x64_S2x1024x16x64_0_1_2_3 (broadcastInDim S1x1024x1x64 ![1, 3] bcast_S1024x64_S1x1024x1x64_1_3 S)))) shapeCasts_S2x1024x16x64_S2x1024x1024

/-- A row of heads, laid flat. -/
theorem flat_apply (z : FVec Ideal S2x1024x16x64 .f32) (b : Fin 2) (t n : Fin 1024) :
    (shapeCast S2x1024x1024 z shapeCasts_S2x1024x16x64_S2x1024x1024 : S2x1024x1024.Idx → EReal) (ix3 b t n) = z (ix4 b t ⟨n.val / 64, by omega⟩ ⟨n.val % 64, by omega⟩) :=
  shapeCast_apply _ _ _ _ (by
    rw [Shape.rowMajor_val_three, Shape.rowMajor_val_four]
    show ((b.val * 1024 + t.val) * 16 + n.val / 64) * 64 + n.val % 64 = (b.val * 1024 + t.val) * 1024 + n.val
    omega)

/-- The rotation at an index. -/
theorem ropeR_apply (z : FVec Ideal S2x1024x16x64 .f32) (C S : FVec Ideal S1024x64 .f32) (b : Fin 2) (t n : Fin 1024) :
    (ropeR z C S : S2x1024x1024.Idx → EReal) (ix3 b t n)
      = rope (fun k => z (ix4 b t ⟨k.val / 64, by omega⟩ ⟨k.val % 64, by omega⟩)) (fun k => C (ix2 t ⟨k.val % 64, by omega⟩)) (fun k => S (ix2 t ⟨k.val % 64, by omega⟩)) n := by
  unfold ropeR rope rot
  rw [flat_apply]
  pointwise
  refine congrArg₂ (· + ·) rfl (congrArg₂ (· * ·) ?_ rfl)
  by_cases h : n.val % 64 < 32
  · rw [dif_pos h, dif_pos h]
    refine congrArg (fun v => -z v) (congrArg₂ (ix4 b t) (Fin.ext ?_) (Fin.ext ?_))
    · show n.val / 64 = (n.val + 32) / 64
      omega
    · show 32 + n.val % 64 = (n.val + 32) % 64
      omega
  · rw [dif_neg h, dif_neg h]
    refine congrArg z (congrArg₂ (ix4 b t) (Fin.ext ?_) (Fin.ext ?_))
    · show n.val / 64 = (n.val - 32) / 64
      omega
    · show n.val % 64 - 32 = (n.val - 32) % 64
      omega

/-- The queries and the keys at an index: the rotation of a third's columns. -/
theorem turned_apply (p : Fin 3) (h : Shape.Slices S2x1024x3x16x64 ![0, 0, p.val, 0, 0] S2x1024x1x16x64) (b : Fin 2) (t n : Fin 1024) :
    (ropeR (part ![0, 0, p.val, 0, 0] h (prodR x nw w)) (Host.cos emb) (Host.sin emb) : S2x1024x1024.Idx → EReal) (ix3 b t n)
      = rope (fun k => col x nw w b t ⟨1024 * p.val + k.val, by omega⟩) (cosT t) (sinT t) n := by
  refine (ropeR_apply _ _ _ b t n).trans (Cert.Kernel4Ideal.Qkv.rope_congr (fun k => ?_) (fun _ => rfl) (fun _ => rfl) n)
  refine (part_apply p h _ b t _ _).trans ((prodR_apply x nw w b t _).trans (congrArg (col x nw w b t) (Fin.ext ?_)))
  show 1024 * p.val + (64 * (k.val / 64) + k.val % 64) = 1024 * p.val + k.val
  omega

/-- The values at an index: the last third's columns. -/
theorem plain_apply (p : Fin 3) (h : Shape.Slices S2x1024x3x16x64 ![0, 0, p.val, 0, 0] S2x1024x1x16x64) (b : Fin 2) (t n : Fin 1024) :
    (shapeCast S2x1024x1024 (part ![0, 0, p.val, 0, 0] h (prodR x nw w)) shapeCasts_S2x1024x16x64_S2x1024x1024 : S2x1024x1024.Idx → EReal) (ix3 b t n)
      = col x nw w b t ⟨1024 * p.val + n.val, by omega⟩ := by
  refine (flat_apply _ b t n).trans ?_
  refine (part_apply p h _ b t _ _).trans ((prodR_apply x nw w b t _).trans (congrArg (col x nw w b t) (Fin.ext ?_)))
  show 1024 * p.val + (64 * (n.val / 64) + n.val % 64) = 1024 * p.val + n.val
  omega

end Cert.Proof.Qkv

end
-- ==== Proof.Qkv.Agree.lean ====
/- The first call: the reference's three results, and the value claim. -/
module

public import proofs.«01_k».proof.Defs
public import proofs.«01_k».proof.Proof.Qkv.Ref

@[expose] public section

noncomputable section

namespace Cert.Proof.Qkv

open Idealize.ShloMosaic Idealize.SL.Sem Idealize.ShloMosaic.Tactic
open Cert.Reference4Ideal Cert.Reference4Ideal.Gen
open Cert.Kernel4Ideal.Qkv (emb qry key val)

variable (m : (ℓ : Loc nD τ sig) → Buf (Elt Ideal) ℓ) (c : Dev nD)

/-- The reference's queries. -/
theorem res0 : Cert.Reference4Ideal.Value.res_main_v66 m c = ropeR (part ![0, 0, 0, 0, 0] slices_S2x1024x3x16x64_S2x1024x1x16x64_0_0_0_0_0
    (prodR (m ((c.tc : Thread nD τ).loc main_arg0)) (m ((c.tc : Thread nD τ).loc main_arg1)) (m ((c.tc : Thread nD τ).loc main_arg2)))) (Host.cos emb) (Host.sin emb) := rfl

/-- The reference's keys. -/
theorem res1 : Cert.Reference4Ideal.Value.res_main_v68 m c = ropeR (part ![0, 0, 1, 0, 0] slices_S2x1024x3x16x64_S2x1024x1x16x64_0_0_1_0_0
    (prodR (m ((c.tc : Thread nD τ).loc main_arg0)) (m ((c.tc : Thread nD τ).loc main_arg1)) (m ((c.tc : Thread nD τ).loc main_arg2)))) (Host.cos emb) (Host.sin emb) := rfl

/-- The reference's arguments end unchanged and its semaphores, of which it has none, at zero. -/
theorem ref_quiescent : Cert.quiescent_Reference4Ideal (hReference4Ideal := Cert.Reference4Ideal.Gen.facts) := fun m ρ _ =>
  (θ_run _ _ _).mono (fun r h => ⟨fun c => (h c).2.2.2, sem_eq_zero_of_no_sems (by decide) r.2⟩) (Cert.Reference4Ideal.Value.run m ρ)

/-- A rotated part starts at column 1024·p; that of part 0 starts at none. -/
theorem qry_eq (x : S2x1024x1024.Idx → EReal) (nw : S1024.Idx → EReal) (w : S1024x3072.Idx → EReal) (b : Fin 2) (t n : Fin 1024) :
    (ropeR (part ![0, 0, 0, 0, 0] slices_S2x1024x3x16x64_S2x1024x1x16x64_0_0_0_0_0 (prodR x nw w)) (Host.cos emb) (Host.sin emb) : S2x1024x1024.Idx → EReal) (ix3 b t n) = qry x nw w b t n :=
  (turned_apply x nw w 0 slices_S2x1024x3x16x64_S2x1024x1x16x64_0_0_0_0_0 b t n).trans
    (Cert.Kernel4Ideal.Qkv.rope_congr (fun k => congrArg (Cert.Kernel4Ideal.Qkv.col x nw w b t) (Fin.ext (Nat.zero_add _))) (fun _ => rfl) (fun _ => rfl) n)

/-- The value claim of the first call. -/
theorem value : Cert.algebraic_Kernel4Ideal_Reference4Ideal (hKernel4Ideal := Cert.Kernel4Ideal.Gen.facts) (hReference4Ideal := Cert.Reference4Ideal.Gen.facts) := by
  intro m g m' g' _ ha
  refine ⟨fun c => Cert.Kernel4Ideal.Qkv.result0 m c, fun c => Cert.Kernel4Ideal.Qkv.result1 m c, fun c => Cert.Kernel4Ideal.Qkv.result2 m c, ?_, ?_⟩
  · exact (θ_run _ _ _).mono (fun r h c => ⟨(h c).1.trans (Cert.Kernel4Ideal.Qkv.final0 m c), (h c).2.1.trans (Cert.Kernel4Ideal.Qkv.final1 m c),
      (h c).2.2.1.trans (Cert.Kernel4Ideal.Qkv.final2 m c), (h c).2.2.2⟩) (Cert.Kernel4Ideal.Value.run_blocks m g)
  · refine (θ_run _ _ _).mono (fun r h c => ⟨(h c).1.trans ((res0 m' c).trans (?_ : _)), (h c).2.1.trans ((res1 m' c).trans (?_ : _)), (h c).2.2.1.trans (?_ : _), (h c).2.2.2⟩) (Cert.Reference4Ideal.Value.run m' g')
    all_goals rw [(ha c).1, (ha c).2.1, (ha c).2.2]
    all_goals refine funext fun (y : S2x1024x1024.Idx) => ?_
    all_goals idx_vars y
    · exact qry_eq _ _ _ y0 y1 y2
    · exact turned_apply _ _ _ 1 slices_S2x1024x3x16x64_S2x1024x1x16x64_0_0_1_0_0 y0 y1 y2
    · exact plain_apply _ _ _ 2 slices_S2x1024x3x16x64_S2x1024x1x16x64_0_0_2_0_0 y0 y1 y2

end Cert.Proof.Qkv

end
-- ==== Proof.Attn.Pre.lean ====
/- The attention call's precondition: every query and every key is real. -/
module

public import proofs.«01_k».proof.Defs
public import proofs.«01_k».proof.Proof.Lru.Pre

@[expose] public section

noncomputable section

namespace Cert.Pre_finite5

open Idealize.ShloMosaic
open Cert.Lru (Fine)
open Cert.Pre_finite (fine_of_word both)

/-- The shape relations the precondition's operations take. -/
theorem facts : Facts where
  bitsLt_bf16_f32 := by decide
  bcast_S_S2x1024x1024 := by constructor <;> decide
  reducesTo_S2x1024x1024_S_d0_1_2 := by decide +kernel
  h_S_ := by decide

variable [Facts]

/-- The precondition gives real queries and keys. -/
theorem fine (x0 x1 x2 : FVec Ideal S2x1024x1024 .bf16) (h : fn (F := Ideal) x0 x1 x2 = fun _ => 1#1) : (∀ i, Fine (x0 i)) ∧ ∀ i, Fine (x1 i) := by
  haveI : Cert.Pre_finite.Facts := Cert.Pre_finite.facts
  unfold fn at h
  obtain ⟨h1, h2⟩ := both h
  haveI : Subsingleton S_.Idx := ⟨fun a b => funext fun k => k.elim0⟩
  have j : S_.Idx := fun k => k.elim0
  exact ⟨fun i => fine_of_word _ _ i (Host.reduce_andi_all _ _ _ _ j (congrFun h1 j) i),
    fun i => fine_of_word _ _ i (Host.reduce_andi_all _ _ _ _ j (congrFun h2 j) i)⟩

end Cert.Pre_finite5

end
-- ==== Proof.Attn.Online.lean ====
/- Softmax taken block by block, with a running greatest score, sum and weighted sum, is softmax over all the keys at once. -/
module

public import proofs.«01_k».proof.Proof.Lru.Softmax

@[expose] public section

noncomputable section

namespace Cert.Proof.Attn

open Idealize.ShloMosaic Cert.Lru
open scoped BigOperators

/-- The mask's value. -/
def low : EReal := Ideal.ofBits FTy.f32 0xF149F2CA#32

/-- The greatest score of a block, folded from minus infinity. -/
def top {n : ℕ} (s : Fin n → EReal) : EReal := Finset.fold max (Ideal.ofBits FTy.f32 0xFF800000#32) s Finset.univ

/-- The running greatest score after `n` blocks. -/
def mx (s : ℕ → Fin 256 → EReal) : ℕ → EReal
  | 0 => low
  | n + 1 => max (mx s n) (top (s n))

/-- The running sum of weights after `n` blocks: the old one is rescaled to the new greatest score. -/
def dn (s : ℕ → Fin 256 → EReal) : ℕ → EReal
  | 0 => 0
  | n + 1 => dn s n * Ideal.exp (mx s n - mx s (n + 1)) + ∑ c, Ideal.exp (s n c - mx s (n + 1))

/-- The running weighted sum of values after `n` blocks. -/
def nu (s v : ℕ → Fin 256 → EReal) : ℕ → EReal
  | 0 => 0
  | n + 1 => nu s v n * Ideal.exp (mx s n - mx s (n + 1)) + ∑ c, Ideal.exp (s n c - mx s (n + 1)) * v n c

/-- The word of minus infinity. -/
theorem bits_bot : Ideal.ofBits FTy.f32 0xFF800000#32 = ⊥ := by simp [Ideal.ofBits, Ideal.ieee]

/-- The mask's value is real. -/
theorem low_real : ∃ x : ℝ, low = (x : EReal) := by
  refine ⟨-(13234890 * 2 ^ 76), ?_⟩
  simp [low, Ideal.ofBits, Ideal.ieee]

/-- The greatest of reals is real. -/
theorem top_real {n : ℕ} [NeZero n] (f : Fin n → ℝ) : ∃ M : ℝ, top (fun c => (f c : EReal)) = (M : EReal) := by
  unfold top
  rw [bits_bot]
  obtain ⟨i, _, hi⟩ := Finset.exists_mem_eq_sup (Finset.univ : Finset (Fin n)) ⟨0, Finset.mem_univ _⟩ (fun j : Fin n => ((f j : ℝ) : EReal))
  exact ⟨f i, hi⟩

/-- The running greatest of real scores is real. -/
theorem mx_real (σ : ℕ → Fin 256 → ℝ) (n : ℕ) : ∃ M : ℝ, mx (fun j c => (σ j c : EReal)) n = (M : EReal) := by
  induction n with
  | zero => exact low_real
  | succ n ih =>
    obtain ⟨a, ha⟩ := ih
    obtain ⟨b, hb⟩ := top_real (σ n)
    exact ⟨max a b, by rw [mx, ha, hb]; exact (EReal.coe_strictMono.monotone.map_max).symm⟩

/-- A real that is not negative passes into a sum. -/
theorem sum_mul {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih, mul_comm, EReal.left_distrib_of_nonneg_of_ne_top (by exact_mod_cast hc) (EReal.coe_ne_top c),
      mul_comm, mul_comm (c : EReal)]

/-- The running sum is the sum of the weights at the running greatest score. -/
theorem dn_eq (σ : ℕ → Fin 256 → ℝ) (n : ℕ) (M : ℝ) (hM : mx (fun j c => (σ j c : EReal)) n = (M : EReal)) :
    dn (fun j c => (σ j c : EReal)) n = ((∑ j ∈ Finset.range n, ∑ c, Real.exp (σ j c - M) : ℝ) : EReal) := by
  induction n generalizing M with
  | zero => simp [dn]
  | succ n ih =>
    obtain ⟨a, ha⟩ := mx_real σ n
    rw [dn, ih a ha, ha, hM]
    simp only [← EReal.coe_sub, Ideal.exp_coe]
    rw [sum_coe, ← EReal.coe_mul, ← EReal.coe_add, Finset.sum_range_succ, Finset.sum_mul]
    congr 2
    refine Finset.sum_congr rfl fun j _ => ?_
    rw [Finset.sum_mul]
    exact Finset.sum_congr rfl fun c _ => by rw [← Real.exp_add]; congr 1; ring

/-- The running weighted sum is the sum of the weighted values at the running greatest score. -/
theorem nu_eq (σ : ℕ → Fin 256 → ℝ) (v : ℕ → Fin 256 → EReal) (n : ℕ) (M : ℝ) (hM : mx (fun j c => (σ j c : EReal)) n = (M : EReal)) :
    nu (fun j c => (σ j c : EReal)) v n = ∑ j ∈ Finset.range n, ∑ c, ((Real.exp (σ j c - M) : ℝ) : EReal) * v j c := by
  induction n generalizing M with
  | zero => simp [nu]
  | succ n ih =>
    obtain ⟨a, ha⟩ := mx_real σ n
    rw [nu, ih a ha, ha, hM]
    simp only [← EReal.coe_sub, Ideal.exp_coe]
    rw [Finset.sum_range_succ, sum_mul _ _ _ (Real.exp_pos _).le]
    congr 1
    refine Finset.sum_congr rfl fun j _ => ?_
    rw [sum_mul _ _ _ (Real.exp_pos _).le]
    refine Finset.sum_congr rfl fun c _ => ?_
    rw [mul_right_comm, ← EReal.coe_mul, ← Real.exp_add]
    congr 3
    ring

/-- Key `c` of block `j`. -/
def key (j : ℕ) (c : Fin 256) : Fin 1024 := ⟨(256 * j + c.val) % 1024, Nat.mod_lt _ (by decide)⟩

/-- The four blocks hold every key once. -/
theorem sum_key {α : Type} [AddCommMonoid α] (f : Fin 1024 → α) : ∑ j ∈ Finset.range 4, ∑ c, f (key j c) = ∑ k, f k := by
  rw [Finset.sum_range (fun j => ∑ c, f (key j c)), ← Fintype.sum_prod_type']
  refine Fintype.sum_equiv (finProdFinEquiv (m := 4) (n := 256)) _ _ fun x => congrArg f (Fin.ext ?_)
  have h1 := x.1.isLt
  have h2 := x.2.isLt
  show (256 * x.1.val + x.2.val) % 1024 = x.2.val + 256 * x.1.val
  omega

/-- A weighted sum over the sum of its weights is the sum of the values at the quotients. -/
theorem div_sum (w : Fin 1024 → ℝ) (hw : ∀ k, 0 < w k) (v : Fin 1024 → EReal) :
    Ideal.div (∑ k, (w k : EReal) * v k) ((∑ k, w k : ℝ) : EReal) = ∑ k, v k * ((w k / ∑ x, w x : ℝ) : EReal) := by
  have hp : 0 < ∑ k, w k := Finset.sum_pos (fun k _ => hw k) ⟨0, Finset.mem_univ _⟩
  unfold Ideal.div
  rw [if_neg (by exact_mod_cast hp.ne'), ← EReal.coe_inv, sum_mul _ _ _ (inv_nonneg.2 hp.le)]
  exact Finset.sum_congr rfl fun k _ => by rw [div_eq_mul_inv, EReal.coe_mul, mul_comm (w k : EReal), mul_assoc]

/-- The four blocks' quotient is softmax of all the scores, whichever real is taken off them first. -/
theorem online (σ : Fin 1024 → ℝ) (v : Fin 1024 → EReal) (M : ℝ) :
    Ideal.div (nu (fun j c => (σ (key j c) : EReal)) (fun j c => v (key j c)) 4) (dn (fun j c => (σ (key j c) : EReal)) 4)
      = ∑ k, v k * Ideal.div (Ideal.exp ((σ k : EReal) - (M : EReal))) (∑ x, Ideal.exp ((σ x : EReal) - (M : EReal))) := by
  obtain ⟨m, hm⟩ := mx_real (fun j c => σ (key j c)) 4
  rw [nu_eq _ _ _ m hm, dn_eq _ _ m hm, sum_key (fun k => Real.exp (σ k - m)), sum_key (fun k => ((Real.exp (σ k - m) : ℝ) : EReal) * v k),
    div_sum _ fun k => Real.exp_pos _]
  simp only [← EReal.coe_sub, Ideal.exp_coe]
  have pos : ∀ a : ℝ, (∑ x, Real.exp (σ x - a)) ≠ 0 := fun a =>
    (Finset.sum_pos (fun x _ => Real.exp_pos (σ x - a)) ⟨0, Finset.mem_univ _⟩).ne'
  refine Finset.sum_congr rfl fun k _ => ?_
  rw [sum_coe, div_coe _ _ (pos M)]
  congr 2
  rw [div_eq_div_iff (pos m) (pos M), Finset.mul_sum, Finset.mul_sum]
  exact Finset.sum_congr rfl fun x _ => by rw [← Real.exp_add, ← Real.exp_add]; congr 1; ring

end Cert.Proof.Attn

end
-- ==== Proof.Attn.Block.lean ====
/- The attention call's body in steps: a block's masked scores, and what one block of keys does to the running greatest score, sum and
   weighted sum. -/
module

public import proofs.«01_k».proof.Proof.Gen.Kernel5Ideal.Value
public import proofs.«01_k».proof.Proof.Attn.Online
public import Idealize.ShloMosaic.Lib.Pipeline.ValueKit
public import Idealize.ShloMosaic.Lib.Pointwise

@[expose] public section

set_option maxRecDepth 16384

noncomputable section

namespace Cert.Kernel5Ideal.Attn

open Idealize.ShloMosaic Idealize.ShloMosaic.TcCoe Idealize.ShloMosaic.Tactic
open Cert.Kernel5Ideal Cert.Kernel5Ideal.Gen Cert.Proof.Attn
open scoped BigOperators

/-- The mask of the block whose first key is `w`. -/
def maskV (i : grid0.Coords) (w : BitVec 32) : IVec S512x256 1 :=
  cmpi .sle (addi (broadcast S512x256 w) (iota .tc S512x256 32 [1] iota_S512x256_d1_w32)) (k0_pay2 i)

/-- The scaled products of a block's keys with the queries. -/
def prodV (q : FVec Ideal S512x64 .bf16) (k : Vec Ideal S1x256x64 .bf16) : FVec Ideal S512x256 .f32 :=
  mulf (matmul dot_S512x64_S256x64_S512x256_1_1_0_0_n_n none q (shapeCast S256x64 k shapeCasts_S1x256x64_S256x64 : FVec Ideal S256x64 .bf16) (constant S512x256 .f32 0x00000000#32))
    (broadcast S512x256 (Scalar.ofBits (F := Ideal) .f32 0x3E000000#32))

/-- The masked scores. -/
def scV (i : grid0.Coords) (w : BitVec 32) (q : FVec Ideal S512x64 .bf16) (k : Vec Ideal S1x256x64 .bf16) : FVec Ideal S512x256 .f32 :=
  select (maskV i w) (prodV q k) (broadcast S512x256 (Scalar.ofBits (F := Ideal) .f32 0xF149F2CA#32))

/-- The greatest score after a block. -/
def mV (m : FVec Ideal S512x1 .f32) (s : FVec Ideal S512x256 .f32) : FVec Ideal S512x1 .f32 :=
  maximumf m (shapeCast S512x1 (multiReduction .maximumf [1] S512 s 0xFF800000#32 reduces_S512x256_S512 (.inl rfl) rfl) shapeCasts_S512_S512x1)

/-- The block's weights. -/
def pV (m : FVec Ideal S512x1 .f32) (s : FVec Ideal S512x256 .f32) : FVec Ideal S512x256 .f32 :=
  exp (subf s (broadcastTo S512x256 (mV m s) broadcasts_S512x1_S512x256))

/-- The factor the block puts on what was there. -/
def cV (m : FVec Ideal S512x1 .f32) (s : FVec Ideal S512x256 .f32) : FVec Ideal S512x1 .f32 := exp (subf m (mV m s))

/-- The sum of weights after a block. -/
def lV (m l : FVec Ideal S512x1 .f32) (s : FVec Ideal S512x256 .f32) : FVec Ideal S512x1 .f32 :=
  addf (mulf l (cV m s))
    (shapeCast S512x1 (multiReduction .add [1] S512 (pV m s) 0x00000000#32 reduces_S512x256_S512 (.inl rfl) rfl) shapeCasts_S512_S512x1)

/-- The weighted sum after a block. -/
def aV (m : FVec Ideal S512x1 .f32) (a : FVec Ideal S512x64 .f32) (s : FVec Ideal S512x256 .f32) (v : Vec Ideal S1x256x64 .bf16) : FVec Ideal S512x64 .f32 :=
  addf (mulf a (broadcastTo S512x64 (cV m s) broadcasts_S512x1_S512x64))
    (matmul dot_S512x256_S256x64_S512x64_1_0_0_1_n_n none (truncf .bf16 (pV m s) bitsLt_bf16_f32)
      (shapeCast S256x64 v shapeCasts_S1x256x64_S256x64 : FVec Ideal S256x64 .bf16) (constant S512x64 .f32 0x00000000#32))

/-- A column or a block of one word. -/
abbrev m0 : FVec Ideal S512x1 .f32 := broadcast S512x1 (Scalar.ofBits (F := Ideal) .f32 0xF149F2CA#32)
abbrev l0 : FVec Ideal S512x1 .f32 := broadcast S512x1 (Scalar.ofBits (F := Ideal) .f32 0x00000000#32)
abbrev a0 : FVec Ideal S512x64 .f32 := broadcast S512x64 (Scalar.ofBits (F := Ideal) .f32 0x00000000#32)

/-- A head's output, from its four blocks of scores and of values. -/
def headV (s0 s1 s2 s3 : FVec Ideal S512x256 .f32) (v0 v1 v2 v3 : Vec Ideal S1x256x64 .bf16) : FVec Ideal S512x64 .bf16 :=
  truncf .bf16
    (divf (aV (mV (mV (mV m0 s0) s1) s2) (aV (mV (mV m0 s0) s1) (aV (mV m0 s0) (aV m0 a0 s0 v0) s1 v1) s2 v2) s3 v3)
      (broadcastTo S512x64 (lV (mV (mV (mV m0 s0) s1) s2) (lV (mV (mV m0 s0) s1) (lV (mV m0 s0) (lV m0 l0 s0) s1) s2) s3) broadcasts_S512x1_S512x64))
    bitsLt_bf16_f32

/-- A head's output, from its queries, keys and values. -/
def outV (i : grid0.Coords) (q : Vec Ideal S1x512x64 .bf16) (k0 k1 k2 k3 v0 v1 v2 v3 : Vec Ideal S1x256x64 .bf16) : FVec Ideal S512x64 .bf16 :=
  headV (scV i 0#32 (shapeCast S512x64 q shapeCasts_S1x512x64_S512x64) k0) (scV i 256#32 (shapeCast S512x64 q shapeCasts_S1x512x64_S512x64) k1)
    (scV i 512#32 (shapeCast S512x64 q shapeCasts_S1x512x64_S512x64) k2) (scV i 768#32 (shapeCast S512x64 q shapeCasts_S1x512x64_S512x64) k3) v0 v1 v2 v3

/-- The two heads side by side. -/
def joinV (x y : FVec Ideal S512x64 .bf16) : FVec Ideal S1x512x128 .bf16 :=
  shapeCast S1x512x128 (concatenate S512x128 1 [⟨S512x64, x⟩, ⟨S512x64, y⟩] concatenates_S512x64_S512x64_S512x128_d1) shapeCasts_S512x128_S1x512x128

/-- What the body stores is the two heads' outputs. -/
theorem out_eq (i : grid0.Coords) (x0 : Vec Ideal S1x512x128 .bf16) (x1 x2 : Vec Ideal S1x1024x128 .bf16) :
    out0_3 i x0 x1 x2 = View.canon [⟨r0_10, joinV
      (outV i (View.ld x0 r0_0) (View.ld x1 r0_1) (View.ld x1 r0_2) (View.ld x1 r0_3) (View.ld x1 r0_4) (View.ld x2 r0_1) (View.ld x2 r0_2) (View.ld x2 r0_3) (View.ld x2 r0_4))
      (outV i (View.ld x0 r0_5) (View.ld x1 r0_6) (View.ld x1 r0_7) (View.ld x1 r0_8) (View.ld x1 r0_9) (View.ld x2 r0_6) (View.ld x2 r0_7) (View.ld x2 r0_8) (View.ld x2 r0_9))⟩] :=
  rfl

end Cert.Kernel5Ideal.Attn

end
-- ==== Proof.Attn.Row.lean ====
/- The attention call's steps at an index, and a head's output as the running quotient after four blocks. -/
module

public import proofs.«01_k».proof.Proof.Attn.Block

@[expose] public section

set_option maxRecDepth 16384

noncomputable section

namespace Cert.Kernel5Ideal.Attn

open Idealize.ShloMosaic Idealize.ShloMosaic.TcCoe Idealize.ShloMosaic.Tactic
open Cert.Kernel5Ideal Cert.Kernel5Ideal.Gen Cert.Proof.Attn
open scoped BigOperators

/-- Small words compare as the numbers they hold. -/
theorem cmp_le (x y : ℕ) (hx : x < 4096) (hy : y < 4096) : IntOp.cmpi .sle (BitVec.ofNat 32 x) (BitVec.ofNat 32 y) = if x ≤ y then 1#1 else 0#1 := by
  have e : ∀ z : ℕ, z < 4096 → (BitVec.ofNat 32 z).toInt = z := fun z hz => by
    rw [BitVec.toInt_ofNat', Int.bmod_def]
    omega
  simp only [IntOp.cmpi, BitVec.sle, e x hx, e y hy, Nat.cast_le]
  by_cases h : x ≤ y <;> simp [h]

/-- The mask lets a query see the keys up to its own place. -/
theorem maskV_apply (i : grid0.Coords) (a : ℕ) (ha : a < 1024) (r : Fin 512) (c : Fin 256) :
    maskV i (BitVec.ofNat 32 a) (ix2 r c) = if a + c.val ≤ 512 * (i 2).val + r.val then 1#1 else 0#1 := by
  have hi : (i 2).val < 2 := (i 2).isLt
  have e := cmp_le (a + c.val) (512 * (i 2).val + r.val) (by omega) (by omega)
  rw [BitVec.ofNat_add, BitVec.ofNat_add, BitVec.ofNat_mul, BitVec.mul_comm] at e
  refine Eq.trans ?_ e
  unfold maskV k0_pay2
  pointwise
  rfl

/-- A product of a query with a key, scaled. -/
theorem prodV_apply (q : FVec Ideal S512x64 .bf16) (k : Vec Ideal S1x256x64 .bf16) (r : Fin 512) (c : Fin 256) :
    (prodV q k : S512x256.Idx → EReal) (ix2 r c) = (∑ d : Fin 64, q (ix2 r d) * k (ix3 (0 : Fin 1) c d)) * Ideal.ofBits FTy.f32 0x3E000000#32 := by
  unfold prodV
  pointwise

/-- A masked score. -/
theorem scV_apply (i : grid0.Coords) (a : ℕ) (ha : a < 1024) (q : FVec Ideal S512x64 .bf16) (k : Vec Ideal S1x256x64 .bf16) (r : Fin 512) (c : Fin 256) :
    (scV i (BitVec.ofNat 32 a) q k : S512x256.Idx → EReal) (ix2 r c)
      = if a + c.val ≤ 512 * (i 2).val + r.val then (∑ d : Fin 64, q (ix2 r d) * k (ix3 (0 : Fin 1) c d)) * Ideal.ofBits FTy.f32 0x3E000000#32 else low := by
  have e : (scV i (BitVec.ofNat 32 a) q k : S512x256.Idx → EReal) (ix2 r c)
      = Scalar.select (maskV i (BitVec.ofNat 32 a) (ix2 r c)) ((prodV q k : S512x256.Idx → EReal) (ix2 r c)) low := rfl
  rw [e, maskV_apply i a ha, prodV_apply]
  split <;> rfl

/-- The row maxima of a block, as a column. -/
theorem max_apply (s : FVec Ideal S512x256 .f32) (r : Fin 512) :
    (shapeCast S512x1 (multiReduction .maximumf [1] S512 s 0xFF800000#32 reduces_S512x256_S512 (.inl rfl) rfl) shapeCasts_S512_S512x1 : S512x1.Idx → EReal)
      (ix2 r (0 : Fin 1)) = top fun c => s (ix2 r c) := by
  unfold top
  pointwise

/-- The greatest score after a block. -/
theorem mV_apply (m : FVec Ideal S512x1 .f32) (s : FVec Ideal S512x256 .f32) (r : Fin 512) :
    (mV m s : S512x1.Idx → EReal) (ix2 r (0 : Fin 1)) = max (m (ix2 r (0 : Fin 1))) (top fun c => s (ix2 r c)) :=
  congrArg (max _) (max_apply s r)

/-- A weight. -/
theorem pV_apply (m : FVec Ideal S512x1 .f32) (s : FVec Ideal S512x256 .f32) (r : Fin 512) (c : Fin 256) :
    (pV m s : S512x256.Idx → EReal) (ix2 r c) = Ideal.exp (s (ix2 r c) - mV m s (ix2 r (0 : Fin 1))) := by
  unfold pV
  generalize mV m s = z
  pointwise

/-- The sum of weights after a block. -/
theorem lV_apply (m l : FVec Ideal S512x1 .f32) (s : FVec Ideal S512x256 .f32) (r : Fin 512) :
    (lV m l s : S512x1.Idx → EReal) (ix2 r (0 : Fin 1))
      = l (ix2 r (0 : Fin 1)) * Ideal.exp (m (ix2 r (0 : Fin 1)) - mV m s (ix2 r (0 : Fin 1)))
        + ∑ c : Fin 256, Ideal.exp (s (ix2 r c) - mV m s (ix2 r (0 : Fin 1))) := by
  simp only [← pV_apply]
  unfold lV cV
  generalize mV m s = z
  generalize pV m s = p
  pointwise

/-- The weighted sum after a block. -/
theorem aV_apply (m : FVec Ideal S512x1 .f32) (a : FVec Ideal S512x64 .f32) (s : FVec Ideal S512x256 .f32) (v : Vec Ideal S1x256x64 .bf16) (r : Fin 512) (d : Fin 64) :
    (aV m a s v : S512x64.Idx → EReal) (ix2 r d)
      = a (ix2 r d) * Ideal.exp (m (ix2 r (0 : Fin 1)) - mV m s (ix2 r (0 : Fin 1)))
        + ∑ c : Fin 256, Ideal.exp (s (ix2 r c) - mV m s (ix2 r (0 : Fin 1))) * v (ix3 (0 : Fin 1) c d) := by
  simp only [← pV_apply]
  unfold aV cV
  generalize mV m s = z
  generalize pV m s = p
  pointwise

/-- A head's output is the running quotient after its four blocks. -/
theorem headV_apply (s : ℕ → FVec Ideal S512x256 .f32) (v : ℕ → Vec Ideal S1x256x64 .bf16) (r : Fin 512) (d : Fin 64) :
    (headV (s 0) (s 1) (s 2) (s 3) (v 0) (v 1) (v 2) (v 3) : S512x64.Idx → EReal) (ix2 r d)
      = Ideal.div (nu (fun j c => s j (ix2 r c)) (fun j c => v j (ix3 (0 : Fin 1) c d)) 4) (dn (fun j c => s j (ix2 r c)) 4) := by
  have e : (headV (s 0) (s 1) (s 2) (s 3) (v 0) (v 1) (v 2) (v 3) : S512x64.Idx → EReal) (ix2 r d)
      = Ideal.div ((aV (mV (mV (mV m0 (s 0)) (s 1)) (s 2)) (aV (mV (mV m0 (s 0)) (s 1)) (aV (mV m0 (s 0)) (aV m0 a0 (s 0) (v 0)) (s 1) (v 1)) (s 2) (v 2)) (s 3) (v 3) : S512x64.Idx → EReal) (ix2 r d))
        ((lV (mV (mV (mV m0 (s 0)) (s 1)) (s 2)) (lV (mV (mV m0 (s 0)) (s 1)) (lV (mV m0 (s 0)) (lV m0 l0 (s 0)) (s 1)) (s 2)) (s 3) : S512x1.Idx → EReal) (ix2 r (0 : Fin 1))) := by
    unfold headV
    generalize aV _ _ _ _ = a
    generalize lV _ _ _ = l
    pointwise
  have hm : (m0 : S512x1.Idx → EReal) (ix2 r (0 : Fin 1)) = low := rfl
  have hl : (l0 : S512x1.Idx → EReal) (ix2 r (0 : Fin 1)) = 0 := by show Ideal.ofBits FTy.f32 0#32 = 0; simp [Ideal.ofBits, Ideal.ieee]
  have ha : (a0 : S512x64.Idx → EReal) (ix2 r d) = 0 := hl
  rw [e]
  simp only [aV_apply, lV_apply, mV_apply, hm, hl, ha, nu, dn, mx]

/-- The two heads side by side, read at a lane. -/
theorem joinV_apply (x y : FVec Ideal S512x64 .bf16) (r : Fin 512) (n : Fin 128) :
    (joinV x y : S1x512x128.Idx → EReal) (ix3 (0 : Fin 1) r n)
      = if h : n.val < 64 then (x : S512x64.Idx → EReal) (ix2 r ⟨n.val, h⟩) else (y : S512x64.Idx → EReal) (ix2 r ⟨n.val - 64, by omega⟩) := by
  unfold joinV
  pointwise

end Cert.Kernel5Ideal.Attn

end
-- ==== Proof.Attn.Value.lean ====
/- The attention call: the array it leaves. -/
module

public import proofs.«01_k».proof.Proof.Attn.Row

@[expose] public section

set_option maxRecDepth 16384

noncomputable section

namespace Cert.Kernel5Ideal.Attn

open Idealize.ShloMosaic Idealize.ShloMosaic.TcCoe Idealize.ShloMosaic.Tactic
open Idealize.SL Idealize.SL.Sem
open Idealize.ShloMosaic.Pipeline
open Cert.Kernel5Ideal Cert.Kernel5Ideal.Gen Cert.Proof.Attn
open scoped BigOperators

variable (m : (ℓ : Loc nD τ sig) → Buf (Elt Ideal) ℓ) (ρ : Dev nD → PrngReg)

/-- Lane `d` of the head that lane `n` is in. -/
def hd (n : Fin 1024) (d : Fin 64) : Fin 1024 := ⟨64 * (n.val / 64) + d.val, by omega⟩

/-- The masked score of query `t` and key `s` in the head of lane `n`. -/
def score (q k : S2x1024x1024.Idx → EReal) (b : Fin 2) (t n s : Fin 1024) : EReal :=
  if s.val ≤ t.val then (∑ d : Fin 64, q (ix3 b t (hd n d)) * k (ix3 b s (hd n d))) * Ideal.ofBits FTy.f32 0x3E000000#32 else low

/-- The running quotient after all four blocks of keys. -/
def run (q k v : S2x1024x1024.Idx → EReal) (b : Fin 2) (t n : Fin 1024) : EReal :=
  Ideal.div (nu (fun j c => score q k b t n (key j c)) (fun j c => v (ix3 b (key j c) n)) 4) (dn (fun j c => score q k b t n (key j c)) 4)

/-- A point's row of queries, of its batch element and pair of heads. -/
theorem index0 : ∀ t : Fin cfg0.N, win0_0.index t = ![t.val / 16, t.val % 2, t.val / 2 % 8] := (by decide +kernel : ∀ t : Fin grid0.N, win0_0.index t = ![t.val / 16, t.val % 2, t.val / 2 % 8])
/-- The keys of a batch element and a pair of heads come whole. -/
theorem index1 : ∀ t : Fin cfg0.N, win0_1.index t = ![t.val / 16, 0, t.val / 2 % 8] := (by decide +kernel : ∀ t : Fin grid0.N, win0_1.index t = ![t.val / 16, 0, t.val / 2 % 8])
/-- So do the values. -/
theorem index2 : ∀ t : Fin cfg0.N, win0_2.index t = ![t.val / 16, 0, t.val / 2 % 8] := (by decide +kernel : ∀ t : Fin grid0.N, win0_2.index t = ![t.val / 16, 0, t.val / 2 % 8])
/-- The output leaves in the blocks of the queries. -/
theorem index3 : ∀ t : Fin cfg0.N, win0_3.index t = ![t.val / 16, t.val % 2, t.val / 2 % 8] := (by decide +kernel : ∀ t : Fin grid0.N, win0_3.index t = ![t.val / 16, t.val % 2, t.val / 2 % 8])
/-- The half of the queries a point is at, as the body reads it. -/
theorem half : ∀ t : Fin cfg0.N, (grid0.coords t 2).val = t.val % 2 := (by decide +kernel : ∀ t : Fin grid0.N, (grid0.coords t 2).val = t.val % 2)

/-- A point's batch element. -/
def bat (t : Fin cfg0.N) : Fin 2 := ⟨t.val / 16, by have h : t.val < 32 := lt_of_lt_of_eq t.isLt N_0; omega⟩
/-- The query of a row of a point's block. -/
def row (t : Fin cfg0.N) (r : Fin 512) : Fin 1024 := ⟨512 * (t.val % 2) + r.val, by omega⟩
/-- The lane of the array that a lane of a point's block is. -/
def lane (t : Fin cfg0.N) (n : Fin 128) : Fin 1024 := ⟨128 * (t.val / 2 % 8) + n.val, by omega⟩

/-- The block of queries. -/
theorem blk0 (c : Dev nD) (t : Fin cfg0.N) (r : Fin 512) (n : Fin 128) :
    (iblk m c 0 t : S1x512x128.Idx → EReal) (ix3 (0 : Fin 1) r n) = m ((c.tc : Thread nD τ).loc main_arg0) (ix3 (bat t) (row t r) (lane t n)) := by
  blk_simp [iblk]
  refine (congrFun (V_main_arg0 m c) _).trans (congrArg (m ((c.tc : Thread nD τ).loc main_arg0)) ?_)
  blk_ext [index0, row, bat, lane]
/-- The block of keys. -/
theorem blk1 (c : Dev nD) (t : Fin cfg0.N) (s : Fin 1024) (n : Fin 128) :
    (iblk m c 1 t : S1x1024x128.Idx → EReal) (ix3 (0 : Fin 1) s n) = m ((c.tc : Thread nD τ).loc main_arg1) (ix3 (bat t) s (lane t n)) := by
  blk_simp [iblk]
  refine (congrFun (V_main_arg1 m c) _).trans (congrArg (m ((c.tc : Thread nD τ).loc main_arg1)) ?_)
  blk_ext [index1, bat, lane]
/-- The block of values. -/
theorem blk2 (c : Dev nD) (t : Fin cfg0.N) (s : Fin 1024) (n : Fin 128) :
    (iblk m c 2 t : S1x1024x128.Idx → EReal) (ix3 (0 : Fin 1) s n) = m ((c.tc : Thread nD τ).loc main_arg2) (ix3 (bat t) s (lane t n)) := by
  blk_simp [iblk]
  refine (congrFun (V_main_arg2 m c) _).trans (congrArg (m ((c.tc : Thread nD τ).loc main_arg2)) ?_)
  blk_ext [index2, bat, lane]

/-- Lane `d` of a block's head `e`. -/
def hl (e : Fin 2) (d : Fin 64) : Fin 128 := ⟨64 * e.val + d.val, by omega⟩

/-- A head's block of keys or values. -/
def part (x : Vec Ideal S1x1024x128 .bf16) (e : Fin 2) (j : ℕ) : Vec Ideal S1x256x64 .bf16 :=
  fun y : S1x256x64.Idx => x (ix3 (0 : Fin 1) (key j (y 1)) (hl e (y 2)))

/-- A head's queries. -/
def quer (x : Vec Ideal S1x512x128 .bf16) (e : Fin 2) : Vec Ideal S1x512x64 .bf16 :=
  fun y : S1x512x64.Idx => x (ix3 (0 : Fin 1) (y 1) (hl e (y 2)))

/-- What is loaded from the keys or the values is such a block. -/
theorem ld_part (x : Vec Ideal S1x1024x128 .bf16) (e : Fin 2) (j : ℕ) (off : Fin 3 → ℕ) (h : _) (ho : off = ![0, 256 * j % 1024, 64 * e.val]) :
    View.ld x (Rect.unit (s := S1x1024x128) off S1x256x64.size h) = part x e j := by
  subst ho
  funext (y : S1x256x64.Idx)
  idx_vars y
  refine congrArg x (funext fun a => Fin.ext ?_)
  have h1 := y1.isLt
  refine (Rect.idx_unit_val ..).trans ?_
  fin_cases a
  · show 0 + y0.val = 0
    omega
  · show 256 * j % 1024 + y1.val = (256 * j + y1.val) % 1024
    omega
  · rfl

/-- What is loaded from the queries is a head's. -/
theorem ld_quer (x : Vec Ideal S1x512x128 .bf16) (e : Fin 2) (off : Fin 3 → ℕ) (h : _) (ho : off = ![0, 0, 64 * e.val]) :
    View.ld x (Rect.unit (s := S1x512x128) off S1x512x64.size h) = quer x e := by
  subst ho
  funext (y : S1x512x64.Idx)
  idx_vars y
  refine congrArg x (funext fun a => Fin.ext ?_)
  refine (Rect.idx_unit_val ..).trans ?_
  fin_cases a
  · show 0 + y0.val = 0
    omega
  · show 0 + y1.val = y1.val
    omega
  · rfl

/-- Both heads, with their loads read. -/
theorem out_eq' (i : grid0.Coords) (x0 : Vec Ideal S1x512x128 .bf16) (x1 x2 : Vec Ideal S1x1024x128 .bf16) :
    out0_3 i x0 x1 x2 = joinV
      (outV i (quer x0 0) (part x1 0 0) (part x1 0 1) (part x1 0 2) (part x1 0 3) (part x2 0 0) (part x2 0 1) (part x2 0 2) (part x2 0 3))
      (outV i (quer x0 1) (part x1 1 0) (part x1 1 1) (part x1 1 2) (part x1 1 3) (part x2 1 0) (part x2 1 1) (part x2 1 2) (part x2 1 3)) := by
  rw [out_eq, View.canon_cons_unit_lit _ _ _ (by decide)]
  rw [show View.ld x0 r0_0 = quer x0 0 from ld_quer x0 0 _ _ rfl]
  rw [show View.ld x1 r0_1 = part x1 0 0 from ld_part x1 0 0 _ _ rfl]
  rw [show View.ld x1 r0_2 = part x1 0 1 from ld_part x1 0 1 _ _ rfl]
  rw [show View.ld x1 r0_3 = part x1 0 2 from ld_part x1 0 2 _ _ rfl]
  rw [show View.ld x1 r0_4 = part x1 0 3 from ld_part x1 0 3 _ _ rfl]
  rw [show View.ld x2 r0_1 = part x2 0 0 from ld_part x2 0 0 _ _ rfl]
  rw [show View.ld x2 r0_2 = part x2 0 1 from ld_part x2 0 1 _ _ rfl]
  rw [show View.ld x2 r0_3 = part x2 0 2 from ld_part x2 0 2 _ _ rfl]
  rw [show View.ld x2 r0_4 = part x2 0 3 from ld_part x2 0 3 _ _ rfl]
  rw [show View.ld x0 r0_5 = quer x0 1 from ld_quer x0 1 _ _ rfl]
  rw [show View.ld x1 r0_6 = part x1 1 0 from ld_part x1 1 0 _ _ rfl]
  rw [show View.ld x1 r0_7 = part x1 1 1 from ld_part x1 1 1 _ _ rfl]
  rw [show View.ld x1 r0_8 = part x1 1 2 from ld_part x1 1 2 _ _ rfl]
  rw [show View.ld x1 r0_9 = part x1 1 3 from ld_part x1 1 3 _ _ rfl]
  rw [show View.ld x2 r0_6 = part x2 1 0 from ld_part x2 1 0 _ _ rfl]
  rw [show View.ld x2 r0_7 = part x2 1 1 from ld_part x2 1 1 _ _ rfl]
  rw [show View.ld x2 r0_8 = part x2 1 2 from ld_part x2 1 2 _ _ rfl]
  rw [show View.ld x2 r0_9 = part x2 1 3 from ld_part x2 1 3 _ _ rfl]

/-- The queries without their unit axis. -/
theorem cast_apply (x : Vec Ideal S1x512x64 .bf16) (r : Fin 512) (d : Fin 64) :
    (shapeCast S512x64 x shapeCasts_S1x512x64_S512x64 : S512x64.Idx → EReal) (ix2 r d) = x (ix3 (0 : Fin 1) r d) := by
  pointwise

/-- A point's output in one head. -/
theorem outV_apply (c : Dev nD) (t : Fin cfg0.N) (e : Fin 2) (r : Fin 512) (d : Fin 64) :
    (outV (grid0.coords t) (quer (iblk m c 0 t) e) (part (iblk m c 1 t) e 0) (part (iblk m c 1 t) e 1) (part (iblk m c 1 t) e 2) (part (iblk m c 1 t) e 3)
        (part (iblk m c 2 t) e 0) (part (iblk m c 2 t) e 1) (part (iblk m c 2 t) e 2) (part (iblk m c 2 t) e 3) : S512x64.Idx → EReal) (ix2 r d)
      = run (m ((c.tc : Thread nD τ).loc main_arg0)) (m ((c.tc : Thread nD τ).loc main_arg1)) (m ((c.tc : Thread nD τ).loc main_arg2)) (bat t) (row t r) (lane t (hl e d)) := by
  refine (headV_apply (fun j => scV (grid0.coords t) (BitVec.ofNat 32 (256 * j % 1024)) (shapeCast S512x64 (quer (iblk m c 0 t) e) shapeCasts_S1x512x64_S512x64)
    (part (iblk m c 1 t) e j)) (part (iblk m c 2 t) e) r d).trans ?_
  unfold run
  have hs : (fun (j : ℕ) (x : Fin 256) => (scV (grid0.coords t) (BitVec.ofNat 32 (256 * j % 1024)) (shapeCast S512x64 (quer (iblk m c 0 t) e) shapeCasts_S1x512x64_S512x64)
      (part (iblk m c 1 t) e j) : S512x256.Idx → EReal) (ix2 r x))
      = fun j x => score (m ((c.tc : Thread nD τ).loc main_arg0)) (m ((c.tc : Thread nD τ).loc main_arg1)) (bat t) (row t r) (lane t (hl e d)) (key j x) := by
    funext j x
    rw [scV_apply _ _ (Nat.mod_lt _ (by decide)), half]
    have hk : 256 * j % 1024 + x.val = (key j x).val := by
      show 256 * j % 1024 + x.val = (256 * j + x.val) % 1024
      omega
    have hh : ∀ d' : Fin 64, lane t (hl e d') = hd (lane t (hl e d)) d' := fun d' => Fin.ext (by
      show 128 * (t.val / 2 % 8) + (64 * e.val + d'.val) = 64 * ((128 * (t.val / 2 % 8) + (64 * e.val + d.val)) / 64) + d'.val
      omega)
    rw [hk]
    unfold score
    refine if_congr Iff.rfl (congrArg (· * _) (Finset.sum_congr rfl fun d' _ => ?_)) rfl
    rw [cast_apply, ← hh d']
    exact congrArg₂ (· * ·) (blk0 m c t r (hl e d')) (blk1 m c t (key j x) (hl e d'))
  have hv : (fun (j : ℕ) (x : Fin 256) => (part (iblk m c 2 t) e j : S1x256x64.Idx → EReal) (ix3 (0 : Fin 1) x d))
      = fun j x => (m ((c.tc : Thread nD τ).loc main_arg2) : S2x1024x1024.Idx → EReal) (ix3 (bat t) (key j x) (lane t (hl e d))) :=
    funext fun j => funext fun x => blk2 m c t (key j x) (hl e d)
  rw [hs, hv]

/-- The result array. -/
def result (c : Dev nD) : S2x1024x1024.Idx → EReal := fun y =>
  run (m ((c.tc : Thread nD τ).loc main_arg0)) (m ((c.tc : Thread nD τ).loc main_arg1)) (m ((c.tc : Thread nD τ).loc main_arg2)) (y 0) (y 1) (y 2)

/-- What a point writes. -/
theorem after_apply (c : Dev nD) (t : Fin cfg0.N) (r : Fin 512) (n : Fin 128) :
    ((dats m 0 c).after 3 t : S1x512x128.Idx → EReal) (ix3 (0 : Fin 1) r n) = result m c (ix3 (bat t) (row t r) (lane t n)) := by
  rw [after0_3, out_eq']
  refine (joinV_apply _ _ r n).trans ?_
  split
  · next h =>
    refine (outV_apply m c t 0 r _).trans (congrArg (run _ _ _ _ _) (congrArg (lane t) (Fin.ext ?_)))
    show 64 * 0 + n.val = n.val
    omega
  · next h =>
    refine (outV_apply m c t 1 r _).trans (congrArg (run _ _ _ _ _) (congrArg (lane t) (Fin.ext ?_)))
    show 64 * 1 + (n.val - 64) = n.val
    omega

/-- The output array at the end. -/
theorem final (c : Dev nD) : (dats m 0 c).arrAt 3 cfg0.N = result m c := by
  refine (dats m 0 c).arrAt_eq_of_covers 3 _ (by decide +kernel) fun t hf (y : S1x512x128.Idx) => ?_
  blk_simp
  idx_vars y
  fin_cases y0
  refine (after_apply m c t y1 y2).trans (congrArg (result m c) ?_)
  blk_ext [index3, row, bat, lane]

end Cert.Kernel5Ideal.Attn

end
-- ==== Proof.Attn.Ref.lean ====
/- The attention call's reference at an index: masked scores, softmax over the keys, the weighted sum of the values. -/
module

public import proofs.«01_k».proof.Proof.Attn.Value
public import proofs.«01_k».proof.Proof.Gen.Reference5Ideal.Run

@[expose] public section

noncomputable section

namespace Cert.Proof.Attn

open Idealize.ShloMosaic Idealize.SL.Sem Idealize.ShloMosaic.Tactic
open Cert.Reference5Ideal Cert.Reference5Ideal.Gen
open Cert.Kernel5Ideal.Attn (hd score)
open scoped BigOperators

variable (q k v : S2x1024x1024.Idx → EReal)

/-- An array by heads. -/
def heads (z : S2x1024x1024.Idx → EReal) : FVec Ideal S2x1024x16x64 .f32 :=
  shapeCast S2x1024x16x64 (extf (F := Ideal) (φ := .bf16) .f32 z bitsLt_bf16_f32) shapeCasts_S2x1024x1024_S2x1024x16x64

/-- Lane `d` of head `e`. -/
def ln (e : Fin 16) (d : Fin 64) : Fin 1024 := ⟨64 * e.val + d.val, by omega⟩

/-- An array by heads, at an index. -/
theorem heads_apply (z : S2x1024x1024.Idx → EReal) (b : Fin 2) (t : Fin 1024) (e : Fin 16) (d : Fin 64) :
    (heads z : S2x1024x16x64.Idx → EReal) (ix4 b t e d) = z (ix3 b t (ln e d)) :=
  shapeCast_apply _ _ _ (ix3 b t (ln e d)) (by
    rw [Shape.rowMajor_val_four, Shape.rowMajor_val_three]
    show (b.val * 1024 + t.val) * 1024 + (64 * e.val + d.val) = ((b.val * 1024 + t.val) * 16 + e.val) * 64 + d.val
    omega)

/-- The triangle of ones. -/
def tril : IVec S1024x1024 1 :=
  select (cmpi .sge (addi (iotaInDim S1024x1024 32 0) (broadcastInDim S1024x1024 ![] bcast_S_S1024x1024 (constantI S_ 32 0#32))) (iotaInDim S1024x1024 32 1))
    (broadcastInDim S1024x1024 ![] bcast_S_S1024x1024 (constantI S_ 1 1#1)) (broadcastInDim S1024x1024 ![] bcast_S_S1024x1024 (constantI S_ 1 0#1))

/-- Its words. -/
theorem tril_apply (t s : Fin 1024) : tril (ix2 t s) = if s.val ≤ t.val then 1#1 else 0#1 := by
  have e := Cert.Kernel5Ideal.Attn.cmp_le s.val t.val (by omega) (by omega)
  unfold tril
  pointwise
  have e' : IntOp.cmpi .sge (IntOp.addi (BitVec.ofNat 32 t.val) 0#32) (BitVec.ofNat 32 s.val) = if s.val ≤ t.val then 1#1 else 0#1 := by
    rw [← e]
    simp [IntOp.cmpi, IntOp.addi, BitVec.sle]
  rw [e']
  split <;> rfl

/-- The scaled products. -/
def prodR : FVec Ideal S2x16x1024x1024 .f32 :=
  Host.divf (Host.dotGeneral (F := Ideal) (φ₁ := .f32) (φ₂ := .f32) dot_S2x1024x16x64_S2x1024x16x64_S2x16x1024x1024_3_3_1_1_02_02 none (heads q) (heads k))
    (broadcastInDim S2x16x1024x1024 ![] bcast_S_S2x16x1024x1024 (Host.sqrt (constant (F := Ideal) S_ .f32 0x42800000#32)))

/-- The masked scores. -/
def scR : FVec Ideal S2x16x1024x1024 .f32 :=
  select (broadcastInDim S2x16x1024x1024 ![0, 1, 2, 3] bcast_S1x1x1024x1024_S2x16x1024x1024_0_1_2_3 (broadcastInDim S1x1x1024x1024 ![2, 3] bcast_S1024x1024_S1x1x1024x1024_2_3 tril))
    (prodR q k) (broadcastInDim S2x16x1024x1024 ![] bcast_S_S2x16x1024x1024 (constant (F := Ideal) S_ .f32 0xF149F2CA#32))

/-- A column over the keys. -/
def over (z : FVec Ideal S2x16x1024 .f32) : FVec Ideal S2x16x1024x1024 .f32 :=
  broadcastInDim S2x16x1024x1024 ![0, 1, 2, 3] bcast_S2x16x1024x1_S2x16x1024x1024_0_1_2_3 (broadcastInDim S2x16x1024x1 ![0, 1, 2] bcast_S2x16x1024_S2x16x1024x1_0_1_2 z)

/-- The greatest score of each query, folded from minus infinity. -/
def foldR (s : FVec Ideal S2x16x1024x1024 .f32) : FVec Ideal S2x16x1024 .f32 :=
  Host.reduce FloatOps.maximumf s (constant (F := Ideal) S_ .f32 0xFF800000#32) reducesTo_S2x16x1024x1024_S2x16x1024_d3 h_S_

/-- Minus infinity everywhere. -/
def botR : FVec Ideal S2x16x1024 .f32 := broadcastInDim S2x16x1024 ![] bcast_S_S2x16x1024 (constant (F := Ideal) S_ .f32 0xFF800000#32)

/-- The greatest score of each query. -/
def maxR (s : FVec Ideal S2x16x1024x1024 .f32) : FVec Ideal S2x16x1024 .f32 := maximumf botR (foldR s)

/-- The weights before they are divided by their sum. -/
def expR (s : FVec Ideal S2x16x1024x1024 .f32) : FVec Ideal S2x16x1024x1024 .f32 := Host.exp (subf s (over (maxR s)))

/-- The weights. -/
def softR (p : FVec Ideal S2x16x1024x1024 .f32) : FVec Ideal S2x16x1024x1024 .f32 :=
  Host.divf p (over (Host.reduceAdd p (constant (F := Ideal) S_ .f32 0x00000000#32) reducesTo_S2x16x1024x1024_S2x16x1024_d3 h_S_))

/-- The weighted sums of the values. -/
def mixR (w : FVec Ideal S2x16x1024x1024 .f32) : FVec Ideal S2x16x64x1024 .f32 :=
  Host.dotGeneral (F := Ideal) (φ₁ := .f32) (φ₂ := .f32) dot_S2x1024x16x64_S2x16x1024x1024_S2x16x64x1024_1_3_3_2_02_01 none (heads v) w

/-- Back to rows. -/
def rowsR (z : FVec Ideal S2x16x64x1024 .f32) : S2x1024x1024.Idx → EReal :=
  shapeCast S2x1024x1024 (transpose S2x1024x16x64 [0, 3, 1, 2] z transposes_S2x16x64x1024_S2x1024x16x64_0_3_1_2) shapeCasts_S2x1024x16x64_S2x1024x1024

/-- The reference's result is these steps. -/
theorem res_eq (m : (ℓ : Loc nD τ sig) → Buf (Elt Ideal) ℓ) (c : Dev nD) :
    Cert.Reference5Ideal.Value.res_main_v28 m c = rowsR (mixR (m ((c.tc : Thread nD τ).loc main_arg2))
      (softR (expR (scR (m ((c.tc : Thread nD τ).loc main_arg0)) (m ((c.tc : Thread nD τ).loc main_arg1)))))) := rfl

/-- Dividing by the square root of 64 is multiplying by an eighth. -/
theorem div_eight (x : EReal) : Ideal.div x (Ideal.sqrt (Ideal.ofBits FTy.f32 0x42800000#32)) = x * Ideal.ofBits FTy.f32 0x3E000000#32 := by
  have h1 : Ideal.ofBits FTy.f32 0x42800000#32 = ((64 : ℝ) : EReal) := by
    simp [Ideal.ofBits, Ideal.ieee]
    rw [← EReal.coe_mul]
    norm_num
  have h2 : Ideal.ofBits FTy.f32 0x3E000000#32 = ((1 / 8 : ℝ) : EReal) := by
    simp [Ideal.ofBits, Ideal.ieee]
    rw [← EReal.coe_mul]
    norm_num
  have h3 : Ideal.sqrt ((64 : ℝ) : EReal) = ((8 : ℝ) : EReal) := by
    show (if (64 : ℝ) < 0 then (⊥ : EReal) else (Real.sqrt 64 : EReal)) = _
    rw [if_neg (by norm_num), show (64 : ℝ) = 8 ^ 2 by norm_num, Real.sqrt_sq (by norm_num)]
  rw [h1, h2, h3]
  unfold Ideal.div
  rw [if_neg (by exact_mod_cast (by norm_num : (8 : ℝ) ≠ 0)), ← EReal.coe_inv]
  norm_num

/-- The scaled products at an index. -/
theorem prodR_apply (b : Fin 2) (e : Fin 16) (t s : Fin 1024) : (prodR q k : S2x16x1024x1024.Idx → EReal) (ix4 b e t s)
    = (∑ d : Fin 64, q (ix3 b t (ln e d)) * k (ix3 b s (ln e d))) * Ideal.ofBits FTy.f32 0x3E000000#32 := by
  rw [← div_eight]
  simp only [← heads_apply]
  unfold prodR
  generalize heads q = x
  generalize heads k = y
  pointwise

/-- The masked scores at an index. -/
theorem scR_apply (b : Fin 2) (e : Fin 16) (t s : Fin 1024) (d : Fin 64) : (scR q k : S2x16x1024x1024.Idx → EReal) (ix4 b e t s) = score q k b t (ln e d) s := by
  have h : (scR q k : S2x16x1024x1024.Idx → EReal) (ix4 b e t s) = Scalar.select (tril (ix2 t s)) ((prodR q k : S2x16x1024x1024.Idx → EReal) (ix4 b e t s)) low := by
    unfold scR
    generalize tril = a
    generalize prodR q k = z
    pointwise
    rfl
  have hl : ∀ d' : Fin 64, hd (ln e d) d' = ln e d' := fun d' => Fin.ext (by
    show 64 * ((64 * e.val + d.val) / 64) + d'.val = 64 * e.val + d'.val
    omega)
  rw [h, tril_apply, prodR_apply]
  unfold score
  simp only [hl]
  split <;> rfl

/-- The fold at an index. -/
theorem foldR_apply (s : FVec Ideal S2x16x1024x1024 .f32) (b : Fin 2) (e : Fin 16) (t : Fin 1024) :
    (foldR s : S2x16x1024.Idx → EReal) (ix3 b e t) = top fun x : Fin 1024 => s (ix4 b e t x) := by
  unfold foldR top
  pointwise

/-- Minus infinity at an index. -/
theorem botR_apply (j : S2x16x1024.Idx) : (botR : S2x16x1024.Idx → EReal) j = ⊥ := by
  unfold botR
  rw [← bits_bot]
  pointwise

/-- A maximum with minus infinity is the other array. -/
theorem maximumf_of_bot (z y : FVec Ideal S2x16x1024 .f32) (i : S2x16x1024.Idx) (hz : z i = (⊥ : EReal)) : maximumf z y i = y i := by
  have e : maximumf z y i = (max (z i : EReal) (y i) : EReal) := rfl
  rw [e, hz]
  exact max_eq_right bot_le

/-- The greatest score at an index. -/
theorem maxR_apply (s : FVec Ideal S2x16x1024x1024 .f32) (b : Fin 2) (e : Fin 16) (t : Fin 1024) :
    (maxR s : S2x16x1024.Idx → EReal) (ix3 b e t) = top fun x : Fin 1024 => s (ix4 b e t x) :=
  (maximumf_of_bot _ _ _ (botR_apply _)).trans (foldR_apply s b e t)

/-- A weight before the division, at an index. -/
theorem expR_apply (s : FVec Ideal S2x16x1024x1024 .f32) (b : Fin 2) (e : Fin 16) (t x : Fin 1024) :
    (expR s : S2x16x1024x1024.Idx → EReal) (ix4 b e t x) = Ideal.exp (s (ix4 b e t x) - top fun y : Fin 1024 => s (ix4 b e t y)) := by
  rw [← maxR_apply]
  unfold expR over
  generalize maxR s = z
  pointwise

/-- A weight at an index. -/
theorem softR_apply (p : FVec Ideal S2x16x1024x1024 .f32) (b : Fin 2) (e : Fin 16) (t x : Fin 1024) :
    (softR p : S2x16x1024x1024.Idx → EReal) (ix4 b e t x) = Ideal.div (p (ix4 b e t x)) (∑ y : Fin 1024, p (ix4 b e t y)) := by
  unfold softR over
  pointwise

/-- A weighted sum at an index. -/
theorem mixR_apply (w : FVec Ideal S2x16x1024x1024 .f32) (b : Fin 2) (t : Fin 1024) (e : Fin 16) (d : Fin 64) :
    (mixR v w : S2x16x64x1024.Idx → EReal) (ix4 b e d t) = ∑ s : Fin 1024, v (ix3 b s (ln e d)) * w (ix4 b e t s) := by
  simp only [← heads_apply]
  unfold mixR
  generalize heads v = z
  pointwise

/-- The rows at a lane of a head. -/
theorem rowsR_apply (z : FVec Ideal S2x16x64x1024 .f32) (b : Fin 2) (t : Fin 1024) (e : Fin 16) (d : Fin 64) :
    rowsR z (ix3 b t (ln e d)) = (z : S2x16x64x1024.Idx → EReal) (ix4 b e d t) := by
  unfold rowsR
  refine (shapeCast_apply _ _ _ (ix4 b t e d) (by
    rw [Shape.rowMajor_val_four, Shape.rowMajor_val_three]
    show ((b.val * 1024 + t.val) * 16 + e.val) * 64 + d.val = (b.val * 1024 + t.val) * 1024 + (64 * e.val + d.val)
    omega)).trans ?_
  exact transpose_apply _ _ _ _ (ix4 b e d t) (fun a => by fin_cases a <;> rfl)

end Cert.Proof.Attn

end
-- ==== Proof.Attn.Agree.lean ====
/- The attention call: the running quotient is the reference's softmax when queries and keys are real, and the value claim. -/
module

public import proofs.«01_k».proof.Defs
public import proofs.«01_k».proof.Proof.Attn.Pre
public import proofs.«01_k».proof.Proof.Attn.Ref

@[expose] public section

noncomputable section

namespace Cert.Proof.Attn

open Idealize.ShloMosaic Idealize.SL.Sem Idealize.ShloMosaic.Tactic
open Cert.Reference5Ideal Cert.Reference5Ideal.Gen
open Cert.Kernel5Ideal.Attn (hd score)
open Cert.Lru (Fine sum_coe)
open scoped BigOperators

variable (q k v : S2x1024x1024.Idx → EReal)

/-- The reference's result at an index: softmax of the masked scores, weighing the values. -/
theorem ref_apply (b : Fin 2) (t n : Fin 1024) :
    rowsR (mixR v (softR (expR (scR q k)))) (ix3 b t n)
      = ∑ s : Fin 1024, v (ix3 b s n) * Ideal.div (Ideal.exp (score q k b t n s - top (score q k b t n)))
          (∑ x : Fin 1024, Ideal.exp (score q k b t n x - top (score q k b t n))) := by
  have hn : n = ln ⟨n.val / 64, by omega⟩ ⟨n.val % 64, by omega⟩ := Fin.ext (by
    show n.val = 64 * (n.val / 64) + n.val % 64
    omega)
  have hs : ∀ x, (scR q k : S2x16x1024x1024.Idx → EReal) (ix4 b ⟨n.val / 64, by omega⟩ t x) = score q k b t n x := fun x =>
    (scR_apply q k b ⟨n.val / 64, by omega⟩ t x ⟨n.val % 64, by omega⟩).trans (congrArg (fun z => score q k b t z x) hn.symm)
  have hp : ∀ x, (expR (scR q k) : S2x16x1024x1024.Idx → EReal) (ix4 b ⟨n.val / 64, by omega⟩ t x)
      = Ideal.exp (score q k b t n x - top (score q k b t n)) := fun x => by
    rw [expR_apply]
    simp only [hs]
  have e := (rowsR_apply (mixR v (softR (expR (scR q k)))) b t ⟨n.val / 64, by omega⟩ ⟨n.val % 64, by omega⟩).trans (mixR_apply v _ b t _ _)
  rw [← hn] at e
  rw [e]
  exact Finset.sum_congr rfl fun s _ => by rw [softR_apply]; simp only [hp]

/-- Scores of real queries and keys are real. -/
theorem score_real (hq : ∀ i, Fine (q i)) (hk : ∀ i, Fine (k i)) (b : Fin 2) (t n s : Fin 1024) : ∃ x : ℝ, score q k b t n s = (x : EReal) := by
  unfold score
  split
  · have h2 : Ideal.ofBits FTy.f32 0x3E000000#32 = ((1 / 8 : ℝ) : EReal) := by
      simp [Ideal.ofBits, Ideal.ieee]
      rw [← EReal.coe_mul]
      norm_num
    refine ⟨(∑ d : Fin 64, (q (ix3 b t (hd n d))).toReal * (k (ix3 b s (hd n d))).toReal) * (1 / 8), ?_⟩
    rw [h2, EReal.coe_mul, ← sum_coe]
    refine congrArg (· * _) (Finset.sum_congr rfl fun d _ => ?_)
    rw [EReal.coe_mul, (hq _).coe, (hk _).coe]
  · exact low_real

/-- The kernel's running quotient is the reference's result. -/
theorem run_eq (hq : ∀ i, Fine (q i)) (hk : ∀ i, Fine (k i)) (b : Fin 2) (t n : Fin 1024) :
    rowsR (mixR v (softR (expR (scR q k)))) (ix3 b t n) = Cert.Kernel5Ideal.Attn.run q k v b t n := by
  rw [ref_apply]
  choose σ hσ using score_real q k hq hk b t n
  obtain ⟨M, hM⟩ := top_real σ
  have hs : score q k b t n = fun s => (σ s : EReal) := funext hσ
  unfold Cert.Kernel5Ideal.Attn.run
  rw [hs, hM]
  exact (online σ (fun s => v (ix3 b s n)) M).symm

/-- The reference's arguments end unchanged and its semaphores, of which it has none, at zero. -/
theorem ref_quiescent : Cert.quiescent_Reference5Ideal (hReference5Ideal := Cert.Reference5Ideal.Gen.facts) := fun m ρ _ =>
  (θ_run _ _ _).mono (fun r h => ⟨fun c => (h c).2, sem_eq_zero_of_no_sems (by decide) r.2⟩) (Cert.Reference5Ideal.Value.run m ρ)

/-- The value claim of the attention call. -/
theorem value [Cert.Pre_finite5.Facts] : Cert.algebraic_Kernel5Ideal_Reference5Ideal_pre_finite5 (hKernel5Ideal := Cert.Kernel5Ideal.Gen.facts) (hReference5Ideal := Cert.Reference5Ideal.Gen.facts) := by
  intro m g m' g' hp ha
  refine ⟨fun c => Cert.Kernel5Ideal.Attn.result m c, ?_, ?_⟩
  · exact (θ_run _ _ _).mono (fun r h c => ⟨(h c).1.trans (Cert.Kernel5Ideal.Attn.final m c), (h c).2⟩) (Cert.Kernel5Ideal.Value.run_blocks m g)
  · refine (θ_run _ _ _).mono (fun r h c => ⟨(h c).1.trans ((res_eq m' c).trans (?_ : _)), (h c).2⟩) (Cert.Reference5Ideal.Value.run m' g')
    obtain ⟨fq, fk⟩ := Cert.Pre_finite5.fine _ _ _ (hp c)
    rw [(ha c).1, (ha c).2.1, (ha c).2.2]
    refine funext fun (y : S2x1024x1024.Idx) => ?_
    idx_vars y
    exact run_eq _ _ _ fq fk y0 y1 y2

end Cert.Proof.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Lru.Word.Frame
public import proofs.«01_k».proof.Proof.Lru.Agree
public import proofs.«01_k».proof.Proof.Out.Agree
public import proofs.«01_k».proof.Proof.Mid.Agree
public import proofs.«01_k».proof.Proof.Qkv.Agree
public import proofs.«01_k».proof.Proof.Attn.Agree
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  haveI : Cert.Pre_finite.Facts := Cert.Pre_finite.facts
  haveI : Cert.Pre_finite5.Facts := Cert.Pre_finite5.facts
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
    Cert.Pre_finite.facts, Cert.Pre_finite5.facts,
    fun m g _ => Cert.Kernel.Lru.frame m g,
    fun m g _ => Cert.KernelIdeal.Lru.frame m g,
    fun m g _ => Cert.KernelIdeal.Lru.frame m g,
    fun m g _ => ref_quiescent m g,
    fun m g _ => ref_quiescent m g,
    fun m g _ => Cert.Kernel2.Gen.frame m g,
    fun m g _ => Cert.Kernel2Ideal.Gen.frame m g,
    Out.ref_quiescent,
    fun m g _ => Cert.Kernel3.Gen.frame m g,
    fun m g _ => Cert.Kernel3Ideal.Gen.frame m g,
    Mid.ref_quiescent,
    fun m g _ => Cert.Kernel4.Gen.frame m g,
    fun m g _ => Cert.Kernel4Ideal.Gen.frame m g,
    Qkv.ref_quiescent,
    fun m g _ => Cert.Kernel5.Gen.frame m g,
    fun m g _ => Cert.Kernel5Ideal.Gen.frame m g,
    fun m g _ => Cert.Kernel5Ideal.Gen.frame m g,
    fun m g _ => Attn.ref_quiescent m g trivial,
    fun m g _ => Attn.ref_quiescent m g trivial,
    trivial,
    value,
    trivial,
    Out.value,
    trivial,
    Mid.value,
    trivial,
    Qkv.value,
    trivial,
    Attn.value⟩

end Cert.Proof

end
